-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Lut (m : (ℓ : Loc Cert.Lut.nD Cert.Lut.τ Cert.Lut.sig) → Buf (Elt Bits) ℓ) : Prop :=
  True

def Pre_LutIdeal (m : (ℓ : Loc Cert.LutIdeal.nD Cert.LutIdeal.τ Cert.LutIdeal.sig) → Buf (Elt Ideal) ℓ) : Prop :=
  True

def Pre_Attn [hPre_in_range : Cert.Pre_in_range.Facts] (m : (ℓ : Loc Cert.Attn.nD Cert.Attn.τ Cert.Attn.sig) → Buf (Elt Bits) ℓ) : Prop :=
  ∀ c : Dev Cert.Attn.nD,
    (Cert.Pre_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3))) = (fun _ => 1#1)

def Pre_AttnIdeal [hPre_in_range : Cert.Pre_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Lut [hLut : Cert.Lut.Facts] : Prop :=
  ∀ (m : (ℓ : Loc Cert.Lut.nD Cert.Lut.τ Cert.Lut.sig) → Buf (Elt Bits) ℓ) (g : Dev Cert.Lut.nD → PrngReg), Pre_Lut m →
    θ_run (Cert.Lut.defs (F := Bits)) (onTc (τ := Cert.Lut.τ) (Cert.Lut.main (F := Bits))) ⟨m, fun _ => 0, g⟩ (fun r => (∀ c : Dev Cert.Lut.nD,
      r.2.mem ((c.tc : Thread Cert.Lut.nD Cert.Lut.τ).loc Cert.Lut.main_arg0) = m ((c.tc : Thread Cert.Lut.nD Cert.Lut.τ).loc Cert.Lut.main_arg0)
      ∧ r.2.mem ((c.tc : Thread Cert.Lut.nD Cert.Lut.τ).loc Cert.Lut.main_arg1) = m ((c.tc : Thread Cert.Lut.nD Cert.Lut.τ).loc Cert.Lut.main_arg1))
      ∧ r.2.sem = fun _ => 0)

def quiescent_LutIdeal [hLutIdeal : Cert.LutIdeal.Facts] : Prop :=
  ∀ (m : (ℓ : Loc Cert.LutIdeal.nD Cert.LutIdeal.τ Cert.LutIdeal.sig) → Buf (Elt Ideal) ℓ) (g : Dev Cert.LutIdeal.nD → PrngReg), Pre_LutIdeal m →
    θ_run (Cert.LutIdeal.defs (F := Ideal)) (onTc (τ := Cert.LutIdeal.τ) (Cert.LutIdeal.main (F := Ideal))) ⟨m, fun _ => 0, g⟩ (fun r => (∀ c : Dev Cert.LutIdeal.nD,
      r.2.mem ((c.tc : Thread Cert.LutIdeal.nD Cert.LutIdeal.τ).loc Cert.LutIdeal.main_arg0) = m ((c.tc : Thread Cert.LutIdeal.nD Cert.LutIdeal.τ).loc Cert.LutIdeal.main_arg0)
      ∧ r.2.mem ((c.tc : Thread Cert.LutIdeal.nD Cert.LutIdeal.τ).loc Cert.LutIdeal.main_arg1) = m ((c.tc : Thread Cert.LutIdeal.nD Cert.LutIdeal.τ).loc Cert.LutIdeal.main_arg1))
      ∧ r.2.sem = fun _ => 0)

def quiescent_Attn [hAttn : Cert.Attn.Facts] [hPre_in_range : Cert.Pre_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] [hPre_in_range : Cert.Pre_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Lut_LutIdeal : Prop :=
  True

def preserves_Attn_AttnIdeal : Prop :=
  True

def Claim : Prop :=
  ∃ (hKernelIdeal : Cert.KernelIdeal.Facts) (hReferenceIdeal : Cert.ReferenceIdeal.Facts) (hLut : Cert.Lut.Facts) (hLutIdeal : Cert.LutIdeal.Facts) (hAttn : Cert.Attn.Facts) (hAttnIdeal : Cert.AttnIdeal.Facts) (hPre_finite : Cert.Pre_finite.Facts) (hPre_in_range : Cert.Pre_in_range.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Lut (hLut := hLut)
    ∧ quiescent_LutIdeal (hLutIdeal := hLutIdeal)
    ∧ quiescent_Attn (hAttn := hAttn) (hPre_in_range := hPre_in_range)
    ∧ quiescent_AttnIdeal (hAttnIdeal := hAttnIdeal) (hPre_in_range := hPre_in_range)
    ∧ algebraic_KernelIdeal_ReferenceIdeal_pre_finite (hKernelIdeal := hKernelIdeal) (hReferenceIdeal := hReferenceIdeal) (hPre_finite := hPre_finite)
    ∧ preserves_Lut_LutIdeal
    ∧ preserves_Attn_AttnIdeal
-- ==== Pre_finite.lean ====
abbrev S2x4096x16x64 : Shape := ⟨4, ![2, 4096, 16, 64]⟩
abbrev S64x64 : Shape := ⟨2, ![64, 64]⟩
abbrev S64 : Shape := ⟨1, ![64]⟩
abbrev S_ : Shape := ⟨0, ![]⟩

class Facts : Prop where
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2x4096x16x64 .f32) (main_arg1 : FVec F S2x4096x16x64 .f32) (main_arg2 : FVec F S2x4096x16x64 .f32) (main_arg3 : FVec F S64x64 .f32) (main_arg4 : FVec F S64 .f32) : IVec S_ 1 :=
  let main_v0 : FVec F S2x4096x16x64 .f32 := Host.absf main_arg0
  let main_cst : FVec F S_ .f32 := constant S_ .f32 0x7F800000#32
  let main_v1 : FVec F S2x4096x16x64 .f32 := broadcastInDim S2x4096x16x64 ![] bcast_S_S2x4096x16x64 main_cst
  let main_v2 : IVec S2x4096x16x64 1 := cmpf .olt main_v0 main_v1
  let main_c : IVec S_ 1 := constantI S_ 1 1#1
  let main_v3 : IVec S_ 1 := (fun x v => Host.reduce IntOp.andi x v reducesTo_S2x4096x16x64_S_d0_1_2_3 h_S_) main_v2 main_c
  let main_v4 : FVec F S2x4096x16x64 .f32 := Host.absf main_arg1
  let main_cst_0 : FVec F S_ .f32 := constant S_ .f32 0x7F800000#32
  let main_v5 : FVec F S2x4096x16x64 .f32 := broadcastInDim S2x4096x16x64 ![] bcast_S_S2x4096x16x64 main_cst_0
  let main_v6 : IVec S2x4096x16x64 1 := cmpf .olt main_v4 main_v5
  let main_c_1 : IVec S_ 1 := constantI S_ 1 1#1
  let main_v7 : IVec S_ 1 := (fun x v => Host.reduce IntOp.andi x v reducesTo_S2x4096x16x64_S_d0_1_2_3 h_S_) main_v6 main_c_1
  let main_v8 : IVec S_ 1 := andi main_v3 main_v7
  let main_cst_2 : FVec F S_ .f32 := constant S_ .f32 0x00000000#32
  let main_v9 : FVec F S64x64 .f32 := broadcastInDim S64x64 ![] bcast_S_S64x64 main_cst_2
  let main_v10 : IVec S64x64 1 := cmpf .oeq main_arg3 main_v9
  let main_c_3 : IVec S_ 1 := constantI S_ 1 1#1
  let main_v11 : IVec S_ 1 := (fun x v => Host.reduce IntOp.andi x v reducesTo_S64x64_S_d0_1 h_S_) main_v10 main_c_3
  let main_v12 : IVec S_ 1 := andi main_v8 main_v11
  let main_cst_4 : FVec F S_ .f32 := constant S_ .f32 0x00000000#32
  let main_v13 : FVec F S64 .f32 := broadcastInDim S64 ![] bcast_S_S64 main_cst_4
  let main_v14 : IVec S64 1 := cmpf .oeq main_arg4 main_v13
  let main_c_5 : IVec S_ 1 := constantI S_ 1 1#1
  let main_v15 : IVec S_ 1 := (fun x v => Host.reduce IntOp.andi x v reducesTo_S64_S_d0 h_S_) main_v14 main_c_5
  fn_part1 (F := F) main_v12 main_v15
-- ==== Pre_in_range.lean ====
abbrev S2x16x8x64 : Shape := ⟨4, ![2, 16, 8, 64]⟩
abbrev S2x4096x1024 : Shape := ⟨3, ![2, 4096, 1024]⟩
abbrev S_ : Shape := ⟨0, ![]⟩

class Facts : Prop where
  bcast_S_S2x16x8x64 : S_.BroadcastsInDim S2x16x8x64 (![] : Fin 0 → Fin S2x16x8x64.rank)
  reducesTo_S2x16x8x64_S_d0_1_2_3 : S2x16x8x64.ReducesTo [0, 1, 2, 3] S_
  h_S_ : 0 < S_.numel

variable [Facts]

def fn {F : FTy → Type} [FloatOps F] (main_arg0 : IVec S2x16x8x64 32) (main_arg1 : FVec F S2x4096x1024 .f32) (main_arg2 : FVec F S2x4096x1024 .f32) (main_arg3 : FVec F S2x4096x1024 .f32) : IVec S_ 1 :=
  let main_c : IVec S_ 32 := constantI S_ 32 0#32
  let main_v0 : IVec S2x16x8x64 32 := broadcastInDim S2x16x8x64 ![] bcast_S_S2x16x8x64 main_c
  let main_v1 : IVec S2x16x8x64 1 := cmpi .sge main_arg0 main_v0
  let main_c_0 : IVec S_ 32 := constantI S_ 32 64#32
  let main_v2 : IVec S2x16x8x64 32 := broadcastInDim S2x16x8x64 ![] bcast_S_S2x16x8x64 main_c_0
  let main_v3 : IVec S2x16x8x64 1 := cmpi .slt main_arg0 main_v2
  let main_v4 : IVec S2x16x8x64 1 := andi main_v1 main_v3
  let main_c_1 : IVec S_ 1 := constantI S_ 1 1#1
  let main_v5 : IVec S_ 1 := (fun x v => Host.reduce IntOp.andi x v reducesTo_S2x16x8x64_S_d0_1_2_3 h_S_) main_v4 main_c_1
  main_v5
-- ==== KernelIdeal.lean ====
abbrev S2x4096x16x64 : Shape := ⟨4, ![2, 4096, 16, 64]⟩
abbrev S64x64 : Shape := ⟨2, ![64, 64]⟩
abbrev S64 : Shape := ⟨1, ![64]⟩
abbrev S2x4096x1024 : Shape := ⟨3, ![2, 4096, 1024]⟩
abbrev S2x16x8x64 : Shape := ⟨4, ![2, 16, 8, 64]⟩
abbrev S1x4096x128 : Shape := ⟨3, ![1, 4096, 128]⟩
abbrev S1x2x8x64 : Shape := ⟨4, ![1, 2, 8, 64]⟩
abbrev S4096x128 : Shape := ⟨2, ![4096, 128]⟩
abbrev S64x64x128 : Shape := ⟨3, ![64, 64, 128]⟩
abbrev S64x128 : Shape := ⟨2, ![64, 128]⟩
abbrev S64x1 : Shape := ⟨2, ![64, 1]⟩
abbrev S1x1x1x64 : Shape := ⟨4, ![1, 1, 1, 64]⟩
abbrev S2x4096x64 : Shape := ⟨3, ![2, 4096, 64]⟩
abbrev S1x4096x64 : Shape := ⟨3, ![1, 4096, 64]⟩
abbrev S4096x64 : Shape := ⟨2, ![4096, 64]⟩
abbrev S1x64x128 : Shape := ⟨3, ![1, 64, 128]⟩
abbrev S1x1x1x1 : Shape := ⟨4, ![1, 1, 1, 1]⟩
abbrev S1x64x64 : Shape := ⟨3, ![1, 64, 64]⟩
abbrev S512x64 : Shape := ⟨2, ![512, 64]⟩
abbrev S64x512 : Shape := ⟨2, ![64, 512]⟩

abbrev nBuf : Space → Nat
  | .hbm => 11
  | .vmem => 16
  | .smem => 2
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S64x64, .f32⟩
  | .hbm, ⟨4, _⟩ => ⟨S64, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x16x8x64, .i32⟩
  | .hbm, ⟨9, _⟩ => ⟨S2x4096x1024, .f32⟩
  | .hbm, ⟨10, _⟩ => ⟨S2x4096x16x64, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x2x8x64, .i32⟩
  | .local _ .vmem, ⟨5, _⟩ => ⟨S1x2x8x64, .i32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S2x4096x64, .bf16⟩
  | .local _ .vmem, ⟨15, _⟩ => ⟨S2x4096x64, .bf16⟩
  | .local _ .smem, ⟨0, _⟩ => ⟨S1x2x8x64, .i32⟩
  | .local _ .smem, ⟨1, _⟩ => ⟨S1x2x8x64, .i32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x8x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_off1 (v30 : BitVec 32) : Fin 3 → Nat :=
  let c0_28 : Index := 0#32
  let c64_i32 : BitVec 32 := 64#32
  let v31 : BitVec 32 := Scalar.muli v30 c64_i32
  let v32 : Index := Scalar.indexCast v31
  let c0_29 : Index := 0#32
  ![0, v32.toNat, 0]

def k1_chk1 (v30 : BitVec 32) : Prop :=
  (∀ a, (k1_off1 v30) a + S1x64x64.size a ≤ S2x4096x64.size a)
theorem k1_off1_inb : ∀ (v30 : BitVec 32) (k1_hw1 : k1_chk1 v30), ∀ a, (k1_off1 v30) a + S1x64x64.size a ≤ S2x4096x64.size a := fun v30 k1_hw1 => k1_hw1

def k1_off2 (v35 : BitVec 32) : Fin 3 → Nat :=
  let c0_35 : Index := 0#32
  let c64_i32_34 : BitVec 32 := 64#32
  let v36 : BitVec 32 := Scalar.muli v35 c64_i32_34
  let v37 : Index := Scalar.indexCast v36
  let c0_36 : Index := 0#32
  ![0, v37.toNat, 0]

def k1_chk2 (v35 : BitVec 32) : Prop :=
  (∀ a, (k1_off2 v35) a + S1x64x64.size a ≤ S2x4096x64.size a)
theorem k1_off2_inb : ∀ (v35 : BitVec 32) (k1_hw2 : k1_chk2 v35), ∀ a, (k1_off2 v35) a + S1x64x64.size a ≤ S2x4096x64.size a := fun v35 k1_hw2 => k1_hw2

def k1_off3 (v40 : BitVec 32) : Fin 3 → Nat :=
  let c0_41 : Index := 0#32
  let c64_i32_40 : BitVec 32 := 64#32
  let v41 : BitVec 32 := Scalar.muli v40 c64_i32_40
  let v42 : Index := Scalar.indexCast v41
  let c0_42 : Index := 0#32
  ![0, v42.toNat, 0]

def k1_chk3 (v40 : BitVec 32) : Prop :=
  (∀ a, (k1_off3 v40) a + S1x64x64.size a ≤ S2x4096x64.size a)
theorem k1_off3_inb : ∀ (v40 : BitVec 32) (k1_hw3 : k1_chk3 v40), ∀ a, (k1_off3 v40) a + S1x64x64.size a ≤ S2x4096x64.size a := fun v40 k1_hw3 => k1_hw3

def k1_off4 (v45 : BitVec 32) : Fin 3 → Nat :=
  let c0_47 : Index := 0#32
  let c64_i32_46 : BitVec 32 := 64#32
  let v46 : BitVec 32 := Scalar.muli v45 c64_i32_46
  let v47 : Index := Scalar.indexCast v46
  let c0_48 : Index := 0#32
  ![0, v47.toNat, 0]

def k1_chk4 (v45 : BitVec 32) : Prop :=
  (∀ a, (k1_off4 v45) a + S1x64x64.size a ≤ S2x4096x64.size a)
theorem k1_off4_inb : ∀ (v45 : BitVec 32) (k1_hw4 : k1_chk4 v45), ∀ a, (k1_off4 v45) a + S1x64x64.size a ≤ S2x4096x64.size a := fun v45 k1_hw4 => k1_hw4

def k1_off5 (v50 : BitVec 32) : Fin 3 → Nat :=
  let c0_53 : Index := 0#32
  let c64_i32_52 : BitVec 32 := 64#32
  let v51 : BitVec 32 := Scalar.muli v50 c64_i32_52
  let v52 : Index := Scalar.indexCast v51
  let c0_54 : Index := 0#32
  ![0, v52.toNat, 0]

def k1_chk5 (v50 : BitVec 32) : Prop :=
  (∀ a, (k1_off5 v50) a + S1x64x64.size a ≤ S2x4096x64.size a)
theorem k1_off5_inb : ∀ (v50 : BitVec 32) (k1_hw5 : k1_chk5 v50), ∀ a, (k1_off5 v50) a + S1x64x64.size a ≤ S2x4096x64.size a := fun v50 k1_hw5 => k1_hw5

def k1_off6 (v55 : BitVec 32) : Fin 3 → Nat :=
  let c0_59 : Index := 0#32
  let c64_i32_58 : BitVec 32 := 64#32
  let v56 : BitVec 32 := Scalar.muli v55 c64_i32_58
  let v57 : Index := Scalar.indexCast v56
  let c0_60 : Index := 0#32
  ![0, v57.toNat, 0]

def k1_chk6 (v55 : BitVec 32) : Prop :=
  (∀ a, (k1_off6 v55) a + S1x64x64.size a ≤ S2x4096x64.size a)
theorem k1_off6_inb : ∀ (v55 : BitVec 32) (k1_hw6 : k1_chk6 v55), ∀ a, (k1_off6 v55) a + S1x64x64.size a ≤ S2x4096x64.size a := fun v55 k1_hw6 => k1_hw6

def k1_off7 (v60 : BitVec 32) : Fin 3 → Nat :=
  let c0_65 : Index := 0#32
  let c64_i32_64 : BitVec 32 := 64#32
  let v61 : BitVec 32 := Scalar.muli v60 c64_i32_64
  let v62 : Index := Scalar.indexCast v61
  let c0_66 : Index := 0#32
  ![0, v62.toNat, 0]

def k1_chk7 (v60 : BitVec 32) : Prop :=
  (∀ a, (k1_off7 v60) a + S1x64x64.size a ≤ S2x4096x64.size a)
theorem k1_off7_inb : ∀ (v60 : BitVec 32) (k1_hw7 : k1_chk7 v60), ∀ a, (k1_off7 v60) a + S1x64x64.size a ≤ S2x4096x64.size a := fun v60 k1_hw7 => k1_hw7

def k1_off8 (v65 : BitVec 32) : Fin 3 → Nat :=
  let c0_71 : Index := 0#32
  let c64_i32_70 : BitVec 32 := 64#32
  let v66 : BitVec 32 := Scalar.muli v65 c64_i32_70
  let v67 : Index := Scalar.indexCast v66
  let c0_72 : Index := 0#32
  ![0, v67.toNat, 0]

def k1_chk8 (v65 : BitVec 32) : Prop :=
  (∀ a, (k1_off8 v65) a + S1x64x64.size a ≤ S2x4096x64.size a)
theorem k1_off8_inb : ∀ (v65 : BitVec 32) (k1_hw8 : k1_chk8 v65), ∀ a, (k1_off8 v65) a + S1x64x64.size a ≤ S2x4096x64.size a := fun v65 k1_hw8 => k1_hw8

def k1_off9 (v73 : BitVec 32) : Fin 3 → Nat :=
  let c1_79 : Index := 1#32
  let c64_i32_78 : BitVec 32 := 64#32
  let v74 : BitVec 32 := Scalar.muli v73 c64_i32_78
  let v75 : Index := Scalar.indexCast v74
  let c0_80 : Index := 0#32
  ![1, v75.toNat, 0]

def k1_chk9 (v73 : BitVec 32) : Prop :=
  (∀ a, (k1_off9 v73) a + S1x64x64.size a ≤ S2x4096x64.size a)
theorem k1_off9_inb : ∀ (v73 : BitVec 32) (k1_hw9 : k1_chk9 v73), ∀ a, (k1_off9 v73) a + S1x64x64.size a ≤ S2x4096x64.size a := fun v73 k1_hw9 => k1_hw9

def k1_off10 (v78 : BitVec 32) : Fin 3 → Nat :=
  let c1_86 : Index := 1#32
  let c64_i32_85 : BitVec 32 := 64#32
  let v79 : BitVec 32 := Scalar.muli v78 c64_i32_85
  let v80 : Index := Scalar.indexCast v79
  let c0_87 : Index := 0#32
  ![1, v80.toNat, 0]

def k1_chk10 (v78 : BitVec 32) : Prop :=
  (∀ a, (k1_off10 v78) a + S1x64x64.size a ≤ S2x4096x64.size a)
theorem k1_off10_inb : ∀ (v78 : BitVec 32) (k1_hw10 : k1_chk10 v78), ∀ a, (k1_off10 v78) a + S1x64x64.size a ≤ S2x4096x64.size a := fun v78 k1_hw10 => k1_hw10

def k1_off11 (v83 : BitVec 32) : Fin 3 → Nat :=
  let c1_93 : Index := 1#32
  let c64_i32_92 : BitVec 32 := 64#32
  let v84 : BitVec 32 := Scalar.muli v83 c64_i32_92
  let v85 : Index := Scalar.indexCast v84
  let c0_94 : Index := 0#32
  ![1, v85.toNat, 0]

def k1_chk11 (v83 : BitVec 32) : Prop :=
  (∀ a, (k1_off11 v83) a + S1x64x64.size a ≤ S2x4096x64.size a)
theorem k1_off11_inb : ∀ (v83 : BitVec 32) (k1_hw11 : k1_chk11 v83), ∀ a, (k1_off11 v83) a + S1x64x64.size a ≤ S2x4096x64.size a := fun v83 k1_hw11 => k1_hw11

def k1_off12 (v88 : BitVec 32) : Fin 3 → Nat :=
  let c1_100 : Index := 1#32
  let c64_i32_99 : BitVec 32 := 64#32
  let v89 : BitVec 32 := Scalar.muli v88 c64_i32_99
  let v90 : Index := Scalar.indexCast v89
  let c0_101 : Index := 0#32
  ![1, v90.toNat, 0]

def k1_chk12 (v88 : BitVec 32) : Prop :=
  (∀ a, (k1_off12 v88) a + S1x64x64.size a ≤ S2x4096x64.size a)
theorem k1_off12_inb : ∀ (v88 : BitVec 32) (k1_hw12 : k1_chk12 v88), ∀ a, (k1_off12 v88) a + S1x64x64.size a ≤ S2x4096x64.size a := fun v88 k1_hw12 => k1_hw12

def k1_off13 (v93 : BitVec 32) : Fin 3 → Nat :=
  let c1_107 : Index := 1#32
  let c64_i32_106 : BitVec 32 := 64#32
  let v94 : BitVec 32 := Scalar.muli v93 c64_i32_106
  let v95 : Index := Scalar.indexCast v94
  let c0_108 : Index := 0#32
  ![1, v95.toNat, 0]

def k1_chk13 (v93 : BitVec 32) : Prop :=
  (∀ a, (k1_off13 v93) a + S1x64x64.size a ≤ S2x4096x64.size a)
theorem k1_off13_inb : ∀ (v93 : BitVec 32) (k1_hw13 : k1_chk13 v93), ∀ a, (k1_off13 v93) a + S1x64x64.size a ≤ S2x4096x64.size a := fun v93 k1_hw13 => k1_hw13

def k1_off14 (v98 : BitVec 32) : Fin 3 → Nat :=
  let c1_114 : Index := 1#32
  let c64_i32_113 : BitVec 32 := 64#32
  let v99 : BitVec 32 := Scalar.muli v98 c64_i32_113
  let v100 : Index := Scalar.indexCast v99
  let c0_115 : Index := 0#32
  ![1, v100.toNat, 0]

def k1_chk14 (v98 : BitVec 32) : Prop :=
  (∀ a, (k1_off14 v98) a + S1x64x64.size a ≤ S2x4096x64.size a)
theorem k1_off14_inb : ∀ (v98 : BitVec 32) (k1_hw14 : k1_chk14 v98), ∀ a, (k1_off14 v98) a + S1x64x64.size a ≤ S2x4096x64.size a := fun v98 k1_hw14 => k1_hw14

def k1_off15 (v103 : BitVec 32) : Fin 3 → Nat :=
  let c1_121 : Index := 1#32
  let c64_i32_120 : BitVec 32 := 64#32
  let v104 : BitVec 32 := Scalar.muli v103 c64_i32_120
  let v105 : Index := Scalar.indexCast v104
  let c0_122 : Index := 0#32
  ![1, v105.toNat, 0]

def k1_chk15 (v103 : BitVec 32) : Prop :=
  (∀ a, (k1_off15 v103) a + S1x64x64.size a ≤ S2x4096x64.size a)
theorem k1_off15_inb : ∀ (v103 : BitVec 32) (k1_hw15 : k1_chk15 v103), ∀ a, (k1_off15 v103) a + S1x64x64.size a ≤ S2x4096x64.size a := fun v103 k1_hw15 => k1_hw15

def k1_off16 (v108 : BitVec 32) : Fin 3 → Nat :=
  let c1_128 : Index := 1#32
  let c64_i32_127 : BitVec 32 := 64#32
  let v109 : BitVec 32 := Scalar.muli v108 c64_i32_127
  let v110 : Index := Scalar.indexCast v109
  let c0_129 : Index := 0#32
  ![1, v110.toNat, 0]

def k1_chk16 (v108 : BitVec 32) : Prop :=
  (∀ a, (k1_off16 v108) a + S1x64x64.size a ≤ S2x4096x64.size a)
theorem k1_off16_inb : ∀ (v108 : BitVec 32) (k1_hw16 : k1_chk16 v108), ∀ a, (k1_off16 v108) a + S1x64x64.size a ≤ S2x4096x64.size a := fun v108 k1_hw16 => k1_hw16

@[reducible] def k1_t1_loop : Scf.Loop 32 :=
  let c1_i32 : BitVec 32 := 1#32
  let c63_i32 : BitVec 32 := 63#32
  let v123 : BitVec 32 := Scalar.addi c1_i32 c63_i32
  let c1_i32_133 : BitVec 32 := 1#32
  ⟨c1_i32, v123, c1_i32_133⟩
def k1_off17 (k1_t1 : Fin k1_t1_loop.trips) : Fin 3 → Nat :=
  let c0_251 : Index := 0#32
  let c1_i32 : BitVec 32 := 1#32
  let c1_i32_133 : BitVec 32 := 1#32
  let arg8 : BitVec 32 := Scf.iv c1_i32 c1_i32_133 k1_t1
  let c64_i32_250 : BitVec 32 := 64#32
  let v217 : BitVec 32 := Scalar.muli arg8 c64_i32_250
  let v218 : Index := Scalar.indexCast v217
  let c0_252 : Index := 0#32
  ![0, v218.toNat, 0]
def k1_off18 (k1_t1 : Fin k1_t1_loop.trips) : Fin 4 → Nat :=
  let c0_254 : Index := 0#32
  let c0_255 : Index := 0#32
  let c0_256 : Index := 0#32
  let c1_i32 : BitVec 32 := 1#32
  let c1_i32_133 : BitVec 32 := 1#32
  let arg8 : BitVec 32 := Scf.iv c1_i32 c1_i32_133 k1_t1
  let v225 : Index := Scalar.indexCast arg8
  ![0, 0, 0, v225.toNat]
def k1_off19 (v226 : BitVec 32) : Fin 3 → Nat :=
  let c0_258 : Index := 0#32
  let c64_i32_257 : BitVec 32 := 64#32
  let v227 : BitVec 32 := Scalar.muli v226 c64_i32_257
  let v228 : Index := Scalar.indexCast v227
  let c0_259 : Index := 0#32
  ![0, v228.toNat, 0]

def k1_chk17 (v226 : BitVec 32) : Prop :=
  (∀ a, (k1_off19 v226) a + S1x64x64.size a ≤ S2x4096x64.size a)
theorem k1_off19_inb : ∀ (v226 : BitVec 32) (k1_hw17 : k1_chk17 v226), ∀ a, (k1_off19 v226) a + S1x64x64.size a ≤ S2x4096x64.size a := fun v226 k1_hw17 => k1_hw17

def k1_off20 (k1_t1 : Fin k1_t1_loop.trips) : Fin 4 → Nat :=
  let c0_260 : Index := 0#32
  let c0_261 : Index := 0#32
  let c1_262 : Index := 1#32
  let c1_i32 : BitVec 32 := 1#32
  let c1_i32_133 : BitVec 32 := 1#32
  let arg8 : BitVec 32 := Scf.iv c1_i32 c1_i32_133 k1_t1
  let v231 : Index := Scalar.indexCast arg8
  ![0, 0, 1, v231.toNat]
def k1_off21 (v232 : BitVec 32) : Fin 3 → Nat :=
  let c0_264 : Index := 0#32
  let c64_i32_263 : BitVec 32 := 64#32
  let v233 : BitVec 32 := Scalar.muli v232 c64_i32_263
  let v234 : Index := Scalar.indexCast v233
  let c0_265 : Index := 0#32
  ![0, v234.toNat, 0]

def k1_chk18 (v232 : BitVec 32) : Prop :=
  (∀ a, (k1_off21 v232) a + S1x64x64.size a ≤ S2x4096x64.size a)
theorem k1_off21_inb : ∀ (v232 : BitVec 32) (k1_hw18 : k1_chk18 v232), ∀ a, (k1_off21 v232) a + S1x64x64.size a ≤ S2x4096x64.size a := fun v232 k1_hw18 => k1_hw18

def k1_off22 (k1_t1 : Fin k1_t1_loop.trips) : Fin 4 → Nat :=
  let c0_266 : Index := 0#32
  let c0_267 : Index := 0#32
  let c2_268 : Index := 2#32
  let c1_i32 : BitVec 32 := 1#32
  let c1_i32_133 : BitVec 32 := 1#32
  let arg8 : BitVec 32 := Scf.iv c1_i32 c1_i32_133 k1_t1
  let v237 : Index := Scalar.indexCast arg8
  ![0, 0, 2, v237.toNat]
def k1_off23 (v238 : BitVec 32) : Fin 3 → Nat :=
  let c0_270 : Index := 0#32
  let c64_i32_269 : BitVec 32 := 64#32
  let v239 : BitVec 32 := Scalar.muli v238 c64_i32_269
  let v240 : Index := Scalar.indexCast v239
  let c0_271 : Index := 0#32
  ![0, v240.toNat, 0]

def k1_chk19 (v238 : BitVec 32) : Prop :=
  (∀ a, (k1_off23 v238) a + S1x64x64.size a ≤ S2x4096x64.size a)
theorem k1_off23_inb : ∀ (v238 : BitVec 32) (k1_hw19 : k1_chk19 v238), ∀ a, (k1_off23 v238) a + S1x64x64.size a ≤ S2x4096x64.size a := fun v238 k1_hw19 => k1_hw19

def k1_off24 (k1_t1 : Fin k1_t1_loop.trips) : Fin 4 → Nat :=
  let c0_272 : Index := 0#32
  let c0_273 : Index := 0#32
  let c3_274 : Index := 3#32
  let c1_i32 : BitVec 32 := 1#32
  let c1_i32_133 : BitVec 32 := 1#32
  let arg8 : BitVec 32 := Scf.iv c1_i32 c1_i32_133 k1_t1
  let v243 : Index := Scalar.indexCast arg8
  ![0, 0, 3, v243.toNat]
def k1_off25 (v244 : BitVec 32) : Fin 3 → Nat :=
  let c0_276 : Index := 0#32
  let c64_i32_275 : BitVec 32 := 64#32
  let v245 : BitVec 32 := Scalar.muli v244 c64_i32_275
  let v246 : Index := Scalar.indexCast v245
  let c0_277 : Index := 0#32
  ![0, v246.toNat, 0]

def k1_chk20 (v244 : BitVec 32) : Prop :=
  (∀ a, (k1_off25 v244) a + S1x64x64.size a ≤ S2x4096x64.size a)
theorem k1_off25_inb : ∀ (v244 : BitVec 32) (k1_hw20 : k1_chk20 v244), ∀ a, (k1_off25 v244) a + S1x64x64.size a ≤ S2x4096x64.size a := fun v244 k1_hw20 => k1_hw20

def k1_off26 (k1_t1 : Fin k1_t1_loop.trips) : Fin 4 → Nat :=
  let c0_278 : Index := 0#32
  let c0_279 : Index := 0#32
  let c4_280 : Index := 4#32
  let c1_i32 : BitVec 32 := 1#32
  let c1_i32_133 : BitVec 32 := 1#32
  let arg8 : BitVec 32 := Scf.iv c1_i32 c1_i32_133 k1_t1
  let v249 : Index := Scalar.indexCast arg8
  ![0, 0, 4, v249.toNat]
def k1_off27 (v250 : BitVec 32) : Fin 3 → Nat :=
  let c0_282 : Index := 0#32
  let c64_i32_281 : BitVec 32 := 64#32
  let v251 : BitVec 32 := Scalar.muli v250 c64_i32_281
  let v252 : Index := Scalar.indexCast v251
  let c0_283 : Index := 0#32
  ![0, v252.toNat, 0]

def k1_chk21 (v250 : BitVec 32) : Prop :=
  (∀ a, (k1_off27 v250) a + S1x64x64.size a ≤ S2x4096x64.size a)
theorem k1_off27_inb : ∀ (v250 : BitVec 32) (k1_hw21 : k1_chk21 v250), ∀ a, (k1_off27 v250) a + S1x64x64.size a ≤ S2x4096x64.size a := fun v250 k1_hw21 => k1_hw21

def k1_off28 (k1_t1 : Fin k1_t1_loop.trips) : Fin 4 → Nat :=
  let c0_284 : Index := 0#32
  let c0_285 : Index := 0#32
  let c5_286 : Index := 5#32
  let c1_i32 : BitVec 32 := 1#32
  let c1_i32_133 : BitVec 32 := 1#32
  let arg8 : BitVec 32 := Scf.iv c1_i32 c1_i32_133 k1_t1
  let v255 : Index := Scalar.indexCast arg8
  ![0, 0, 5, v255.toNat]
def k1_off29 (v256 : BitVec 32) : Fin 3 → Nat :=
  let c0_288 : Index := 0#32
  let c64_i32_287 : BitVec 32 := 64#32
  let v257 : BitVec 32 := Scalar.muli v256 c64_i32_287
  let v258 : Index := Scalar.indexCast v257
  let c0_289 : Index := 0#32
  ![0, v258.toNat, 0]

def k1_chk22 (v256 : BitVec 32) : Prop :=
  (∀ a, (k1_off29 v256) a + S1x64x64.size a ≤ S2x4096x64.size a)
theorem k1_off29_inb : ∀ (v256 : BitVec 32) (k1_hw22 : k1_chk22 v256), ∀ a, (k1_off29 v256) a + S1x64x64.size a ≤ S2x4096x64.size a := fun v256 k1_hw22 => k1_hw22

def k1_off30 (k1_t1 : Fin k1_t1_loop.trips) : Fin 4 → Nat :=
  let c0_290 : Index := 0#32
  let c0_291 : Index := 0#32
  let c6_292 : Index := 6#32
  let c1_i32 : BitVec 32 := 1#32
  let c1_i32_133 : BitVec 32 := 1#32
  let arg8 : BitVec 32 := Scf.iv c1_i32 c1_i32_133 k1_t1
  let v261 : Index := Scalar.indexCast arg8
  ![0, 0, 6, v261.toNat]
def k1_off31 (v262 : BitVec 32) : Fin 3 → Nat :=
  let c0_294 : Index := 0#32
  let c64_i32_293 : BitVec 32 := 64#32
  let v263 : BitVec 32 := Scalar.muli v262 c64_i32_293
  let v264 : Index := Scalar.indexCast v263
  let c0_295 : Index := 0#32
  ![0, v264.toNat, 0]

def k1_chk23 (v262 : BitVec 32) : Prop :=
  (∀ a, (k1_off31 v262) a + S1x64x64.size a ≤ S2x4096x64.size a)
theorem k1_off31_inb : ∀ (v262 : BitVec 32) (k1_hw23 : k1_chk23 v262), ∀ a, (k1_off31 v262) a + S1x64x64.size a ≤ S2x4096x64.size a := fun v262 k1_hw23 => k1_hw23

def k1_off32 (k1_t1 : Fin k1_t1_loop.trips) : Fin 4 → Nat :=
  let c0_296 : Index := 0#32
  let c0_297 : Index := 0#32
  let c7_298 : Index := 7#32
  let c1_i32 : BitVec 32 := 1#32
  let c1_i32_133 : BitVec 32 := 1#32
  let arg8 : BitVec 32 := Scf.iv c1_i32 c1_i32_133 k1_t1
  let v267 : Index := Scalar.indexCast arg8
  ![0, 0, 7, v267.toNat]
def k1_off33 (v268 : BitVec 32) : Fin 3 → Nat :=
  let c0_300 : Index := 0#32
  let c64_i32_299 : BitVec 32 := 64#32
  let v269 : BitVec 32 := Scalar.muli v268 c64_i32_299
  let v270 : Index := Scalar.indexCast v269
  let c0_301 : Index := 0#32
  ![0, v270.toNat, 0]

def k1_chk24 (v268 : BitVec 32) : Prop :=
  (∀ a, (k1_off33 v268) a + S1x64x64.size a ≤ S2x4096x64.size a)
theorem k1_off33_inb : ∀ (v268 : BitVec 32) (k1_hw24 : k1_chk24 v268), ∀ a, (k1_off33 v268) a + S1x64x64.size a ≤ S2x4096x64.size a := fun v268 k1_hw24 => k1_hw24

def k1_off34 (k1_t1 : Fin k1_t1_loop.trips) : Fin 4 → Nat :=
  let c0_303 : Index := 0#32
  let c1_304 : Index := 1#32
  let c0_305 : Index := 0#32
  let c1_i32 : BitVec 32 := 1#32
  let c1_i32_133 : BitVec 32 := 1#32
  let arg8 : BitVec 32 := Scf.iv c1_i32 c1_i32_133 k1_t1
  let v276 : Index := Scalar.indexCast arg8
  ![0, 1, 0, v276.toNat]
def k1_off35 (v277 : BitVec 32) : Fin 3 → Nat :=
  let c1_307 : Index := 1#32
  let c64_i32_306 : BitVec 32 := 64#32
  let v278 : BitVec 32 := Scalar.muli v277 c64_i32_306
  let v279 : Index := Scalar.indexCast v278
  let c0_308 : Index := 0#32
  ![1, v279.toNat, 0]

def k1_chk25 (v277 : BitVec 32) : Prop :=
  (∀ a, (k1_off35 v277) a + S1x64x64.size a ≤ S2x4096x64.size a)
theorem k1_off35_inb : ∀ (v277 : BitVec 32) (k1_hw25 : k1_chk25 v277), ∀ a, (k1_off35 v277) a + S1x64x64.size a ≤ S2x4096x64.size a := fun v277 k1_hw25 => k1_hw25

def k1_off36 (k1_t1 : Fin k1_t1_loop.trips) : Fin 4 → Nat :=
  let c0_309 : Index := 0#32
  let c1_310 : Index := 1#32
  let c1_311 : Index := 1#32
  let c1_i32 : BitVec 32 := 1#32
  let c1_i32_133 : BitVec 32 := 1#32
  let arg8 : BitVec 32 := Scf.iv c1_i32 c1_i32_133 k1_t1
  let v282 : Index := Scalar.indexCast arg8
  ![0, 1, 1, v282.toNat]
def k1_off37 (v283 : BitVec 32) : Fin 3 → Nat :=
  let c1_313 : Index := 1#32
  let c64_i32_312 : BitVec 32 := 64#32
  let v284 : BitVec 32 := Scalar.muli v283 c64_i32_312
  let v285 : Index := Scalar.indexCast v284
  let c0_314 : Index := 0#32
  ![1, v285.toNat, 0]

def k1_chk26 (v283 : BitVec 32) : Prop :=
  (∀ a, (k1_off37 v283) a + S1x64x64.size a ≤ S2x4096x64.size a)
theorem k1_off37_inb : ∀ (v283 : BitVec 32) (k1_hw26 : k1_chk26 v283), ∀ a, (k1_off37 v283) a + S1x64x64.size a ≤ S2x4096x64.size a := fun v283 k1_hw26 => k1_hw26

def k1_off38 (k1_t1 : Fin k1_t1_loop.trips) : Fin 4 → Nat :=
  let c0_315 : Index := 0#32
  let c1_316 : Index := 1#32
  let c2_317 : Index := 2#32
  let c1_i32 : BitVec 32 := 1#32
  let c1_i32_133 : BitVec 32 := 1#32
  let arg8 : BitVec 32 := Scf.iv c1_i32 c1_i32_133 k1_t1
  let v288 : Index := Scalar.indexCast arg8
  ![0, 1, 2, v288.toNat]
def k1_off39 (v289 : BitVec 32) : Fin 3 → Nat :=
  let c1_319 : Index := 1#32
  let c64_i32_318 : BitVec 32 := 64#32
  let v290 : BitVec 32 := Scalar.muli v289 c64_i32_318
  let v291 : Index := Scalar.indexCast v290
  let c0_320 : Index := 0#32
  ![1, v291.toNat, 0]

def k1_chk27 (v289 : BitVec 32) : Prop :=
  (∀ a, (k1_off39 v289) a + S1x64x64.size a ≤ S2x4096x64.size a)
theorem k1_off39_inb : ∀ (v289 : BitVec 32) (k1_hw27 : k1_chk27 v289), ∀ a, (k1_off39 v289) a + S1x64x64.size a ≤ S2x4096x64.size a := fun v289 k1_hw27 => k1_hw27

def k1_off40 (k1_t1 : Fin k1_t1_loop.trips) : Fin 4 → Nat :=
  let c0_321 : Index := 0#32
  let c1_322 : Index := 1#32
  let c3_323 : Index := 3#32
  let c1_i32 : BitVec 32 := 1#32
  let c1_i32_133 : BitVec 32 := 1#32
  let arg8 : BitVec 32 := Scf.iv c1_i32 c1_i32_133 k1_t1
  let v294 : Index := Scalar.indexCast arg8
  ![0, 1, 3, v294.toNat]
def k1_off41 (v295 : BitVec 32) : Fin 3 → Nat :=
  let c1_325 : Index := 1#32
  let c64_i32_324 : BitVec 32 := 64#32
  let v296 : BitVec 32 := Scalar.muli v295 c64_i32_324
  let v297 : Index := Scalar.indexCast v296
  let c0_326 : Index := 0#32
  ![1, v297.toNat, 0]

def k1_chk28 (v295 : BitVec 32) : Prop :=
  (∀ a, (k1_off41 v295) a + S1x64x64.size a ≤ S2x4096x64.size a)
theorem k1_off41_inb : ∀ (v295 : BitVec 32) (k1_hw28 : k1_chk28 v295), ∀ a, (k1_off41 v295) a + S1x64x64.size a ≤ S2x4096x64.size a := fun v295 k1_hw28 => k1_hw28

def k1_off42 (k1_t1 : Fin k1_t1_loop.trips) : Fin 4 → Nat :=
  let c0_327 : Index := 0#32
  let c1_328 : Index := 1#32
  let c4_329 : Index := 4#32
  let c1_i32 : BitVec 32 := 1#32
  let c1_i32_133 : BitVec 32 := 1#32
  let arg8 : BitVec 32 := Scf.iv c1_i32 c1_i32_133 k1_t1
  let v300 : Index := Scalar.indexCast arg8
  ![0, 1, 4, v300.toNat]
def k1_off43 (v301 : BitVec 32) : Fin 3 → Nat :=
  let c1_331 : Index := 1#32
  let c64_i32_330 : BitVec 32 := 64#32
  let v302 : BitVec 32 := Scalar.muli v301 c64_i32_330
  let v303 : Index := Scalar.indexCast v302
  let c0_332 : Index := 0#32
  ![1, v303.toNat, 0]

def k1_chk29 (v301 : BitVec 32) : Prop :=
  (∀ a, (k1_off43 v301) a + S1x64x64.size a ≤ S2x4096x64.size a)
theorem k1_off43_inb : ∀ (v301 : BitVec 32) (k1_hw29 : k1_chk29 v301), ∀ a, (k1_off43 v301) a + S1x64x64.size a ≤ S2x4096x64.size a := fun v301 k1_hw29 => k1_hw29

def k1_off44 (k1_t1 : Fin k1_t1_loop.trips) : Fin 4 → Nat :=
  let c0_333 : Index := 0#32
  let c1_334 : Index := 1#32
  let c5_335 : Index := 5#32
  let c1_i32 : BitVec 32 := 1#32
  let c1_i32_133 : BitVec 32 := 1#32
  let arg8 : BitVec 32 := Scf.iv c1_i32 c1_i32_133 k1_t1
  let v306 : Index := Scalar.indexCast arg8
  ![0, 1, 5, v306.toNat]
def k1_off45 (v307 : BitVec 32) : Fin 3 → Nat :=
  let c1_337 : Index := 1#32
  let c64_i32_336 : BitVec 32 := 64#32
  let v308 : BitVec 32 := Scalar.muli v307 c64_i32_336
  let v309 : Index := Scalar.indexCast v308
  let c0_338 : Index := 0#32
  ![1, v309.toNat, 0]

def k1_chk30 (v307 : BitVec 32) : Prop :=
  (∀ a, (k1_off45 v307) a + S1x64x64.size a ≤ S2x4096x64.size a)
theorem k1_off45_inb : ∀ (v307 : BitVec 32) (k1_hw30 : k1_chk30 v307), ∀ a, (k1_off45 v307) a + S1x64x64.size a ≤ S2x4096x64.size a := fun v307 k1_hw30 => k1_hw30

def k1_off46 (k1_t1 : Fin k1_t1_loop.trips) : Fin 4 → Nat :=
  let c0_339 : Index := 0#32
  let c1_340 : Index := 1#32
  let c6_341 : Index := 6#32
  let c1_i32 : BitVec 32 := 1#32
  let c1_i32_133 : BitVec 32 := 1#32
  let arg8 : BitVec 32 := Scf.iv c1_i32 c1_i32_133 k1_t1
  let v312 : Index := Scalar.indexCast arg8
  ![0, 1, 6, v312.toNat]
def k1_off47 (v313 : BitVec 32) : Fin 3 → Nat :=
  let c1_343 : Index := 1#32
  let c64_i32_342 : BitVec 32 := 64#32
  let v314 : BitVec 32 := Scalar.muli v313 c64_i32_342
  let v315 : Index := Scalar.indexCast v314
  let c0_344 : Index := 0#32
  ![1, v315.toNat, 0]

def k1_chk31 (v313 : BitVec 32) : Prop :=
  (∀ a, (k1_off47 v313) a + S1x64x64.size a ≤ S2x4096x64.size a)
theorem k1_off47_inb : ∀ (v313 : BitVec 32) (k1_hw31 : k1_chk31 v313), ∀ a, (k1_off47 v313) a + S1x64x64.size a ≤ S2x4096x64.size a := fun v313 k1_hw31 => k1_hw31

def k1_off48 (k1_t1 : Fin k1_t1_loop.trips) : Fin 4 → Nat :=
  let c0_345 : Index := 0#32
  let c1_346 : Index := 1#32
  let c7_347 : Index := 7#32
  let c1_i32 : BitVec 32 := 1#32
  let c1_i32_133 : BitVec 32 := 1#32
  let arg8 : BitVec 32 := Scf.iv c1_i32 c1_i32_133 k1_t1
  let v318 : Index := Scalar.indexCast arg8
  ![0, 1, 7, v318.toNat]
def k1_off49 (v319 : BitVec 32) : Fin 3 → Nat :=
  let c1_349 : Index := 1#32
  let c64_i32_348 : BitVec 32 := 64#32
  let v320 : BitVec 32 := Scalar.muli v319 c64_i32_348
  let v321 : Index := Scalar.indexCast v320
  let c0_350 : Index := 0#32
  ![1, v321.toNat, 0]

def k1_chk32 (v319 : BitVec 32) : Prop :=
  (∀ a, (k1_off49 v319) a + S1x64x64.size a ≤ S2x4096x64.size a)
theorem k1_off49_inb : ∀ (v319 : BitVec 32) (k1_hw32 : k1_chk32 v319), ∀ a, (k1_off49 v319) a + S1x64x64.size a ≤ S2x4096x64.size a := fun v319 k1_hw32 => k1_hw32

def k1_off50 (k1_t1 : Fin k1_t1_loop.trips) : Fin 4 → Nat :=
  let c0_355 : Index := 0#32
  let c0_356 : Index := 0#32
  let c0_357 : Index := 0#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v335 : Index := Scalar.indexCast v334
  ![0, 0, 0, v335.toNat]
def k1_off51 (v336 : BitVec 32) : Fin 3 → Nat :=
  let c0_359 : Index := 0#32
  let c64_i32_358 : BitVec 32 := 64#32
  let v337 : BitVec 32 := Scalar.muli v336 c64_i32_358
  let v338 : Index := Scalar.indexCast v337
  let c0_360 : Index := 0#32
  ![0, v338.toNat, 0]

def k1_chk33 (v336 : BitVec 32) : Prop :=
  (∀ a, (k1_off51 v336) a + S1x64x64.size a ≤ S2x4096x64.size a)
theorem k1_off51_inb : ∀ (v336 : BitVec 32) (k1_hw33 : k1_chk33 v336), ∀ a, (k1_off51 v336) a + S1x64x64.size a ≤ S2x4096x64.size a := fun v336 k1_hw33 => k1_hw33

def k1_off52 (k1_t1 : Fin k1_t1_loop.trips) : Fin 4 → Nat :=
  let c0_361 : Index := 0#32
  let c0_362 : Index := 0#32
  let c1_363 : Index := 1#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v341 : Index := Scalar.indexCast v334
  ![0, 0, 1, v341.toNat]
def k1_off53 (v342 : BitVec 32) : Fin 3 → Nat :=
  let c0_365 : Index := 0#32
  let c64_i32_364 : BitVec 32 := 64#32
  let v343 : BitVec 32 := Scalar.muli v342 c64_i32_364
  let v344 : Index := Scalar.indexCast v343
  let c0_366 : Index := 0#32
  ![0, v344.toNat, 0]

def k1_chk34 (v342 : BitVec 32) : Prop :=
  (∀ a, (k1_off53 v342) a + S1x64x64.size a ≤ S2x4096x64.size a)
theorem k1_off53_inb : ∀ (v342 : BitVec 32) (k1_hw34 : k1_chk34 v342), ∀ a, (k1_off53 v342) a + S1x64x64.size a ≤ S2x4096x64.size a := fun v342 k1_hw34 => k1_hw34

def k1_off54 (k1_t1 : Fin k1_t1_loop.trips) : Fin 4 → Nat :=
  let c0_367 : Index := 0#32
  let c0_368 : Index := 0#32
  let c2_369 : Index := 2#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v347 : Index := Scalar.indexCast v334
  ![0, 0, 2, v347.toNat]
def k1_off55 (v348 : BitVec 32) : Fin 3 → Nat :=
  let c0_371 : Index := 0#32
  let c64_i32_370 : BitVec 32 := 64#32
  let v349 : BitVec 32 := Scalar.muli v348 c64_i32_370
  let v350 : Index := Scalar.indexCast v349
  let c0_372 : Index := 0#32
  ![0, v350.toNat, 0]

def k1_chk35 (v348 : BitVec 32) : Prop :=
  (∀ a, (k1_off55 v348) a + S1x64x64.size a ≤ S2x4096x64.size a)
theorem k1_off55_inb : ∀ (v348 : BitVec 32) (k1_hw35 : k1_chk35 v348), ∀ a, (k1_off55 v348) a + S1x64x64.size a ≤ S2x4096x64.size a := fun v348 k1_hw35 => k1_hw35

def k1_off56 (k1_t1 : Fin k1_t1_loop.trips) : Fin 4 → Nat :=
  let c0_373 : Index := 0#32
  let c0_374 : Index := 0#32
  let c3_375 : Index := 3#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v353 : Index := Scalar.indexCast v334
  ![0, 0, 3, v353.toNat]
def k1_off57 (v354 : BitVec 32) : Fin 3 → Nat :=
  let c0_377 : Index := 0#32
  let c64_i32_376 : BitVec 32 := 64#32
  let v355 : BitVec 32 := Scalar.muli v354 c64_i32_376
  let v356 : Index := Scalar.indexCast v355
  let c0_378 : Index := 0#32
  ![0, v356.toNat, 0]

def k1_chk36 (v354 : BitVec 32) : Prop :=
  (∀ a, (k1_off57 v354) a + S1x64x64.size a ≤ S2x4096x64.size a)
theorem k1_off57_inb : ∀ (v354 : BitVec 32) (k1_hw36 : k1_chk36 v354), ∀ a, (k1_off57 v354) a + S1x64x64.size a ≤ S2x4096x64.size a := fun v354 k1_hw36 => k1_hw36

def k1_off58 (k1_t1 : Fin k1_t1_loop.trips) : Fin 4 → Nat :=
  let c0_379 : Index := 0#32
  let c0_380 : Index := 0#32
  let c4_381 : Index := 4#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v359 : Index := Scalar.indexCast v334
  ![0, 0, 4, v359.toNat]
def k1_off59 (v360 : BitVec 32) : Fin 3 → Nat :=
  let c0_383 : Index := 0#32
  let c64_i32_382 : BitVec 32 := 64#32
  let v361 : BitVec 32 := Scalar.muli v360 c64_i32_382
  let v362 : Index := Scalar.indexCast v361
  let c0_384 : Index := 0#32
  ![0, v362.toNat, 0]

def k1_chk37 (v360 : BitVec 32) : Prop :=
  (∀ a, (k1_off59 v360) a + S1x64x64.size a ≤ S2x4096x64.size a)
theorem k1_off59_inb : ∀ (v360 : BitVec 32) (k1_hw37 : k1_chk37 v360), ∀ a, (k1_off59 v360) a + S1x64x64.size a ≤ S2x4096x64.size a := fun v360 k1_hw37 => k1_hw37

def k1_off60 (k1_t1 : Fin k1_t1_loop.trips) : Fin 4 → Nat :=
  let c0_385 : Index := 0#32
  let c0_386 : Index := 0#32
  let c5_387 : Index := 5#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v365 : Index := Scalar.indexCast v334
  ![0, 0, 5, v365.toNat]
def k1_off61 (v366 : BitVec 32) : Fin 3 → Nat :=
  let c0_389 : Index := 0#32
  let c64_i32_388 : BitVec 32 := 64#32
  let v367 : BitVec 32 := Scalar.muli v366 c64_i32_388
  let v368 : Index := Scalar.indexCast v367
  let c0_390 : Index := 0#32
  ![0, v368.toNat, 0]

def k1_chk38 (v366 : BitVec 32) : Prop :=
  (∀ a, (k1_off61 v366) a + S1x64x64.size a ≤ S2x4096x64.size a)
theorem k1_off61_inb : ∀ (v366 : BitVec 32) (k1_hw38 : k1_chk38 v366), ∀ a, (k1_off61 v366) a + S1x64x64.size a ≤ S2x4096x64.size a := fun v366 k1_hw38 => k1_hw38

def k1_off62 (k1_t1 : Fin k1_t1_loop.trips) : Fin 4 → Nat :=
  let c0_391 : Index := 0#32
  let c0_392 : Index := 0#32
  let c6_393 : Index := 6#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v371 : Index := Scalar.indexCast v334
  ![0, 0, 6, v371.toNat]
def k1_off63 (v372 : BitVec 32) : Fin 3 → Nat :=
  let c0_395 : Index := 0#32
  let c64_i32_394 : BitVec 32 := 64#32
  let v373 : BitVec 32 := Scalar.muli v372 c64_i32_394
  let v374 : Index := Scalar.indexCast v373
  let c0_396 : Index := 0#32
  ![0, v374.toNat, 0]

def k1_chk39 (v372 : BitVec 32) : Prop :=
  (∀ a, (k1_off63 v372) a + S1x64x64.size a ≤ S2x4096x64.size a)
theorem k1_off63_inb : ∀ (v372 : BitVec 32) (k1_hw39 : k1_chk39 v372), ∀ a, (k1_off63 v372) a + S1x64x64.size a ≤ S2x4096x64.size a := fun v372 k1_hw39 => k1_hw39

def k1_off64 (k1_t1 : Fin k1_t1_loop.trips) : Fin 4 → Nat :=
  let c0_397 : Index := 0#32
  let c0_398 : Index := 0#32
  let c7_399 : Index := 7#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v377 : Index := Scalar.indexCast v334
  ![0, 0, 7, v377.toNat]
def k1_off65 (v378 : BitVec 32) : Fin 3 → Nat :=
  let c0_401 : Index := 0#32
  let c64_i32_400 : BitVec 32 := 64#32
  let v379 : BitVec 32 := Scalar.muli v378 c64_i32_400
  let v380 : Index := Scalar.indexCast v379
  let c0_402 : Index := 0#32
  ![0, v380.toNat, 0]

def k1_chk40 (v378 : BitVec 32) : Prop :=
  (∀ a, (k1_off65 v378) a + S1x64x64.size a ≤ S2x4096x64.size a)
theorem k1_off65_inb : ∀ (v378 : BitVec 32) (k1_hw40 : k1_chk40 v378), ∀ a, (k1_off65 v378) a + S1x64x64.size a ≤ S2x4096x64.size a := fun v378 k1_hw40 => k1_hw40

def k1_off66 (k1_t1 : Fin k1_t1_loop.trips) : Fin 4 → Nat :=
  let c0_404 : Index := 0#32
  let c1_405 : Index := 1#32
  let c0_406 : Index := 0#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v387 : Index := Scalar.indexCast v334
  ![0, 1, 0, v387.toNat]
def k1_off67 (v388 : BitVec 32) : Fin 3 → Nat :=
  let c1_408 : Index := 1#32
  let c64_i32_407 : BitVec 32 := 64#32
  let v389 : BitVec 32 := Scalar.muli v388 c64_i32_407
  let v390 : Index := Scalar.indexCast v389
  let c0_409 : Index := 0#32
  ![1, v390.toNat, 0]

def k1_chk41 (v388 : BitVec 32) : Prop :=
  (∀ a, (k1_off67 v388) a + S1x64x64.size a ≤ S2x4096x64.size a)
theorem k1_off67_inb : ∀ (v388 : BitVec 32) (k1_hw41 : k1_chk41 v388), ∀ a, (k1_off67 v388) a + S1x64x64.size a ≤ S2x4096x64.size a := fun v388 k1_hw41 => k1_hw41

def k1_off68 (k1_t1 : Fin k1_t1_loop.trips) : Fin 4 → Nat :=
  let c0_410 : Index := 0#32
  let c1_411 : Index := 1#32
  let c1_412 : Index := 1#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v393 : Index := Scalar.indexCast v334
  ![0, 1, 1, v393.toNat]
def k1_off69 (v394 : BitVec 32) : Fin 3 → Nat :=
  let c1_414 : Index := 1#32
  let c64_i32_413 : BitVec 32 := 64#32
  let v395 : BitVec 32 := Scalar.muli v394 c64_i32_413
  let v396 : Index := Scalar.indexCast v395
  let c0_415 : Index := 0#32
  ![1, v396.toNat, 0]

def k1_chk42 (v394 : BitVec 32) : Prop :=
  (∀ a, (k1_off69 v394) a + S1x64x64.size a ≤ S2x4096x64.size a)
theorem k1_off69_inb : ∀ (v394 : BitVec 32) (k1_hw42 : k1_chk42 v394), ∀ a, (k1_off69 v394) a + S1x64x64.size a ≤ S2x4096x64.size a := fun v394 k1_hw42 => k1_hw42

def k1_off70 (k1_t1 : Fin k1_t1_loop.trips) : Fin 4 → Nat :=
  let c0_416 : Index := 0#32
  let c1_417 : Index := 1#32
  let c2_418 : Index := 2#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v399 : Index := Scalar.indexCast v334
  ![0, 1, 2, v399.toNat]
def k1_off71 (v400 : BitVec 32) : Fin 3 → Nat :=
  let c1_420 : Index := 1#32
  let c64_i32_419 : BitVec 32 := 64#32
  let v401 : BitVec 32 := Scalar.muli v400 c64_i32_419
  let v402 : Index := Scalar.indexCast v401
  let c0_421 : Index := 0#32
  ![1, v402.toNat, 0]

def k1_chk43 (v400 : BitVec 32) : Prop :=
  (∀ a, (k1_off71 v400) a + S1x64x64.size a ≤ S2x4096x64.size a)
theorem k1_off71_inb : ∀ (v400 : BitVec 32) (k1_hw43 : k1_chk43 v400), ∀ a, (k1_off71 v400) a + S1x64x64.size a ≤ S2x4096x64.size a := fun v400 k1_hw43 => k1_hw43

def k1_off72 (k1_t1 : Fin k1_t1_loop.trips) : Fin 4 → Nat :=
  let c0_422 : Index := 0#32
  let c1_423 : Index := 1#32
  let c3_424 : Index := 3#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v405 : Index := Scalar.indexCast v334
  ![0, 1, 3, v405.toNat]
def k1_off73 (v406 : BitVec 32) : Fin 3 → Nat :=
  let c1_426 : Index := 1#32
  let c64_i32_425 : BitVec 32 := 64#32
  let v407 : BitVec 32 := Scalar.muli v406 c64_i32_425
  let v408 : Index := Scalar.indexCast v407
  let c0_427 : Index := 0#32
  ![1, v408.toNat, 0]

def k1_chk44 (v406 : BitVec 32) : Prop :=
  (∀ a, (k1_off73 v406) a + S1x64x64.size a ≤ S2x4096x64.size a)
theorem k1_off73_inb : ∀ (v406 : BitVec 32) (k1_hw44 : k1_chk44 v406), ∀ a, (k1_off73 v406) a + S1x64x64.size a ≤ S2x4096x64.size a := fun v406 k1_hw44 => k1_hw44

def k1_off74 (k1_t1 : Fin k1_t1_loop.trips) : Fin 4 → Nat :=
  let c0_428 : Index := 0#32
  let c1_429 : Index := 1#32
  let c4_430 : Index := 4#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v411 : Index := Scalar.indexCast v334
  ![0, 1, 4, v411.toNat]
def k1_off75 (v412 : BitVec 32) : Fin 3 → Nat :=
  let c1_432 : Index := 1#32
  let c64_i32_431 : BitVec 32 := 64#32
  let v413 : BitVec 32 := Scalar.muli v412 c64_i32_431
  let v414 : Index := Scalar.indexCast v413
  let c0_433 : Index := 0#32
  ![1, v414.toNat, 0]

def k1_chk45 (v412 : BitVec 32) : Prop :=
  (∀ a, (k1_off75 v412) a + S1x64x64.size a ≤ S2x4096x64.size a)
theorem k1_off75_inb : ∀ (v412 : BitVec 32) (k1_hw45 : k1_chk45 v412), ∀ a, (k1_off75 v412) a + S1x64x64.size a ≤ S2x4096x64.size a := fun v412 k1_hw45 => k1_hw45

def k1_off76 (k1_t1 : Fin k1_t1_loop.trips) : Fin 4 → Nat :=
  let c0_434 : Index := 0#32
  let c1_435 : Index := 1#32
  let c5_436 : Index := 5#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v417 : Index := Scalar.indexCast v334
  ![0, 1, 5, v417.toNat]
def k1_off77 (v418 : BitVec 32) : Fin 3 → Nat :=
  let c1_438 : Index := 1#32
  let c64_i32_437 : BitVec 32 := 64#32
  let v419 : BitVec 32 := Scalar.muli v418 c64_i32_437
  let v420 : Index := Scalar.indexCast v419
  let c0_439 : Index := 0#32
  ![1, v420.toNat, 0]

def k1_chk46 (v418 : BitVec 32) : Prop :=
  (∀ a, (k1_off77 v418) a + S1x64x64.size a ≤ S2x4096x64.size a)
theorem k1_off77_inb : ∀ (v418 : BitVec 32) (k1_hw46 : k1_chk46 v418), ∀ a, (k1_off77 v418) a + S1x64x64.size a ≤ S2x4096x64.size a := fun v418 k1_hw46 => k1_hw46

def k1_off78 (k1_t1 : Fin k1_t1_loop.trips) : Fin 4 → Nat :=
  let c0_440 : Index := 0#32
  let c1_441 : Index := 1#32
  let c6_442 : Index := 6#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v423 : Index := Scalar.indexCast v334
  ![0, 1, 6, v423.toNat]
def k1_off79 (v424 : BitVec 32) : Fin 3 → Nat :=
  let c1_444 : Index := 1#32
  let c64_i32_443 : BitVec 32 := 64#32
  let v425 : BitVec 32 := Scalar.muli v424 c64_i32_443
  let v426 : Index := Scalar.indexCast v425
  let c0_445 : Index := 0#32
  ![1, v426.toNat, 0]

def k1_chk47 (v424 : BitVec 32) : Prop :=
  (∀ a, (k1_off79 v424) a + S1x64x64.size a ≤ S2x4096x64.size a)
theorem k1_off79_inb : ∀ (v424 : BitVec 32) (k1_hw47 : k1_chk47 v424), ∀ a, (k1_off79 v424) a + S1x64x64.size a ≤ S2x4096x64.size a := fun v424 k1_hw47 => k1_hw47

def k1_off80 (k1_t1 : Fin k1_t1_loop.trips) : Fin 4 → Nat :=
  let c0_446 : Index := 0#32
  let c1_447 : Index := 1#32
  let c7_448 : Index := 7#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let v429 : Index := Scalar.indexCast v334
  ![0, 1, 7, v429.toNat]
def k1_off81 (v430 : BitVec 32) : Fin 3 → Nat :=
  let c1_450 : Index := 1#32
  let c64_i32_449 : BitVec 32 := 64#32
  let v431 : BitVec 32 := Scalar.muli v430 c64_i32_449
  let v432 : Index := Scalar.indexCast v431
  let c0_451 : Index := 0#32
  ![1, v432.toNat, 0]

def k1_chk48 (v430 : BitVec 32) : Prop :=
  (∀ a, (k1_off81 v430) a + S1x64x64.size a ≤ S2x4096x64.size a)
theorem k1_off81_inb : ∀ (v430 : BitVec 32) (k1_hw48 : k1_chk48 v430), ∀ a, (k1_off81 v430) a + S1x64x64.size a ≤ S2x4096x64.size a := fun v430 k1_hw48 => k1_hw48

def k1_off82 (k1_t1 : Fin k1_t1_loop.trips) : Fin 3 → Nat :=
  let c0_454 : Index := 0#32
  let c1_i32 : BitVec 32 := 1#32
  let c1_i32_133 : BitVec 32 := 1#32
  let arg8 : BitVec 32 := Scf.iv c1_i32 c1_i32_133 k1_t1
  let c1_i32_354 : BitVec 32 := 1#32
  let v334 : BitVec 32 := Scalar.subi arg8 c1_i32_354
  let c64_i32_453 : BitVec 32 := 64#32
  let v440 : BitVec 32 := Scalar.muli v334 c64_i32_453
  let v441 : Index := Scalar.indexCast v440
  let c0_455 : Index := 0#32
  ![0, v441.toNat, 0]
def k1_off83 (v125 : BitVec 32) : Fin 3 → Nat :=
  let c0_139 : Index := 0#32
  let c64_i32_138 : BitVec 32 := 64#32
  let v126 : BitVec 32 := Scalar.muli v125 c64_i32_138
  let v127 : Index := Scalar.indexCast v126
  let c0_140 : Index := 0#32
  ![0, v127.toNat, 0]

def k1_chk49 (v125 : BitVec 32) : Prop :=
  (∀ a, (k1_off83 v125) a + S1x64x64.size a ≤ S2x4096x64.size a)
theorem k1_off83_inb : ∀ (v125 : BitVec 32) (k1_hw49 : k1_chk49 v125), ∀ a, (k1_off83 v125) a + S1x64x64.size a ≤ S2x4096x64.size a := fun v125 k1_hw49 => k1_hw49

def k1_off84 (v130 : BitVec 32) : Fin 3 → Nat :=
  let c0_146 : Index := 0#32
  let c64_i32_145 : BitVec 32 := 64#32
  let v131 : BitVec 32 := Scalar.muli v130 c64_i32_145
  let v132 : Index := Scalar.indexCast v131
  let c0_147 : Index := 0#32
  ![0, v132.toNat, 0]

def k1_chk50 (v130 : BitVec 32) : Prop :=
  (∀ a, (k1_off84 v130) a + S1x64x64.size a ≤ S2x4096x64.size a)
theorem k1_off84_inb : ∀ (v130 : BitVec 32) (k1_hw50 : k1_chk50 v130), ∀ a, (k1_off84 v130) a + S1x64x64.size a ≤ S2x4096x64.size a := fun v130 k1_hw50 => k1_hw50

def k1_off85 (v135 : BitVec 32) : Fin 3 → Nat :=
  let c0_153 : Index := 0#32
  let c64_i32_152 : BitVec 32 := 64#32
  let v136 : BitVec 32 := Scalar.muli v135 c64_i32_152
  let v137 : Index := Scalar.indexCast v136
  let c0_154 : Index := 0#32
  ![0, v137.toNat, 0]

def k1_chk51 (v135 : BitVec 32) : Prop :=
  (∀ a, (k1_off85 v135) a + S1x64x64.size a ≤ S2x4096x64.size a)
theorem k1_off85_inb : ∀ (v135 : BitVec 32) (k1_hw51 : k1_chk51 v135), ∀ a, (k1_off85 v135) a + S1x64x64.size a ≤ S2x4096x64.size a := fun v135 k1_hw51 => k1_hw51

def k1_off86 (v140 : BitVec 32) : Fin 3 → Nat :=
  let c0_160 : Index := 0#32
  let c64_i32_159 : BitVec 32 := 64#32
  let v141 : BitVec 32 := Scalar.muli v140 c64_i32_159
  let v142 : Index := Scalar.indexCast v141
  let c0_161 : Index := 0#32
  ![0, v142.toNat, 0]

def k1_chk52 (v140 : BitVec 32) : Prop :=
  (∀ a, (k1_off86 v140) a + S1x64x64.size a ≤ S2x4096x64.size a)
theorem k1_off86_inb : ∀ (v140 : BitVec 32) (k1_hw52 : k1_chk52 v140), ∀ a, (k1_off86 v140) a + S1x64x64.size a ≤ S2x4096x64.size a := fun v140 k1_hw52 => k1_hw52

def k1_off87 (v145 : BitVec 32) : Fin 3 → Nat :=
  let c0_167 : Index := 0#32
  let c64_i32_166 : BitVec 32 := 64#32
  let v146 : BitVec 32 := Scalar.muli v145 c64_i32_166
  let v147 : Index := Scalar.indexCast v146
  let c0_168 : Index := 0#32
  ![0, v147.toNat, 0]

def k1_chk53 (v145 : BitVec 32) : Prop :=
  (∀ a, (k1_off87 v145) a + S1x64x64.size a ≤ S2x4096x64.size a)
theorem k1_off87_inb : ∀ (v145 : BitVec 32) (k1_hw53 : k1_chk53 v145), ∀ a, (k1_off87 v145) a + S1x64x64.size a ≤ S2x4096x64.size a := fun v145 k1_hw53 => k1_hw53

def k1_off88 (v150 : BitVec 32) : Fin 3 → Nat :=
  let c0_174 : Index := 0#32
  let c64_i32_173 : BitVec 32 := 64#32
  let v151 : BitVec 32 := Scalar.muli v150 c64_i32_173
  let v152 : Index := Scalar.indexCast v151
  let c0_175 : Index := 0#32
  ![0, v152.toNat, 0]

def k1_chk54 (v150 : BitVec 32) : Prop :=
  (∀ a, (k1_off88 v150) a + S1x64x64.size a ≤ S2x4096x64.size a)
theorem k1_off88_inb : ∀ (v150 : BitVec 32) (k1_hw54 : k1_chk54 v150), ∀ a, (k1_off88 v150) a + S1x64x64.size a ≤ S2x4096x64.size a := fun v150 k1_hw54 => k1_hw54

def k1_off89 (v155 : BitVec 32) : Fin 3 → Nat :=
  let c0_181 : Index := 0#32
  let c64_i32_180 : BitVec 32 := 64#32
  let v156 : BitVec 32 := Scalar.muli v155 c64_i32_180
  let v157 : Index := Scalar.indexCast v156
  let c0_182 : Index := 0#32
  ![0, v157.toNat, 0]

def k1_chk55 (v155 : BitVec 32) : Prop :=
  (∀ a, (k1_off89 v155) a + S1x64x64.size a ≤ S2x4096x64.size a)
theorem k1_off89_inb : ∀ (v155 : BitVec 32) (k1_hw55 : k1_chk55 v155), ∀ a, (k1_off89 v155) a + S1x64x64.size a ≤ S2x4096x64.size a := fun v155 k1_hw55 => k1_hw55

def k1_off90 (v160 : BitVec 32) : Fin 3 → Nat :=
  let c0_188 : Index := 0#32
  let c64_i32_187 : BitVec 32 := 64#32
  let v161 : BitVec 32 := Scalar.muli v160 c64_i32_187
  let v162 : Index := Scalar.indexCast v161
  let c0_189 : Index := 0#32
  ![0, v162.toNat, 0]

def k1_chk56 (v160 : BitVec 32) : Prop :=
  (∀ a, (k1_off90 v160) a + S1x64x64.size a ≤ S2x4096x64.size a)
theorem k1_off90_inb : ∀ (v160 : BitVec 32) (k1_hw56 : k1_chk56 v160), ∀ a, (k1_off90 v160) a + S1x64x64.size a ≤ S2x4096x64.size a := fun v160 k1_hw56 => k1_hw56

def k1_off91 (v169 : BitVec 32) : Fin 3 → Nat :=
  let c1_196 : Index := 1#32
  let c64_i32_195 : BitVec 32 := 64#32
  let v170 : BitVec 32 := Scalar.muli v169 c64_i32_195
  let v171 : Index := Scalar.indexCast v170
  let c0_197 : Index := 0#32
  ![1, v171.toNat, 0]

def k1_chk57 (v169 : BitVec 32) : Prop :=
  (∀ a, (k1_off91 v169) a + S1x64x64.size a ≤ S2x4096x64.size a)
theorem k1_off91_inb : ∀ (v169 : BitVec 32) (k1_hw57 : k1_chk57 v169), ∀ a, (k1_off91 v169) a + S1x64x64.size a ≤ S2x4096x64.size a := fun v169 k1_hw57 => k1_hw57

def k1_off92 (v174 : BitVec 32) : Fin 3 → Nat :=
  let c1_203 : Index := 1#32
  let c64_i32_202 : BitVec 32 := 64#32
  let v175 : BitVec 32 := Scalar.muli v174 c64_i32_202
  let v176 : Index := Scalar.indexCast v175
  let c0_204 : Index := 0#32
  ![1, v176.toNat, 0]

def k1_chk58 (v174 : BitVec 32) : Prop :=
  (∀ a, (k1_off92 v174) a + S1x64x64.size a ≤ S2x4096x64.size a)
theorem k1_off92_inb : ∀ (v174 : BitVec 32) (k1_hw58 : k1_chk58 v174), ∀ a, (k1_off92 v174) a + S1x64x64.size a ≤ S2x4096x64.size a := fun v174 k1_hw58 => k1_hw58

def k1_off93 (v179 : BitVec 32) : Fin 3 → Nat :=
  let c1_210 : Index := 1#32
  let c64_i32_209 : BitVec 32 := 64#32
  let v180 : BitVec 32 := Scalar.muli v179 c64_i32_209
  let v181 : Index := Scalar.indexCast v180
  let c0_211 : Index := 0#32
  ![1, v181.toNat, 0]

def k1_chk59 (v179 : BitVec 32) : Prop :=
  (∀ a, (k1_off93 v179) a + S1x64x64.size a ≤ S2x4096x64.size a)
theorem k1_off93_inb : ∀ (v179 : BitVec 32) (k1_hw59 : k1_chk59 v179), ∀ a, (k1_off93 v179) a + S1x64x64.size a ≤ S2x4096x64.size a := fun v179 k1_hw59 => k1_hw59

def k1_off94 (v184 : BitVec 32) : Fin 3 → Nat :=
  let c1_217 : Index := 1#32
  let c64_i32_216 : BitVec 32 := 64#32
  let v185 : BitVec 32 := Scalar.muli v184 c64_i32_216
  let v186 : Index := Scalar.indexCast v185
  let c0_218 : Index := 0#32
  ![1, v186.toNat, 0]

def k1_chk60 (v184 : BitVec 32) : Prop :=
  (∀ a, (k1_off94 v184) a + S1x64x64.size a ≤ S2x4096x64.size a)
theorem k1_off94_inb : ∀ (v184 : BitVec 32) (k1_hw60 : k1_chk60 v184), ∀ a, (k1_off94 v184) a + S1x64x64.size a ≤ S2x4096x64.size a := fun v184 k1_hw60 => k1_hw60

def k1_off95 (v189 : BitVec 32) : Fin 3 → Nat :=
  let c1_224 : Index := 1#32
  let c64_i32_223 : BitVec 32 := 64#32
  let v190 : BitVec 32 := Scalar.muli v189 c64_i32_223
  let v191 : Index := Scalar.indexCast v190
  let c0_225 : Index := 0#32
  ![1, v191.toNat, 0]

def k1_chk61 (v189 : BitVec 32) : Prop :=
  (∀ a, (k1_off95 v189) a + S1x64x64.size a ≤ S2x4096x64.size a)
theorem k1_off95_inb : ∀ (v189 : BitVec 32) (k1_hw61 : k1_chk61 v189), ∀ a, (k1_off95 v189) a + S1x64x64.size a ≤ S2x4096x64.size a := fun v189 k1_hw61 => k1_hw61

def k1_off96 (v194 : BitVec 32) : Fin 3 → Nat :=
  let c1_231 : Index := 1#32
  let c64_i32_230 : BitVec 32 := 64#32
  let v195 : BitVec 32 := Scalar.muli v194 c64_i32_230
  let v196 : Index := Scalar.indexCast v195
  let c0_232 : Index := 0#32
  ![1, v196.toNat, 0]

def k1_chk62 (v194 : BitVec 32) : Prop :=
  (∀ a, (k1_off96 v194) a + S1x64x64.size a ≤ S2x4096x64.size a)
theorem k1_off96_inb : ∀ (v194 : BitVec 32) (k1_hw62 : k1_chk62 v194), ∀ a, (k1_off96 v194) a + S1x64x64.size a ≤ S2x4096x64.size a := fun v194 k1_hw62 => k1_hw62

def k1_off97 (v199 : BitVec 32) : Fin 3 → Nat :=
  let c1_238 : Index := 1#32
  let c64_i32_237 : BitVec 32 := 64#32
  let v200 : BitVec 32 := Scalar.muli v199 c64_i32_237
  let v201 : Index := Scalar.indexCast v200
  let c0_239 : Index := 0#32
  ![1, v201.toNat, 0]

def k1_chk63 (v199 : BitVec 32) : Prop :=
  (∀ a, (k1_off97 v199) a + S1x64x64.size a ≤ S2x4096x64.size a)
theorem k1_off97_inb : ∀ (v199 : BitVec 32) (k1_hw63 : k1_chk63 v199), ∀ a, (k1_off97 v199) a + S1x64x64.size a ≤ S2x4096x64.size a := fun v199 k1_hw63 => k1_hw63

def k1_off98 (v204 : BitVec 32) : Fin 3 → Nat :=
  let c1_245 : Index := 1#32
  let c64_i32_244 : BitVec 32 := 64#32
  let v205 : BitVec 32 := Scalar.muli v204 c64_i32_244
  let v206 : Index := Scalar.indexCast v205
  let c0_246 : Index := 0#32
  ![1, v206.toNat, 0]

def k1_chk64 (v204 : BitVec 32) : Prop :=
  (∀ a, (k1_off98 v204) a + S1x64x64.size a ≤ S2x4096x64.size a)
theorem k1_off98_inb : ∀ (v204 : BitVec 32) (k1_hw64 : k1_chk64 v204), ∀ a, (k1_off98 v204) a + S1x64x64.size a ≤ S2x4096x64.size a := fun v204 k1_hw64 => k1_hw64

def cc1_transform_0 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_2 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_3 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_4 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage1_0 : Fin 2 → Memref sig .tc .smem S1x2x8x64 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2x4096x16x64 : Shape := ⟨4, ![2, 4096, 16, 64]⟩
abbrev S64x64 : Shape := ⟨2, ![64, 64]⟩
abbrev S64 : Shape := ⟨1, ![64]⟩
abbrev S2x16x4096x64 : Shape := ⟨4, ![2, 16, 4096, 64]⟩
abbrev S2x16x64x64x64 : Shape := ⟨5, ![2, 16, 64, 64, 64]⟩
abbrev S_ : Shape := ⟨0, ![]⟩
abbrev S2x16x64x64 : Shape := ⟨4, ![2, 16, 64, 64]⟩
abbrev S2x16x64x8 : Shape := ⟨4, ![2, 16, 64, 8]⟩
abbrev S2x16x64x8x1 : Shape := ⟨5, ![2, 16, 64, 8, 1]⟩
abbrev S2x16x64x8x64x64 : Shape := ⟨6, ![2, 16, 64, 8, 64, 64]⟩
abbrev S2x16x64x512x64 : Shape := ⟨5, ![2, 16, 64, 512, 64]⟩
abbrev S2x16x64x64x512 : Shape := ⟨5, ![2, 16, 64, 64, 512]⟩
abbrev S2x16x64x64x1 : Shape := ⟨5, ![2, 16, 64, 64, 1]⟩
abbrev S2x16x4096 : Shape := ⟨3, ![2, 16, 4096]⟩
abbrev S2x16x4096x1 : Shape := ⟨4, ![2, 16, 4096, 1]⟩
abbrev S2x16x64 : Shape := ⟨3, ![2, 16, 64]⟩
abbrev S2x16x1x64 : Shape := ⟨4, ![2, 16, 1, 64]⟩
abbrev S1x1x1x64 : Shape := ⟨4, ![1, 1, 1, 64]⟩

abbrev nBuf : Space → Nat
  | .hbm => 117
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S64x64, .f32⟩
  | .hbm, ⟨4, _⟩ => ⟨S64, .f32⟩
  | .hbm, ⟨5, _⟩ => ⟨S2x16x4096x64, .f32⟩
  | .hbm, ⟨6, _⟩ => ⟨S2x16x4096x64, .f32⟩
  | .hbm, ⟨7, _⟩ => ⟨S2x16x4096x64, .f32⟩
  | .hbm, ⟨8, _⟩ => ⟨S2x16x64x64x64, .f32⟩
  | .hbm, ⟨9, _⟩ => ⟨S2x16x64x64x64, .f32⟩
  | .hbm, ⟨10, _⟩ => ⟨S2x16x64x64x64, .f32⟩
  | .hbm, ⟨11, _⟩ => ⟨S_, .f32⟩
  | .hbm, ⟨12, _⟩ => ⟨S2x16x64x64, .f32⟩
  | .hbm, ⟨13, _⟩ => ⟨S_, .f32⟩
  | .hbm, ⟨14, _⟩ => ⟨S2x16x64x64, .f32⟩
  | .hbm, ⟨15, _⟩ => ⟨S2x16x64x64, .f32⟩
  | .hbm, ⟨16, _⟩ => ⟨S_, .f32⟩
  | .hbm, ⟨17, _⟩ => ⟨S2x16x64x64, .f32⟩
  | .hbm, ⟨18, _⟩ => ⟨S_, .f32⟩
  | .hbm, ⟨19, _⟩ => ⟨S2x16x64x64, .f32⟩
  | .hbm, ⟨20, _⟩ => ⟨S2x16x64x64, .f32⟩
  | .hbm, ⟨21, _⟩ => ⟨S2x16x64x64, .f32⟩
  | .hbm, ⟨22, _⟩ => ⟨S_, .f32⟩
  | .hbm, ⟨23, _⟩ => ⟨S2x16x64x64, .f32⟩
  | .hbm, ⟨24, _⟩ => ⟨S2x16x64x64, .f32⟩
  | .hbm, ⟨25, _⟩ => ⟨S2x16x64x8, .f32⟩
  | .hbm, ⟨26, _⟩ => ⟨S2x16x64x8, .i32⟩
  | .hbm, ⟨27, _⟩ => ⟨S_, .i32⟩
  | .hbm, ⟨28, _⟩ => ⟨S2x16x64x8, .i32⟩
  | .hbm, ⟨29, _⟩ => ⟨S2x16x64x8, .i1⟩
  | .hbm, ⟨30, _⟩ => ⟨S_, .i32⟩
  | .hbm, ⟨31, _⟩ => ⟨S2x16x64x8, .i32⟩
  | .hbm, ⟨32, _⟩ => ⟨S2x16x64x8, .i32⟩
  | .hbm, ⟨33, _⟩ => ⟨S2x16x64x8, .i32⟩
  | .hbm, ⟨34, _⟩ => ⟨S2x16x64x8x1, .i32⟩
  | .hbm, ⟨35, _⟩ => ⟨S2x16x64x8x64x64, .f32⟩
  | .hbm, ⟨36, _⟩ => ⟨S2x16x64x512x64, .f32⟩
  | .hbm, ⟨37, _⟩ => ⟨S_, .i32⟩
  | .hbm, ⟨38, _⟩ => ⟨S2x16x64x8, .i32⟩
  | .hbm, ⟨39, _⟩ => ⟨S2x16x64x8, .i1⟩
  | .hbm, ⟨40, _⟩ => ⟨S_, .i32⟩
  | .hbm, ⟨41, _⟩ => ⟨S2x16x64x8, .i32⟩
  | .hbm, ⟨42, _⟩ => ⟨S2x16x64x8, .i32⟩
  | .hbm, ⟨43, _⟩ => ⟨S2x16x64x8, .i32⟩
  | .hbm, ⟨44, _⟩ => ⟨S2x16x64x8x1, .i32⟩
  | .hbm, ⟨45, _⟩ => ⟨S2x16x64x8x64x64, .f32⟩
  | .hbm, ⟨46, _⟩ => ⟨S2x16x64x512x64, .f32⟩
  | .hbm, ⟨47, _⟩ => ⟨S2x16x64x64x512, .f32⟩
  | .hbm, ⟨48, _⟩ => ⟨S_, .f32⟩
  | .hbm, ⟨49, _⟩ => ⟨S2x16x64x64x512, .f32⟩
  | .hbm, ⟨50, _⟩ => ⟨S2x16x64x64x512, .f32⟩
  | .hbm, ⟨51, _⟩ => ⟨S_, .f32⟩
  | .hbm, ⟨52, _⟩ => ⟨S2x16x64x64, .f32⟩
  | .hbm, ⟨53, _⟩ => ⟨S_, .f32⟩
  | .hbm, ⟨54, _⟩ => ⟨S2x16x64x64, .f32⟩
  | .hbm, ⟨55, _⟩ => ⟨S2x16x64x64, .f32⟩
  | .hbm, ⟨56, _⟩ => ⟨S2x16x64x64x1, .f32⟩
  | .hbm, ⟨57, _⟩ => ⟨S2x16x64x64x512, .f32⟩
  | .hbm, ⟨58, _⟩ => ⟨S2x16x64x64x512, .f32⟩
  | .hbm, ⟨59, _⟩ => ⟨S2x16x64x64x512, .f32⟩
  | .hbm, ⟨60, _⟩ => ⟨S_, .f32⟩
  | .hbm, ⟨61, _⟩ => ⟨S2x16x64x64, .f32⟩
  | .hbm, ⟨62, _⟩ => ⟨S2x16x64x64x1, .f32⟩
  | .hbm, ⟨63, _⟩ => ⟨S2x16x64x64x512, .f32⟩
  | .hbm, ⟨64, _⟩ => ⟨S2x16x64x64x512, .f32⟩
  | .hbm, ⟨65, _⟩ => ⟨S2x16x64x64x64, .f32⟩
  | .hbm, ⟨66, _⟩ => ⟨S2x16x4096x64, .f32⟩
  | .hbm, ⟨67, _⟩ => ⟨S_, .f32⟩
  | .hbm, ⟨68, _⟩ => ⟨S2x16x4096, .f32⟩
  | .hbm, ⟨69, _⟩ => ⟨S_, .f32⟩
  | .hbm, ⟨70, _⟩ => ⟨S2x16x4096, .f32⟩
  | .hbm, ⟨71, _⟩ => ⟨S2x16x4096, .f32⟩
  | .hbm, ⟨72, _⟩ => ⟨S2x16x4096x1, .f32⟩
  | .hbm, ⟨73, _⟩ => ⟨S2x16x4096x64, .f32⟩
  | .hbm, ⟨74, _⟩ => ⟨S2x16x4096x64, .f32⟩
  | .hbm, ⟨75, _⟩ => ⟨S2x16x4096x64, .f32⟩
  | .hbm, ⟨76, _⟩ => ⟨S_, .f32⟩
  | .hbm, ⟨77, _⟩ => ⟨S2x16x4096, .f32⟩
  | .hbm, ⟨78, _⟩ => ⟨S2x16x4096x1, .f32⟩
  | .hbm, ⟨79, _⟩ => ⟨S2x16x4096x64, .f32⟩
  | .hbm, ⟨80, _⟩ => ⟨S2x16x4096x64, .f32⟩
  | .hbm, ⟨81, _⟩ => ⟨S_, .f32⟩
  | .hbm, ⟨82, _⟩ => ⟨S2x16x4096, .f32⟩
  | .hbm, ⟨83, _⟩ => ⟨S_, .f32⟩
  | .hbm, ⟨84, _⟩ => ⟨S2x16x4096, .f32⟩
  | .hbm, ⟨85, _⟩ => ⟨S2x16x4096, .f32⟩
  | .hbm, ⟨86, _⟩ => ⟨S2x16x4096x1, .f32⟩
  | .hbm, ⟨87, _⟩ => ⟨S2x16x4096x64, .f32⟩
  | .hbm, ⟨88, _⟩ => ⟨S2x16x4096x64, .f32⟩
  | .hbm, ⟨89, _⟩ => ⟨S2x16x4096x64, .f32⟩
  | .hbm, ⟨90, _⟩ => ⟨S_, .f32⟩
  | .hbm, ⟨91, _⟩ => ⟨S2x16x4096, .f32⟩
  | .hbm, ⟨92, _⟩ => ⟨S2x16x4096x1, .f32⟩
  | .hbm, ⟨93, _⟩ => ⟨S2x16x4096x64, .f32⟩
  | .hbm, ⟨94, _⟩ => ⟨S2x16x4096x64, .f32⟩
  | .hbm, ⟨95, _⟩ => ⟨S2x16x64x64, .f32⟩
  | .hbm, ⟨96, _⟩ => ⟨S_, .f32⟩
  | .hbm, ⟨97, _⟩ => ⟨S2x16x64, .f32⟩
  | .hbm, ⟨98, _⟩ => ⟨S2x16x1x64, .f32⟩
  | .hbm, ⟨99, _⟩ => ⟨S2x16x4096x64, .f32⟩
  | .hbm, ⟨100, _⟩ => ⟨S2x16x4096x64, .f32⟩
  | .hbm, ⟨101, _⟩ => ⟨S2x16x4096x64, .f32⟩
  | .hbm, ⟨102, _⟩ => ⟨S_, .f32⟩
  | .hbm, ⟨103, _⟩ => ⟨S2x16x4096, .f32⟩
  | .hbm, ⟨104, _⟩ => ⟨S2x16x4096x1, .f32⟩
  | .hbm, ⟨105, _⟩ => ⟨S_, .f32⟩
  | .hbm, ⟨106, _⟩ => ⟨S2x16x4096x1, .f32⟩
  | .hbm, ⟨107, _⟩ => ⟨S2x16x4096x1, .f32⟩
  | .hbm, ⟨108, _⟩ => ⟨S2x16x4096x64, .f32⟩
  | .hbm, ⟨109, _⟩ => ⟨S2x16x4096x64, .f32⟩
  | .hbm, ⟨110, _⟩ => ⟨S64x64, .f32⟩
  | .hbm, ⟨111, _⟩ => ⟨S2x16x4096x64, .f32⟩
  | .hbm, ⟨112, _⟩ => ⟨S1x1x1x64, .f32⟩
  | .hbm, ⟨113, _⟩ => ⟨S2x16x4096x64, .f32⟩
  | .hbm, ⟨114, _⟩ => ⟨S2x16x4096x64, .f32⟩
  | .hbm, ⟨115, _⟩ => ⟨S2x16x4096x64, .f32⟩
  | .hbm, ⟨116, _⟩ => ⟨S2x4096x16x64, .f32⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Lut.lean ====
abbrev S2x4096x1024 : Shape := ⟨3, ![2, 4096, 1024]⟩
abbrev S2x16x8x64 : Shape := ⟨4, ![2, 16, 8, 64]⟩
abbrev S1x4096x128 : Shape := ⟨3, ![1, 4096, 128]⟩
abbrev S1x2x8x64 : Shape := ⟨4, ![1, 2, 8, 64]⟩
abbrev S4096x128 : Shape := ⟨2, ![4096, 128]⟩
abbrev S64x64x128 : Shape := ⟨3, ![64, 64, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩
abbrev S1x1x1x64 : Shape := ⟨4, ![1, 1, 1, 64]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x16x8x64, .i32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x2x8x64, .i32⟩
  | .local _ .vmem, ⟨5, _⟩ => ⟨S1x2x8x64, .i32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x8x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Attn.lean ====
abbrev S2x16x8x64 : Shape := ⟨4, ![2, 16, 8, 64]⟩
abbrev S2x4096x1024 : Shape := ⟨3, ![2, 4096, 1024]⟩
abbrev S1x2x8x64 : Shape := ⟨4, ![1, 2, 8, 64]⟩
abbrev S1x4096x128 : Shape := ⟨3, ![1, 4096, 128]⟩
abbrev S2x4096x64 : Shape := ⟨3, ![2, 4096, 64]⟩
abbrev S1x4096x64 : Shape := ⟨3, ![1, 4096, 64]⟩
abbrev S4096x64 : Shape := ⟨2, ![4096, 64]⟩
abbrev S1x64x128 : Shape := ⟨3, ![1, 64, 128]⟩
abbrev S64x128 : Shape := ⟨2, ![64, 128]⟩
abbrev S64x64 : Shape := ⟨2, ![64, 64]⟩
abbrev S1x1x1x1 : Shape := ⟨4, ![1, 1, 1, 1]⟩
abbrev S1x64x64 : Shape := ⟨3, ![1, 64, 64]⟩
abbrev S512x64 : Shape := ⟨2, ![512, 64]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 10
  | .smem => 2
  | _ => 0

abbrev bufTy : (tb : Table) → Fin (tcTables nBuf tb) → BufTy
  | .hbm, ⟨0, _⟩ => ⟨S2x16x8x64, .i32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S2x4096x64, .bf16⟩
  | .local _ .vmem, ⟨9, _⟩ => ⟨S2x4096x64, .bf16⟩
  | .local _ .smem, ⟨0, _⟩ => ⟨S1x2x8x64, .i32⟩
  | .local _ .smem, ⟨1, _⟩ => ⟨S1x2x8x64, .i32⟩
  | _, _ => ⟨S2x16x8x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_off1 (v30 : BitVec 32) : Fin 3 → Nat :=
  let c0_28 : Index := 0#32
  let c64_i32 : BitVec 32 := 64#32
  let v31 : BitVec 32 := Scalar.muli v30 c64_i32
  let v32 : Index := Scalar.indexCast v31
  let c0_29 : Index := 0#32
  ![0, v32.toNat, 0]

def k0_chk1 (v30 : BitVec 32) : Prop :=
  (∀ a, (k0_off1 v30) a + S1x64x64.size a ≤ S2x4096x64.size a)
theorem k0_off1_inb : ∀ (v30 : BitVec 32) (k0_hw1 : k0_chk1 v30), ∀ a, (k0_off1 v30) a + S1x64x64.size a ≤ S2x4096x64.size a := fun v30 k0_hw1 => k0_hw1

def k0_off2 (v35 : BitVec 32) : Fin 3 → Nat :=
  let c0_35 : Index := 0#32
  let c64_i32_34 : BitVec 32 := 64#32
  let v36 : BitVec 32 := Scalar.muli v35 c64_i32_34
  let v37 : Index := Scalar.indexCast v36
  let c0_36 : Index := 0#32
  ![0, v37.toNat, 0]

def k0_chk2 (v35 : BitVec 32) : Prop :=
  (∀ a, (k0_off2 v35) a + S1x64x64.size a ≤ S2x4096x64.size a)
theorem k0_off2_inb : ∀ (v35 : BitVec 32) (k0_hw2 : k0_chk2 v35), ∀ a, (k0_off2 v35) a + S1x64x64.size a ≤ S2x4096x64.size a := fun v35 k0_hw2 => k0_hw2

def k0_off3 (v40 : BitVec 32) : Fin 3 → Nat :=
  let c0_41 : Index := 0#32
  let c64_i32_40 : BitVec 32 := 64#32
  let v41 : BitVec 32 := Scalar.muli v40 c64_i32_40
  let v42 : Index := Scalar.indexCast v41
  let c0_42 : Index := 0#32
  ![0, v42.toNat, 0]

def k0_chk3 (v40 : BitVec 32) : Prop :=
  (∀ a, (k0_off3 v40) a + S1x64x64.size a ≤ S2x4096x64.size a)
theorem k0_off3_inb : ∀ (v40 : BitVec 32) (k0_hw3 : k0_chk3 v40), ∀ a, (k0_off3 v40) a + S1x64x64.size a ≤ S2x4096x64.size a := fun v40 k0_hw3 => k0_hw3

def k0_off4 (v45 : BitVec 32) : Fin 3 → Nat :=
  let c0_47 : Index := 0#32
  let c64_i32_46 : BitVec 32 := 64#32
  let v46 : BitVec 32 := Scalar.muli v45 c64_i32_46
  let v47 : Index := Scalar.indexCast v46
  let c0_48 : Index := 0#32
  ![0, v47.toNat, 0]

def k0_chk4 (v45 : BitVec 32) : Prop :=
  (∀ a, (k0_off4 v45) a + S1x64x64.size a ≤ S2x4096x64.size a)
theorem k0_off4_inb : ∀ (v45 : BitVec 32) (k0_hw4 : k0_chk4 v45), ∀ a, (k0_off4 v45) a + S1x64x64.size a ≤ S2x4096x64.size a := fun v45 k0_hw4 => k0_hw4

def k0_off5 (v50 : BitVec 32) : Fin 3 → Nat :=
  let c0_53 : Index := 0#32
  let c64_i32_52 : BitVec 32 := 64#32
  let v51 : BitVec 32 := Scalar.muli v50 c64_i32_52
  let v52 : Index := Scalar.indexCast v51
  let c0_54 : Index := 0#32
  ![0, v52.toNat, 0]

def k0_chk5 (v50 : BitVec 32) : Prop :=
  (∀ a, (k0_off5 v50) a + S1x64x64.size a ≤ S2x4096x64.size a)
theorem k0_off5_inb : ∀ (v50 : BitVec 32) (k0_hw5 : k0_chk5 v50), ∀ a, (k0_off5 v50) a + S1x64x64.size a ≤ S2x4096x64.size a := fun v50 k0_hw5 => k0_hw5

def k0_off6 (v55 : BitVec 32) : Fin 3 → Nat :=
  let c0_59 : Index := 0#32
  let c64_i32_58 : BitVec 32 := 64#32
  let v56 : BitVec 32 := Scalar.muli v55 c64_i32_58
  let v57 : Index := Scalar.indexCast v56
  let c0_60 : Index := 0#32
  ![0, v57.toNat, 0]

def k0_chk6 (v55 : BitVec 32) : Prop :=
  (∀ a, (k0_off6 v55) a + S1x64x64.size a ≤ S2x4096x64.size a)
theorem k0_off6_inb : ∀ (v55 : BitVec 32) (k0_hw6 : k0_chk6 v55), ∀ a, (k0_off6 v55) a + S1x64x64.size a ≤ S2x4096x64.size a := fun v55 k0_hw6 => k0_hw6

def k0_off7 (v60 : BitVec 32) : Fin 3 → Nat :=
  let c0_65 : Index := 0#32
  let c64_i32_64 : BitVec 32 := 64#32
  let v61 : BitVec 32 := Scalar.muli v60 c64_i32_64
  let v62 : Index := Scalar.indexCast v61
  let c0_66 : Index := 0#32
  ![0, v62.toNat, 0]

def k0_chk7 (v60 : BitVec 32) : Prop :=
  (∀ a, (k0_off7 v60) a + S1x64x64.size a ≤ S2x4096x64.size a)
theorem k0_off7_inb : ∀ (v60 : BitVec 32) (k0_hw7 : k0_chk7 v60), ∀ a, (k0_off7 v60) a + S1x64x64.size a ≤ S2x4096x64.size a := fun v60 k0_hw7 => k0_hw7

def k0_off8 (v65 : BitVec 32) : Fin 3 → Nat :=
  let c0_71 : Index := 0#32
  let c64_i32_70 : BitVec 32 := 64#32
  let v66 : BitVec 32 := Scalar.muli v65 c64_i32_70
  let v67 : Index := Scalar.indexCast v66
  let c0_72 : Index := 0#32
  ![0, v67.toNat, 0]

def k0_chk8 (v65 : BitVec 32) : Prop :=
  (∀ a, (k0_off8 v65) a + S1x64x64.size a ≤ S2x4096x64.size a)
theorem k0_off8_inb : ∀ (v65 : BitVec 32) (k0_hw8 : k0_chk8 v65), ∀ a, (k0_off8 v65) a + S1x64x64.size a ≤ S2x4096x64.size a := fun v65 k0_hw8 => k0_hw8

def k0_off9 (v73 : BitVec 32) : Fin 3 → Nat :=
  let c1_79 : Index := 1#32
  let c64_i32_78 : BitVec 32 := 64#32
  let v74 : BitVec 32 := Scalar.muli v73 c64_i32_78
  let v75 : Index := Scalar.indexCast v74
  let c0_80 : Index := 0#32
  ![1, v75.toNat, 0]

def k0_chk9 (v73 : BitVec 32) : Prop :=
  (∀ a, (k0_off9 v73) a + S1x64x64.size a ≤ S2x4096x64.size a)
theorem k0_off9_inb : ∀ (v73 : BitVec 32) (k0_hw9 : k0_chk9 v73), ∀ a, (k0_off9 v73) a + S1x64x64.size a ≤ S2x4096x64.size a := fun v73 k0_hw9 => k0_hw9

def k0_off10 (v78 : BitVec 32) : Fin 3 → Nat :=
  let c1_86 : Index := 1#32
  let c64_i32_85 : BitVec 32 := 64#32
  let v79 : BitVec 32 := Scalar.muli v78 c64_i32_85
  let v80 : Index := Scalar.indexCast v79
  let c0_87 : Index := 0#32
  ![1, v80.toNat, 0]

def k0_chk10 (v78 : BitVec 32) : Prop :=
  (∀ a, (k0_off10 v78) a + S1x64x64.size a ≤ S2x4096x64.size a)
theorem k0_off10_inb : ∀ (v78 : BitVec 32) (k0_hw10 : k0_chk10 v78), ∀ a, (k0_off10 v78) a + S1x64x64.size a ≤ S2x4096x64.size a := fun v78 k0_hw10 => k0_hw10

def k0_off11 (v83 : BitVec 32) : Fin 3 → Nat :=
  let c1_93 : Index := 1#32
  let c64_i32_92 : BitVec 32 := 64#32
  let v84 : BitVec 32 := Scalar.muli v83 c64_i32_92
  let v85 : Index := Scalar.indexCast v84
  let c0_94 : Index := 0#32
  ![1, v85.toNat, 0]

def k0_chk11 (v83 : BitVec 32) : Prop :=
  (∀ a, (k0_off11 v83) a + S1x64x64.size a ≤ S2x4096x64.size a)
theorem k0_off11_inb : ∀ (v83 : BitVec 32) (k0_hw11 : k0_chk11 v83), ∀ a, (k0_off11 v83) a + S1x64x64.size a ≤ S2x4096x64.size a := fun v83 k0_hw11 => k0_hw11

def k0_off12 (v88 : BitVec 32) : Fin 3 → Nat :=
  let c1_100 : Index := 1#32
  let c64_i32_99 : BitVec 32 := 64#32
  let v89 : BitVec 32 := Scalar.muli v88 c64_i32_99
  let v90 : Index := Scalar.indexCast v89
  let c0_101 : Index := 0#32
  ![1, v90.toNat, 0]

def k0_chk12 (v88 : BitVec 32) : Prop :=
  (∀ a, (k0_off12 v88) a + S1x64x64.size a ≤ S2x4096x64.size a)
theorem k0_off12_inb : ∀ (v88 : BitVec 32) (k0_hw12 : k0_chk12 v88), ∀ a, (k0_off12 v88) a + S1x64x64.size a ≤ S2x4096x64.size a := fun v88 k0_hw12 => k0_hw12

def k0_off13 (v93 : BitVec 32) : Fin 3 → Nat :=
  let c1_107 : Index := 1#32
  let c64_i32_106 : BitVec 32 := 64#32
  let v94 : BitVec 32 := Scalar.muli v93 c64_i32_106
  let v95 : Index := Scalar.indexCast v94
  let c0_108 : Index := 0#32
  ![1, v95.toNat, 0]

def k0_chk13 (v93 : BitVec 32) : Prop :=
  (∀ a, (k0_off13 v93) a + S1x64x64.size a ≤ S2x4096x64.size a)
theorem k0_off13_inb : ∀ (v93 : BitVec 32) (k0_hw13 : k0_chk13 v93), ∀ a, (k0_off13 v93) a + S1x64x64.size a ≤ S2x4096x64.size a := fun v93 k0_hw13 => k0_hw13

def k0_off14 (v98 : BitVec 32) : Fin 3 → Nat :=
  let c1_114 : Index := 1#32
  let c64_i32_113 : BitVec 32 := 64#32
  let v99 : BitVec 32 := Scalar.muli v98 c64_i32_113
  let v100 : Index := Scalar.indexCast v99
  let c0_115 : Index := 0#32
  ![1, v100.toNat, 0]

def k0_chk14 (v98 : BitVec 32) : Prop :=
  (∀ a, (k0_off14 v98) a + S1x64x64.size a ≤ S2x4096x64.size a)
theorem k0_off14_inb : ∀ (v98 : BitVec 32) (k0_hw14 : k0_chk14 v98), ∀ a, (k0_off14 v98) a + S1x64x64.size a ≤ S2x4096x64.size a := fun v98 k0_hw14 => k0_hw14

def k0_off15 (v103 : BitVec 32) : Fin 3 → Nat :=
  let c1_121 : Index := 1#32
  let c64_i32_120 : BitVec 32 := 64#32
  let v104 : BitVec 32 := Scalar.muli v103 c64_i32_120
  let v105 : Index := Scalar.indexCast v104
  let c0_122 : Index := 0#32
  ![1, v105.toNat, 0]

def k0_chk15 (v103 : BitVec 32) : Prop :=
  (∀ a, (k0_off15 v103) a + S1x64x64.size a ≤ S2x4096x64.size a)
theorem k0_off15_inb : ∀ (v103 : BitVec 32) (k0_hw15 : k0_chk15 v103), ∀ a, (k0_off15 v103) a + S1x64x64.size a ≤ S2x4096x64.size a := fun v103 k0_hw15 => k0_hw15

def k0_off16 (v108 : BitVec 32) : Fin 3 → Nat :=
  let c1_128 : Index := 1#32
  let c64_i32_127 : BitVec 32 := 64#32
  let v109 : BitVec 32 := Scalar.muli v108 c64_i32_127
  let v110 : Index := Scalar.indexCast v109
  let c0_129 : Index := 0#32
  ![1, v110.toNat, 0]

def k0_chk16 (v108 : BitVec 32) : Prop :=
  (∀ a, (k0_off16 v108) a + S1x64x64.size a ≤ S2x4096x64.size a)
theorem k0_off16_inb : ∀ (v108 : BitVec 32) (k0_hw16 : k0_chk16 v108), ∀ a, (k0_off16 v108) a + S1x64x64.size a ≤ S2x4096x64.size a := fun v108 k0_hw16 => k0_hw16

@[reducible] def k0_t1_loop : Scf.Loop 32 :=
  let c1_i32 : BitVec 32 := 1#32
  let c63_i32 : BitVec 32 := 63#32
  let v123 : BitVec 32 := Scalar.addi c1_i32 c63_i32
  let c1_i32_133 : BitVec 32 := 1#32
  ⟨c1_i32, v123, c1_i32_133⟩
def k0_off17 (k0_t1 : Fin k0_t1_loop.trips) : Fin 3 → Nat :=
  let c0_251 : Index := 0#32
  let c1_i32 : BitVec 32 := 1#32
  let c1_i32_133 : BitVec 32 := 1#32
  let arg8 : BitVec 32 := Scf.iv c1_i32 c1_i32_133 k0_t1
  let c64_i32_250 : BitVec 32 := 64#32
  let v217 : BitVec 32 := Scalar.muli arg8 c64_i32_250
  let v218 : Index := Scalar.indexCast v217
  let c0_252 : Index := 0#32
  ![0, v218.toNat, 0]
def k0_off18 (k0_t1 : Fin k0_t1_loop.trips) : Fin 4 → Nat :=
  let c0_254 : Index := 0#32
  let c0_255 : Index := 0#32
  let c0_256 : Index := 0#32
  let c1_i32 : BitVec 32 := 1#32
  let c1_i32_133 : BitVec 32 := 1#32
  let arg8 : BitVec 32 := Scf.iv c1_i32 c1_i32_133 k0_t1
  let v225 : Index := Scalar.indexCast arg8
  ![0, 0, 0, v225.toNat]
def k0_off19 (v226 : BitVec 32) : Fin 3 → Nat :=
  let c0_258 : Index := 0#32
  let c64_i32_257 : BitVec 32 := 64#32
  let v227 : BitVec 32 := Scalar.muli v226 c64_i32_257
  let v228 : Index := Scalar.indexCast v227
  let c0_259 : Index := 0#32
  ![0, v228.toNat, 0]

def k0_chk17 (v226 : BitVec 32) : Prop :=
  (∀ a, (k0_off19 v226) a + S1x64x64.size a ≤ S2x4096x64.size a)
theorem k0_off19_inb : ∀ (v226 : BitVec 32) (k0_hw17 : k0_chk17 v226), ∀ a, (k0_off19 v226) a + S1x64x64.size a ≤ S2x4096x64.size a := fun v226 k0_hw17 => k0_hw17

def k0_off20 (k0_t1 : Fin k0_t1_loop.trips) : Fin 4 → Nat :=
  let c0_260 : Index := 0#32
  let c0_261 : Index := 0#32
  let c1_262 : Index := 1#32
  let c1_i32 : BitVec 32 := 1#32
  let c1_i32_133 : BitVec 32 := 1#32
  let arg8 : BitVec 32 := Scf.iv c1_i32 c1_i32_133 k0_t1
  let v231 : Index := Scalar.indexCast arg8
  ![0, 0, 1, v231.toNat]
def k0_off21 (v232 : BitVec 32) : Fin 3 → Nat :=
  let c0_264 : Index := 0#32
  let c64_i32_263 : BitVec 32 := 64#32
  let v233 : BitVec 32 := Scalar.muli v232 c64_i32_263
  let v234 : Index := Scalar.indexCast v233
  let c0_265 : Index := 0#32
  ![0, v234.toNat, 0]

def k0_chk18 (v232 : BitVec 32) : Prop :=
  (∀ a, (k0_off21 v232) a + S1x64x64.size a ≤ S2x4096x64.size a)
theorem k0_off21_inb : ∀ (v232 : BitVec 32) (k0_hw18 : k0_chk18 v232), ∀ a, (k0_off21 v232) a + S1x64x64.size a ≤ S2x4096x64.size a := fun v232 k0_hw18 => k0_hw18

def k0_off22 (k0_t1 : Fin k0_t1_loop.trips) : Fin 4 → Nat :=
  let c0_266 : Index := 0#32
  let c0_267 : Index := 0#32
  let c2_268 : Index := 2#32
  let c1_i32 : BitVec 32 := 1#32
  let c1_i32_133 : BitVec 32 := 1#32
  let arg8 : BitVec 32 := Scf.iv c1_i32 c1_i32_133 k0_t1
  let v237 : Index := Scalar.indexCast arg8
  ![0, 0, 2, v237.toNat]
def k0_off23 (v238 : BitVec 32) : Fin 3 → Nat :=
  let c0_270 : Index := 0#32
  let c64_i32_269 : BitVec 32 := 64#32
  let v239 : BitVec 32 := Scalar.muli v238 c64_i32_269
  let v240 : Index := Scalar.indexCast v239
  let c0_271 : Index := 0#32
  ![0, v240.toNat, 0]

def k0_chk19 (v238 : BitVec 32) : Prop :=
  (∀ a, (k0_off23 v238) a + S1x64x64.size a ≤ S2x4096x64.size a)
theorem k0_off23_inb : ∀ (v238 : BitVec 32) (k0_hw19 : k0_chk19 v238), ∀ a, (k0_off23 v238) a + S1x64x64.size a ≤ S2x4096x64.size a := fun v238 k0_hw19 => k0_hw19

def k0_off24 (k0_t1 : Fin k0_t1_loop.trips) : Fin 4 → Nat :=
  let c0_272 : Index := 0#32
  let c0_273 : Index := 0#32
  let c3_274 : Index := 3#32
  let c1_i32 : BitVec 32 := 1#32
  let c1_i32_133 : BitVec 32 := 1#32
  let arg8 : BitVec 32 := Scf.iv c1_i32 c1_i32_133 k0_t1
  let v243 : Index := Scalar.indexCast arg8
  ![0, 0, 3, v243.toNat]
def k0_off25 (v244 : BitVec 32) : Fin 3 → Nat :=
  let c0_276 : Index := 0#32
  let c64_i32_275 : BitVec 32 := 64#32
  let v245 : BitVec 32 := Scalar.muli v244 c64_i32_275
  let v246 : Index := Scalar.indexCast v245
  let c0_277 : Index := 0#32
  ![0, v246.toNat, 0]

def k0_chk20 (v244 : BitVec 32) : Prop :=
  (∀ a, (k0_off25 v244) a + S1x64x64.size a ≤ S2x4096x64.size a)
theorem k0_off25_inb : ∀ (v244 : BitVec 32) (k0_hw20 : k0_chk20 v244), ∀ a, (k0_off25 v244) a + S1x64x64.size a ≤ S2x4096x64.size a := fun v244 k0_hw20 => k0_hw20

def k0_off26 (k0_t1 : Fin k0_t1_loop.trips) : Fin 4 → Nat :=
  let c0_278 : Index := 0#32
  let c0_279 : Index := 0#32
  let c4_280 : Index := 4#32
  let c1_i32 : BitVec 32 := 1#32
  let c1_i32_133 : BitVec 32 := 1#32
  let arg8 : BitVec 32 := Scf.iv c1_i32 c1_i32_133 k0_t1
  let v249 : Index := Scalar.indexCast arg8
  ![0, 0, 4, v249.toNat]
def k0_off27 (v250 : BitVec 32) : Fin 3 → Nat :=
  let c0_282 : Index := 0#32
  let c64_i32_281 : BitVec 32 := 64#32
  let v251 : BitVec 32 := Scalar.muli v250 c64_i32_281
  let v252 : Index := Scalar.indexCast v251
  let c0_283 : Index := 0#32
  ![0, v252.toNat, 0]

def k0_chk21 (v250 : BitVec 32) : Prop :=
  (∀ a, (k0_off27 v250) a + S1x64x64.size a ≤ S2x4096x64.size a)
theorem k0_off27_inb : ∀ (v250 : BitVec 32) (k0_hw21 : k0_chk21 v250), ∀ a, (k0_off27 v250) a + S1x64x64.size a ≤ S2x4096x64.size a := fun v250 k0_hw21 => k0_hw21

def k0_off28 (k0_t1 : Fin k0_t1_loop.trips) : Fin 4 → Nat :=
  let c0_284 : Index := 0#32
  let c0_285 : Index := 0#32
  let c5_286 : Index := 5#32
  let c1_i32 : BitVec 32 := 1#32
  let c1_i32_133 : BitVec 32 := 1#32
  let arg8 : BitVec 32 := Scf.iv c1_i32 c1_i32_133 k0_t1
  let v255 : Index := Scalar.indexCast arg8
  ![0, 0, 5, v255.toNat]
def k0_off29 (v256 : BitVec 32) : Fin 3 → Nat :=
  let c0_288 : Index := 0#32
  let c64_i32_287 : BitVec 32 := 64#32
  let v257 : BitVec 32 := Scalar.muli v256 c64_i32_287
  let v258 : Index := Scalar.indexCast v257
  let c0_289 : Index := 0#32
  ![0, v258.toNat, 0]

def k0_chk22 (v256 : BitVec 32) : Prop :=
  (∀ a, (k0_off29 v256) a + S1x64x64.size a ≤ S2x4096x64.size a)
theorem k0_off29_inb : ∀ (v256 : BitVec 32) (k0_hw22 : k0_chk22 v256), ∀ a, (k0_off29 v256) a + S1x64x64.size a ≤ S2x4096x64.size a := fun v256 k0_hw22 => k0_hw22

def k0_off30 (k0_t1 : Fin k0_t1_loop.trips) : Fin 4 → Nat :=
  let c0_290 : Index := 0#32
  let c0_291 : Index := 0#32
  let c6_292 : Index := 6#32
  let c1_i32 : BitVec 32 := 1#32
  let c1_i32_133 : BitVec 32 := 1#32
  let arg8 : BitVec 32 := Scf.iv c1_i32 c1_i32_133 k0_t1
  let v261 : Index := Scalar.indexCast arg8
  ![0, 0, 6, v261.toNat]
def k0_off31 (v262 : BitVec 32) : Fin 3 → Nat :=
  let c0_294 : Index := 0#32
  let c64_i32_293 : BitVec 32 := 64#32
  let v263 : BitVec 32 := Scalar.muli v262 c64_i32_293
  let v264 : Index := Scalar.indexCast v263
  let c0_295 : Index := 0#32
  ![0, v264.toNat, 0]

def k0_chk23 (v262 : BitVec 32) : Prop :=
  (∀ a, (k0_off31 v262) a + S1x64x64.size a ≤ S2x4096x64.size a)
theorem k0_off31_inb : ∀ (v262 : BitVec 32) (k0_hw23 : k0_chk23 v262), ∀ a, (k0_off31 v262) a + S1x64x64.size a ≤ S2x4096x64.size a := fun v262 k0_hw23 => k0_hw23

def k0_off32 (k0_t1 : Fin k0_t1_loop.trips) : Fin 4 → Nat :=
  let c0_296 : Index := 0#32
  let c0_297 : Index := 0#32
  let c7_298 : Index := 7#32
  let c1_i32 : BitVec 32 := 1#32
  let c1_i32_133 : BitVec 32 := 1#32
  let arg8 : BitVec 32 := Scf.iv c1_i32 c1_i32_133 k0_t1
  let v267 : Index := Scalar.indexCast arg8
  ![0, 0, 7, v267.toNat]
def k0_off33 (v268 : BitVec 32) : Fin 3 → Nat :=
  let c0_300 : Index := 0#32
  let c64_i32_299 : BitVec 32 := 64#32
  let v269 : BitVec 32 := Scalar.muli v268 c64_i32_299
  let v270 : Index := Scalar.indexCast v269
  let c0_301 : Index := 0#32
  ![0, v270.toNat, 0]

def k0_chk24 (v268 : BitVec 32) : Prop :=
  (∀ a, (k0_off33 v268) a + S1x64x64.size a ≤ S2x4096x64.size a)
theorem k0_off33_inb : ∀ (v268 : BitVec 32) (k0_hw24 : k0_chk24 v268), ∀ a, (k0_off33 v268) a + S1x64x64.size a ≤ S2x4096x64.size a := fun v268 k0_hw24 => k0_hw24

def k0_off34 (k0_t1 : Fin k0_t1_loop.trips) : Fin 4 → Nat :=
  let c0_303 : Index := 0#32
  let c1_304 : Index := 1#32
  let c0_305 : Index := 0#32
  let c1_i32 : BitVec 32 := 1#32
  let c1_i32_133 : BitVec 32 := 1#32
  let arg8 : BitVec 32 := Scf.iv c1_i32 c1_i32_133 k0_t1
  let v276 : Index := Scalar.indexCast arg8
  ![0, 1, 0, v276.toNat]
def k0_off35 (v277 : BitVec 32) : Fin 3 → Nat :=
  let c1_307 : Index := 1#32
  let c64_i32_306 : BitVec 32 := 64#32
  let v278 : BitVec 32 := Scalar.muli v277 c64_i32_306
  let v279 : Index := Scalar.indexCast v278
  let c0_308 : Index := 0#32
  ![1, v279.toNat, 0]

def k0_chk25 (v277 : BitVec 32) : Prop :=
  (∀ a, (k0_off35 v277) a + S1x64x64.size a ≤ S2x4096x64.size a)
theorem k0_off35_inb : ∀ (v277 : BitVec 32) (k0_hw25 : k0_chk25 v277), ∀ a, (k0_off35 v277) a + S1x64x64.size a ≤ S2x4096x64.size a := fun v277 k0_hw25 => k0_hw25

def k0_off36 (k0_t1 : Fin k0_t1_loop.trips) : Fin 4 → Nat :=
  let c0_309 : Index := 0#32
  let c1_310 : Index := 1#32
  let c1_311 : Index := 1#32
  let c1_i32 : BitVec 32 := 1#32
  let c1_i32_133 : BitVec 32 := 1#32
  let arg8 : BitVec 32 := Scf.iv c1_i32 c1_i32_133 k0_t1
  let v282 : Index := Scalar.indexCast arg8
  ![0, 1, 1, v282.toNat]
def k0_off37 (v283 : BitVec 32) : Fin 3 → Nat :=
  let c1_313 : Index := 1#32
  let c64_i32_312 : BitVec 32 := 64#32
  let v284 : BitVec 32 := Scalar.muli v283 c64_i32_312
  let v285 : Index := Scalar.indexCast v284
  let c0_314 : Index := 0#32
  ![1, v285.toNat, 0]

def k0_chk26 (v283 : BitVec 32) : Prop :=
  (∀ a, (k0_off37 v283) a + S1x64x64.size a ≤ S2x4096x64.size a)
theorem k0_off37_inb : ∀ (v283 : BitVec 32) (k0_hw26 : k0_chk26 v283), ∀ a, (k0_off37 v283) a + S1x64x64.size a ≤ S2x4096x64.size a := fun v283 k0_hw26 => k0_hw26

def k0_off38 (k0_t1 : Fin k0_t1_loop.trips) : Fin 4 → Nat :=
  let c0_315 : Index := 0#32
  let c1_316 : Index := 1#32
  let c2_317 : Index := 2#32
  let c1_i32 : BitVec 32 := 1#32
  let c1_i32_133 : BitVec 32 := 1#32
  let arg8 : BitVec 32 := Scf.iv c1_i32 c1_i32_133 k0_t1
  let v288 : Index := Scalar.indexCast arg8
  ![0, 1, 2, v288.toNat]
def k0_off39 (v289 : BitVec 32) : Fin 3 → Nat :=
  let c1_319 : Index := 1#32
  let c64_i32_318 : BitVec 32 := 64#32
  let v290 : BitVec 32 := Scalar.muli v289 c64_i32_318
  let v291 : Index := Scalar.indexCast v290
  let c0_320 : Index := 0#32
  ![1, v291.toNat, 0]

def k0_chk27 (v289 : BitVec 32) : Prop :=
  (∀ a, (k0_off39 v289) a + S1x64x64.size a ≤ S2x4096x64.size a)
theorem k0_off39_inb : ∀ (v289 : BitVec 32) (k0_hw27 : k0_chk27 v289), ∀ a, (k0_off39 v289) a + S1x64x64.size a ≤ S2x4096x64.size a := fun v289 k0_hw27 => k0_hw27

def k0_off40 (k0_t1 : Fin k0_t1_loop.trips) : Fin 4 → Nat :=
  let c0_321 : Index := 0#32
  let c1_322 : Index := 1#32
  let c3_323 : Index := 3#32
  let c1_i32 : BitVec 32 := 1#32
  let c1_i32_133 : BitVec 32 := 1#32
  let arg8 : BitVec 32 := Scf.iv c1_i32 c1_i32_133 k0_t1
  let v294 : Index := Scalar.indexCast arg8
  ![0, 1, 3, v294.toNat]
def k0_off41 (v295 : BitVec 32) : Fin 3 → Nat :=
  let c1_325 : Index := 1#32
  let c64_i32_324 : BitVec 32 := 64#32
  let v296 : BitVec 32 := Scalar.muli v295 c64_i32_324
  let v297 : Index := Scalar.indexCast v296
  let c0_326 : Index := 0#32
  ![1, v297.toNat, 0]

def k0_chk28 (v295 : BitVec 32) : Prop :=
  (∀ a, (k0_off41 v295) a + S1x64x64.size a ≤ S2x4096x64.size a)
theorem k0_off41_inb : ∀ (v295 : BitVec 32) (k0_hw28 : k0_chk28 v295), ∀ a, (k0_off41 v295) a + S1x64x64.size a ≤ S2x4096x64.size a := fun v295 k0_hw28 => k0_hw28

def k0_off42 (k0_t1 : Fin k0_t1_loop.trips) : Fin 4 → Nat :=
  let c0_327 : Index := 0#32
  let c1_328 : Index := 1#32
  let c4_329 : Index := 4#32
  let c1_i32 : BitVec 32 := 1#32
  let c1_i32_133 : BitVec 32 := 1#32
  let arg8 : BitVec 32 := Scf.iv c1_i32 c1_i32_133 k0_t1
  let v300 : Index := Scalar.indexCast arg8
  ![0, 1, 4, v300.toNat]
def k0_off43 (v301 : BitVec 32) : Fin 3 → Nat :=
  let c1_331 : Index := 1#32
  let c64_i32_330 : BitVec 32 := 64#32
  let v302 : BitVec 32 := Scalar.muli v301 c64_i32_330
  let v303 : Index := Scalar.indexCast v302
  let c0_332 : Index := 0#32
  ![1, v303.toNat, 0]

def k0_chk29 (v301 : BitVec 32) : Prop :=
  (∀ a, (k0_off43 v301) a + S1x64x64.size a ≤ S2x4096x64.size a)
theorem k0_off43_inb : ∀ (v301 : BitVec 32) (k0_hw29 : k0_chk29 v301), ∀ a, (k0_off43 v301) a + S1x64x64.size a ≤ S2x4096x64.size a := fun v301 k0_hw29 => k0_hw29

def k0_off44 (k0_t1 : Fin k0_t1_loop.trips) : Fin 4 → Nat :=
  let c0_333 : Index := 0#32
  let c1_334 : Index := 1#32
  let c5_335 : Index := 5#32
  let c1_i32 : BitVec 32 := 1#32
  let c1_i32_133 : BitVec 32 := 1#32
  let arg8 : BitVec 32 := Scf.iv c1_i32 c1_i32_133 k0_t1
  let v306 : Index := Scalar.indexCast arg8
  ![0, 1, 5, v306.toNat]
def k0_off45 (v307 : BitVec 32) : Fin 3 → Nat :=
  let c1_337 : Index := 1#32
  let c64_i32_336 : BitVec 32 := 64#32
  let v308 : BitVec 32 := Scalar.muli v307 c64_i32_336
  let v309 : Index := Scalar.indexCast v308
  let c0_338 : Index := 0#32
  ![1, v309.toNat, 0]

def k0_chk30 (v307 : BitVec 32) : Prop :=
  (∀ a, (k0_off45 v307) a + S1x64x64.size a ≤ S2x4096x64.size a)
theorem k0_off45_inb : ∀ (v307 : BitVec 32) (k0_hw30 : k0_chk30 v307), ∀ a, (k0_off45 v307) a + S1x64x64.size a ≤ S2x4096x64.size a := fun v307 k0_hw30 => k0_hw30

def k0_off46 (k0_t1 : Fin k0_t1_loop.trips) : Fin 4 → Nat :=
  let c0_339 : Index := 0#32
  let c1_340 : Index := 1#32
  let c6_341 : Index := 6#32
  let c1_i32 : BitVec 32 := 1#32
  let c1_i32_133 : BitVec 32 := 1#32
  let arg8 : BitVec 32 := Scf.iv c1_i32 c1_i32_133 k0_t1
  let v312 : Index := Scalar.indexCast arg8
  ![0, 1, 6, v312.toNat]
def k0_off47 (v313 : BitVec 32) : Fin 3 → Nat :=
  let c1_343 : Index := 1#32
  let c64_i32_342 : BitVec 32 := 64#32
  let v314 : BitVec 32 := Scalar.muli v313 c64_i32_342
  let v315 : Index := Scalar.indexCast v314
  let c0_344 : Index := 0#32
  ![1, v315.toNat, 0]

def k0_chk31 (v313 : BitVec 32) : Prop :=
  (∀ a, (k0_off47 v313) a + S1x64x64.size a ≤ S2x4096x64.size a)
theorem k0_off47_inb : ∀ (v313 : BitVec 32) (k0_hw31 : k0_chk31 v313), ∀ a, (k0_off47 v313) a + S1x64x64.size a ≤ S2x4096x64.size a := fun v313 k0_hw31 => k0_hw31

def k0_off48 (k0_t1 : Fin k0_t1_loop.trips) : Fin 4 → Nat :=
  let c0_345 : Index := 0#32
  let c1_346 : Index := 1#32
  let c7_347 : Index := 7#32
  let c1_i32 : BitVec 32 := 1#32
  let c1_i32_133 : BitVec 32 := 1#32
  let arg8 : BitVec 32 := Scf.iv c1_i32 c1_i32_133 k0_t1
  let v318 : Index := Scalar.indexCast arg8
  ![0, 1, 7, v318.toNat]
def k0_off49 (v319 : BitVec 32) : Fin 3 → Nat :=
  let c1_349 : Index := 1#32
  let c64_i32_348 : BitVec 32 := 64#32
  let v320 : BitVec 32 := Scalar.muli v319 c64_i32_348
  let v321 : Index := Scalar.indexCast v320
  let c0_350 : Index := 0#32
  ![1, v321.toNat, 0]

def k0_chk32 (v319 : BitVec 32) : Prop :=
  (∀ a, (k0_off49 v319) a + S1x64x64.size a ≤ S2x4096x64.size a)
theorem k0_off49_inb : ∀ (v319 : BitVec 32) (k0_hw32 : k0_chk32 v319), ∀ a, (k0_off49 v319) a + S1x64x64.size a ≤ S2x4096x64.size a := fun v319 k0_hw32 => k0_hw32

def k0_off50 (k0_t1 : Fin k0_t1_loop.trips) : Fin 4 → Nat :=
  let c0_355 : Index := 0#32
  let c0_356 : Index := 0#32
  let c0_357 : Index := 0#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v335 : Index := Scalar.indexCast v334
  ![0, 0, 0, v335.toNat]
def k0_off51 (v336 : BitVec 32) : Fin 3 → Nat :=
  let c0_359 : Index := 0#32
  let c64_i32_358 : BitVec 32 := 64#32
  let v337 : BitVec 32 := Scalar.muli v336 c64_i32_358
  let v338 : Index := Scalar.indexCast v337
  let c0_360 : Index := 0#32
  ![0, v338.toNat, 0]

def k0_chk33 (v336 : BitVec 32) : Prop :=
  (∀ a, (k0_off51 v336) a + S1x64x64.size a ≤ S2x4096x64.size a)
theorem k0_off51_inb : ∀ (v336 : BitVec 32) (k0_hw33 : k0_chk33 v336), ∀ a, (k0_off51 v336) a + S1x64x64.size a ≤ S2x4096x64.size a := fun v336 k0_hw33 => k0_hw33

def k0_off52 (k0_t1 : Fin k0_t1_loop.trips) : Fin 4 → Nat :=
  let c0_361 : Index := 0#32
  let c0_362 : Index := 0#32
  let c1_363 : Index := 1#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v341 : Index := Scalar.indexCast v334
  ![0, 0, 1, v341.toNat]
def k0_off53 (v342 : BitVec 32) : Fin 3 → Nat :=
  let c0_365 : Index := 0#32
  let c64_i32_364 : BitVec 32 := 64#32
  let v343 : BitVec 32 := Scalar.muli v342 c64_i32_364
  let v344 : Index := Scalar.indexCast v343
  let c0_366 : Index := 0#32
  ![0, v344.toNat, 0]

def k0_chk34 (v342 : BitVec 32) : Prop :=
  (∀ a, (k0_off53 v342) a + S1x64x64.size a ≤ S2x4096x64.size a)
theorem k0_off53_inb : ∀ (v342 : BitVec 32) (k0_hw34 : k0_chk34 v342), ∀ a, (k0_off53 v342) a + S1x64x64.size a ≤ S2x4096x64.size a := fun v342 k0_hw34 => k0_hw34

def k0_off54 (k0_t1 : Fin k0_t1_loop.trips) : Fin 4 → Nat :=
  let c0_367 : Index := 0#32
  let c0_368 : Index := 0#32
  let c2_369 : Index := 2#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v347 : Index := Scalar.indexCast v334
  ![0, 0, 2, v347.toNat]
def k0_off55 (v348 : BitVec 32) : Fin 3 → Nat :=
  let c0_371 : Index := 0#32
  let c64_i32_370 : BitVec 32 := 64#32
  let v349 : BitVec 32 := Scalar.muli v348 c64_i32_370
  let v350 : Index := Scalar.indexCast v349
  let c0_372 : Index := 0#32
  ![0, v350.toNat, 0]

def k0_chk35 (v348 : BitVec 32) : Prop :=
  (∀ a, (k0_off55 v348) a + S1x64x64.size a ≤ S2x4096x64.size a)
theorem k0_off55_inb : ∀ (v348 : BitVec 32) (k0_hw35 : k0_chk35 v348), ∀ a, (k0_off55 v348) a + S1x64x64.size a ≤ S2x4096x64.size a := fun v348 k0_hw35 => k0_hw35

def k0_off56 (k0_t1 : Fin k0_t1_loop.trips) : Fin 4 → Nat :=
  let c0_373 : Index := 0#32
  let c0_374 : Index := 0#32
  let c3_375 : Index := 3#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v353 : Index := Scalar.indexCast v334
  ![0, 0, 3, v353.toNat]
def k0_off57 (v354 : BitVec 32) : Fin 3 → Nat :=
  let c0_377 : Index := 0#32
  let c64_i32_376 : BitVec 32 := 64#32
  let v355 : BitVec 32 := Scalar.muli v354 c64_i32_376
  let v356 : Index := Scalar.indexCast v355
  let c0_378 : Index := 0#32
  ![0, v356.toNat, 0]

def k0_chk36 (v354 : BitVec 32) : Prop :=
  (∀ a, (k0_off57 v354) a + S1x64x64.size a ≤ S2x4096x64.size a)
theorem k0_off57_inb : ∀ (v354 : BitVec 32) (k0_hw36 : k0_chk36 v354), ∀ a, (k0_off57 v354) a + S1x64x64.size a ≤ S2x4096x64.size a := fun v354 k0_hw36 => k0_hw36

def k0_off58 (k0_t1 : Fin k0_t1_loop.trips) : Fin 4 → Nat :=
  let c0_379 : Index := 0#32
  let c0_380 : Index := 0#32
  let c4_381 : Index := 4#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v359 : Index := Scalar.indexCast v334
  ![0, 0, 4, v359.toNat]
def k0_off59 (v360 : BitVec 32) : Fin 3 → Nat :=
  let c0_383 : Index := 0#32
  let c64_i32_382 : BitVec 32 := 64#32
  let v361 : BitVec 32 := Scalar.muli v360 c64_i32_382
  let v362 : Index := Scalar.indexCast v361
  let c0_384 : Index := 0#32
  ![0, v362.toNat, 0]

def k0_chk37 (v360 : BitVec 32) : Prop :=
  (∀ a, (k0_off59 v360) a + S1x64x64.size a ≤ S2x4096x64.size a)
theorem k0_off59_inb : ∀ (v360 : BitVec 32) (k0_hw37 : k0_chk37 v360), ∀ a, (k0_off59 v360) a + S1x64x64.size a ≤ S2x4096x64.size a := fun v360 k0_hw37 => k0_hw37

def k0_off60 (k0_t1 : Fin k0_t1_loop.trips) : Fin 4 → Nat :=
  let c0_385 : Index := 0#32
  let c0_386 : Index := 0#32
  let c5_387 : Index := 5#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v365 : Index := Scalar.indexCast v334
  ![0, 0, 5, v365.toNat]
def k0_off61 (v366 : BitVec 32) : Fin 3 → Nat :=
  let c0_389 : Index := 0#32
  let c64_i32_388 : BitVec 32 := 64#32
  let v367 : BitVec 32 := Scalar.muli v366 c64_i32_388
  let v368 : Index := Scalar.indexCast v367
  let c0_390 : Index := 0#32
  ![0, v368.toNat, 0]

def k0_chk38 (v366 : BitVec 32) : Prop :=
  (∀ a, (k0_off61 v366) a + S1x64x64.size a ≤ S2x4096x64.size a)
theorem k0_off61_inb : ∀ (v366 : BitVec 32) (k0_hw38 : k0_chk38 v366), ∀ a, (k0_off61 v366) a + S1x64x64.size a ≤ S2x4096x64.size a := fun v366 k0_hw38 => k0_hw38

def k0_off62 (k0_t1 : Fin k0_t1_loop.trips) : Fin 4 → Nat :=
  let c0_391 : Index := 0#32
  let c0_392 : Index := 0#32
  let c6_393 : Index := 6#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v371 : Index := Scalar.indexCast v334
  ![0, 0, 6, v371.toNat]
def k0_off63 (v372 : BitVec 32) : Fin 3 → Nat :=
  let c0_395 : Index := 0#32
  let c64_i32_394 : BitVec 32 := 64#32
  let v373 : BitVec 32 := Scalar.muli v372 c64_i32_394
  let v374 : Index := Scalar.indexCast v373
  let c0_396 : Index := 0#32
  ![0, v374.toNat, 0]

def k0_chk39 (v372 : BitVec 32) : Prop :=
  (∀ a, (k0_off63 v372) a + S1x64x64.size a ≤ S2x4096x64.size a)
theorem k0_off63_inb : ∀ (v372 : BitVec 32) (k0_hw39 : k0_chk39 v372), ∀ a, (k0_off63 v372) a + S1x64x64.size a ≤ S2x4096x64.size a := fun v372 k0_hw39 => k0_hw39

def k0_off64 (k0_t1 : Fin k0_t1_loop.trips) : Fin 4 → Nat :=
  let c0_397 : Index := 0#32
  let c0_398 : Index := 0#32
  let c7_399 : Index := 7#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v377 : Index := Scalar.indexCast v334
  ![0, 0, 7, v377.toNat]
def k0_off65 (v378 : BitVec 32) : Fin 3 → Nat :=
  let c0_401 : Index := 0#32
  let c64_i32_400 : BitVec 32 := 64#32
  let v379 : BitVec 32 := Scalar.muli v378 c64_i32_400
  let v380 : Index := Scalar.indexCast v379
  let c0_402 : Index := 0#32
  ![0, v380.toNat, 0]

def k0_chk40 (v378 : BitVec 32) : Prop :=
  (∀ a, (k0_off65 v378) a + S1x64x64.size a ≤ S2x4096x64.size a)
theorem k0_off65_inb : ∀ (v378 : BitVec 32) (k0_hw40 : k0_chk40 v378), ∀ a, (k0_off65 v378) a + S1x64x64.size a ≤ S2x4096x64.size a := fun v378 k0_hw40 => k0_hw40

def k0_off66 (k0_t1 : Fin k0_t1_loop.trips) : Fin 4 → Nat :=
  let c0_404 : Index := 0#32
  let c1_405 : Index := 1#32
  let c0_406 : Index := 0#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v387 : Index := Scalar.indexCast v334
  ![0, 1, 0, v387.toNat]
def k0_off67 (v388 : BitVec 32) : Fin 3 → Nat :=
  let c1_408 : Index := 1#32
  let c64_i32_407 : BitVec 32 := 64#32
  let v389 : BitVec 32 := Scalar.muli v388 c64_i32_407
  let v390 : Index := Scalar.indexCast v389
  let c0_409 : Index := 0#32
  ![1, v390.toNat, 0]

def k0_chk41 (v388 : BitVec 32) : Prop :=
  (∀ a, (k0_off67 v388) a + S1x64x64.size a ≤ S2x4096x64.size a)
theorem k0_off67_inb : ∀ (v388 : BitVec 32) (k0_hw41 : k0_chk41 v388), ∀ a, (k0_off67 v388) a + S1x64x64.size a ≤ S2x4096x64.size a := fun v388 k0_hw41 => k0_hw41

def k0_off68 (k0_t1 : Fin k0_t1_loop.trips) : Fin 4 → Nat :=
  let c0_410 : Index := 0#32
  let c1_411 : Index := 1#32
  let c1_412 : Index := 1#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v393 : Index := Scalar.indexCast v334
  ![0, 1, 1, v393.toNat]
def k0_off69 (v394 : BitVec 32) : Fin 3 → Nat :=
  let c1_414 : Index := 1#32
  let c64_i32_413 : BitVec 32 := 64#32
  let v395 : BitVec 32 := Scalar.muli v394 c64_i32_413
  let v396 : Index := Scalar.indexCast v395
  let c0_415 : Index := 0#32
  ![1, v396.toNat, 0]

def k0_chk42 (v394 : BitVec 32) : Prop :=
  (∀ a, (k0_off69 v394) a + S1x64x64.size a ≤ S2x4096x64.size a)
theorem k0_off69_inb : ∀ (v394 : BitVec 32) (k0_hw42 : k0_chk42 v394), ∀ a, (k0_off69 v394) a + S1x64x64.size a ≤ S2x4096x64.size a := fun v394 k0_hw42 => k0_hw42

def k0_off70 (k0_t1 : Fin k0_t1_loop.trips) : Fin 4 → Nat :=
  let c0_416 : Index := 0#32
  let c1_417 : Index := 1#32
  let c2_418 : Index := 2#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v399 : Index := Scalar.indexCast v334
  ![0, 1, 2, v399.toNat]
def k0_off71 (v400 : BitVec 32) : Fin 3 → Nat :=
  let c1_420 : Index := 1#32
  let c64_i32_419 : BitVec 32 := 64#32
  let v401 : BitVec 32 := Scalar.muli v400 c64_i32_419
  let v402 : Index := Scalar.indexCast v401
  let c0_421 : Index := 0#32
  ![1, v402.toNat, 0]

def k0_chk43 (v400 : BitVec 32) : Prop :=
  (∀ a, (k0_off71 v400) a + S1x64x64.size a ≤ S2x4096x64.size a)
theorem k0_off71_inb : ∀ (v400 : BitVec 32) (k0_hw43 : k0_chk43 v400), ∀ a, (k0_off71 v400) a + S1x64x64.size a ≤ S2x4096x64.size a := fun v400 k0_hw43 => k0_hw43

def k0_off72 (k0_t1 : Fin k0_t1_loop.trips) : Fin 4 → Nat :=
  let c0_422 : Index := 0#32
  let c1_423 : Index := 1#32
  let c3_424 : Index := 3#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v405 : Index := Scalar.indexCast v334
  ![0, 1, 3, v405.toNat]
def k0_off73 (v406 : BitVec 32) : Fin 3 → Nat :=
  let c1_426 : Index := 1#32
  let c64_i32_425 : BitVec 32 := 64#32
  let v407 : BitVec 32 := Scalar.muli v406 c64_i32_425
  let v408 : Index := Scalar.indexCast v407
  let c0_427 : Index := 0#32
  ![1, v408.toNat, 0]

def k0_chk44 (v406 : BitVec 32) : Prop :=
  (∀ a, (k0_off73 v406) a + S1x64x64.size a ≤ S2x4096x64.size a)
theorem k0_off73_inb : ∀ (v406 : BitVec 32) (k0_hw44 : k0_chk44 v406), ∀ a, (k0_off73 v406) a + S1x64x64.size a ≤ S2x4096x64.size a := fun v406 k0_hw44 => k0_hw44

def k0_off74 (k0_t1 : Fin k0_t1_loop.trips) : Fin 4 → Nat :=
  let c0_428 : Index := 0#32
  let c1_429 : Index := 1#32
  let c4_430 : Index := 4#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v411 : Index := Scalar.indexCast v334
  ![0, 1, 4, v411.toNat]
def k0_off75 (v412 : BitVec 32) : Fin 3 → Nat :=
  let c1_432 : Index := 1#32
  let c64_i32_431 : BitVec 32 := 64#32
  let v413 : BitVec 32 := Scalar.muli v412 c64_i32_431
  let v414 : Index := Scalar.indexCast v413
  let c0_433 : Index := 0#32
  ![1, v414.toNat, 0]

def k0_chk45 (v412 : BitVec 32) : Prop :=
  (∀ a, (k0_off75 v412) a + S1x64x64.size a ≤ S2x4096x64.size a)
theorem k0_off75_inb : ∀ (v412 : BitVec 32) (k0_hw45 : k0_chk45 v412), ∀ a, (k0_off75 v412) a + S1x64x64.size a ≤ S2x4096x64.size a := fun v412 k0_hw45 => k0_hw45

def k0_off76 (k0_t1 : Fin k0_t1_loop.trips) : Fin 4 → Nat :=
  let c0_434 : Index := 0#32
  let c1_435 : Index := 1#32
  let c5_436 : Index := 5#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v417 : Index := Scalar.indexCast v334
  ![0, 1, 5, v417.toNat]
def k0_off77 (v418 : BitVec 32) : Fin 3 → Nat :=
  let c1_438 : Index := 1#32
  let c64_i32_437 : BitVec 32 := 64#32
  let v419 : BitVec 32 := Scalar.muli v418 c64_i32_437
  let v420 : Index := Scalar.indexCast v419
  let c0_439 : Index := 0#32
  ![1, v420.toNat, 0]

def k0_chk46 (v418 : BitVec 32) : Prop :=
  (∀ a, (k0_off77 v418) a + S1x64x64.size a ≤ S2x4096x64.size a)
theorem k0_off77_inb : ∀ (v418 : BitVec 32) (k0_hw46 : k0_chk46 v418), ∀ a, (k0_off77 v418) a + S1x64x64.size a ≤ S2x4096x64.size a := fun v418 k0_hw46 => k0_hw46

def k0_off78 (k0_t1 : Fin k0_t1_loop.trips) : Fin 4 → Nat :=
  let c0_440 : Index := 0#32
  let c1_441 : Index := 1#32
  let c6_442 : Index := 6#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v423 : Index := Scalar.indexCast v334
  ![0, 1, 6, v423.toNat]
def k0_off79 (v424 : BitVec 32) : Fin 3 → Nat :=
  let c1_444 : Index := 1#32
  let c64_i32_443 : BitVec 32 := 64#32
  let v425 : BitVec 32 := Scalar.muli v424 c64_i32_443
  let v426 : Index := Scalar.indexCast v425
  let c0_445 : Index := 0#32
  ![1, v426.toNat, 0]

def k0_chk47 (v424 : BitVec 32) : Prop :=
  (∀ a, (k0_off79 v424) a + S1x64x64.size a ≤ S2x4096x64.size a)
theorem k0_off79_inb : ∀ (v424 : BitVec 32) (k0_hw47 : k0_chk47 v424), ∀ a, (k0_off79 v424) a + S1x64x64.size a ≤ S2x4096x64.size a := fun v424 k0_hw47 => k0_hw47

def k0_off80 (k0_t1 : Fin k0_t1_loop.trips) : Fin 4 → Nat :=
  let c0_446 : Index := 0#32
  let c1_447 : Index := 1#32
  let c7_448 : Index := 7#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let v429 : Index := Scalar.indexCast v334
  ![0, 1, 7, v429.toNat]
def k0_off81 (v430 : BitVec 32) : Fin 3 → Nat :=
  let c1_450 : Index := 1#32
  let c64_i32_449 : BitVec 32 := 64#32
  let v431 : BitVec 32 := Scalar.muli v430 c64_i32_449
  let v432 : Index := Scalar.indexCast v431
  let c0_451 : Index := 0#32
  ![1, v432.toNat, 0]

def k0_chk48 (v430 : BitVec 32) : Prop :=
  (∀ a, (k0_off81 v430) a + S1x64x64.size a ≤ S2x4096x64.size a)
theorem k0_off81_inb : ∀ (v430 : BitVec 32) (k0_hw48 : k0_chk48 v430), ∀ a, (k0_off81 v430) a + S1x64x64.size a ≤ S2x4096x64.size a := fun v430 k0_hw48 => k0_hw48

def k0_off82 (k0_t1 : Fin k0_t1_loop.trips) : Fin 3 → Nat :=
  let c0_454 : Index := 0#32
  let c1_i32 : BitVec 32 := 1#32
  let c1_i32_133 : BitVec 32 := 1#32
  let arg8 : BitVec 32 := Scf.iv c1_i32 c1_i32_133 k0_t1
  let c1_i32_354 : BitVec 32 := 1#32
  let v334 : BitVec 32 := Scalar.subi arg8 c1_i32_354
  let c64_i32_453 : BitVec 32 := 64#32
  let v440 : BitVec 32 := Scalar.muli v334 c64_i32_453
  let v441 : Index := Scalar.indexCast v440
  let c0_455 : Index := 0#32
  ![0, v441.toNat, 0]
def k0_off83 (v125 : BitVec 32) : Fin 3 → Nat :=
  let c0_139 : Index := 0#32
  let c64_i32_138 : BitVec 32 := 64#32
  let v126 : BitVec 32 := Scalar.muli v125 c64_i32_138
  let v127 : Index := Scalar.indexCast v126
  let c0_140 : Index := 0#32
  ![0, v127.toNat, 0]

def k0_chk49 (v125 : BitVec 32) : Prop :=
  (∀ a, (k0_off83 v125) a + S1x64x64.size a ≤ S2x4096x64.size a)
theorem k0_off83_inb : ∀ (v125 : BitVec 32) (k0_hw49 : k0_chk49 v125), ∀ a, (k0_off83 v125) a + S1x64x64.size a ≤ S2x4096x64.size a := fun v125 k0_hw49 => k0_hw49

def k0_off84 (v130 : BitVec 32) : Fin 3 → Nat :=
  let c0_146 : Index := 0#32
  let c64_i32_145 : BitVec 32 := 64#32
  let v131 : BitVec 32 := Scalar.muli v130 c64_i32_145
  let v132 : Index := Scalar.indexCast v131
  let c0_147 : Index := 0#32
  ![0, v132.toNat, 0]

def k0_chk50 (v130 : BitVec 32) : Prop :=
  (∀ a, (k0_off84 v130) a + S1x64x64.size a ≤ S2x4096x64.size a)
theorem k0_off84_inb : ∀ (v130 : BitVec 32) (k0_hw50 : k0_chk50 v130), ∀ a, (k0_off84 v130) a + S1x64x64.size a ≤ S2x4096x64.size a := fun v130 k0_hw50 => k0_hw50

def k0_off85 (v135 : BitVec 32) : Fin 3 → Nat :=
  let c0_153 : Index := 0#32
  let c64_i32_152 : BitVec 32 := 64#32
  let v136 : BitVec 32 := Scalar.muli v135 c64_i32_152
  let v137 : Index := Scalar.indexCast v136
  let c0_154 : Index := 0#32
  ![0, v137.toNat, 0]

def k0_chk51 (v135 : BitVec 32) : Prop :=
  (∀ a, (k0_off85 v135) a + S1x64x64.size a ≤ S2x4096x64.size a)
theorem k0_off85_inb : ∀ (v135 : BitVec 32) (k0_hw51 : k0_chk51 v135), ∀ a, (k0_off85 v135) a + S1x64x64.size a ≤ S2x4096x64.size a := fun v135 k0_hw51 => k0_hw51

def k0_off86 (v140 : BitVec 32) : Fin 3 → Nat :=
  let c0_160 : Index := 0#32
  let c64_i32_159 : BitVec 32 := 64#32
  let v141 : BitVec 32 := Scalar.muli v140 c64_i32_159
  let v142 : Index := Scalar.indexCast v141
  let c0_161 : Index := 0#32
  ![0, v142.toNat, 0]

def k0_chk52 (v140 : BitVec 32) : Prop :=
  (∀ a, (k0_off86 v140) a + S1x64x64.size a ≤ S2x4096x64.size a)
theorem k0_off86_inb : ∀ (v140 : BitVec 32) (k0_hw52 : k0_chk52 v140), ∀ a, (k0_off86 v140) a + S1x64x64.size a ≤ S2x4096x64.size a := fun v140 k0_hw52 => k0_hw52

def k0_off87 (v145 : BitVec 32) : Fin 3 → Nat :=
  let c0_167 : Index := 0#32
  let c64_i32_166 : BitVec 32 := 64#32
  let v146 : BitVec 32 := Scalar.muli v145 c64_i32_166
  let v147 : Index := Scalar.indexCast v146
  let c0_168 : Index := 0#32
  ![0, v147.toNat, 0]

def k0_chk53 (v145 : BitVec 32) : Prop :=
  (∀ a, (k0_off87 v145) a + S1x64x64.size a ≤ S2x4096x64.size a)
theorem k0_off87_inb : ∀ (v145 : BitVec 32) (k0_hw53 : k0_chk53 v145), ∀ a, (k0_off87 v145) a + S1x64x64.size a ≤ S2x4096x64.size a := fun v145 k0_hw53 => k0_hw53

def k0_off88 (v150 : BitVec 32) : Fin 3 → Nat :=
  let c0_174 : Index := 0#32
  let c64_i32_173 : BitVec 32 := 64#32
  let v151 : BitVec 32 := Scalar.muli v150 c64_i32_173
  let v152 : Index := Scalar.indexCast v151
  let c0_175 : Index := 0#32
  ![0, v152.toNat, 0]

def k0_chk54 (v150 : BitVec 32) : Prop :=
  (∀ a, (k0_off88 v150) a + S1x64x64.size a ≤ S2x4096x64.size a)
theorem k0_off88_inb : ∀ (v150 : BitVec 32) (k0_hw54 : k0_chk54 v150), ∀ a, (k0_off88 v150) a + S1x64x64.size a ≤ S2x4096x64.size a := fun v150 k0_hw54 => k0_hw54

def k0_off89 (v155 : BitVec 32) : Fin 3 → Nat :=
  let c0_181 : Index := 0#32
  let c64_i32_180 : BitVec 32 := 64#32
  let v156 : BitVec 32 := Scalar.muli v155 c64_i32_180
  let v157 : Index := Scalar.indexCast v156
  let c0_182 : Index := 0#32
  ![0, v157.toNat, 0]

def k0_chk55 (v155 : BitVec 32) : Prop :=
  (∀ a, (k0_off89 v155) a + S1x64x64.size a ≤ S2x4096x64.size a)
theorem k0_off89_inb : ∀ (v155 : BitVec 32) (k0_hw55 : k0_chk55 v155), ∀ a, (k0_off89 v155) a + S1x64x64.size a ≤ S2x4096x64.size a := fun v155 k0_hw55 => k0_hw55

def k0_off90 (v160 : BitVec 32) : Fin 3 → Nat :=
  let c0_188 : Index := 0#32
  let c64_i32_187 : BitVec 32 := 64#32
  let v161 : BitVec 32 := Scalar.muli v160 c64_i32_187
  let v162 : Index := Scalar.indexCast v161
  let c0_189 : Index := 0#32
  ![0, v162.toNat, 0]

def k0_chk56 (v160 : BitVec 32) : Prop :=
  (∀ a, (k0_off90 v160) a + S1x64x64.size a ≤ S2x4096x64.size a)
theorem k0_off90_inb : ∀ (v160 : BitVec 32) (k0_hw56 : k0_chk56 v160), ∀ a, (k0_off90 v160) a + S1x64x64.size a ≤ S2x4096x64.size a := fun v160 k0_hw56 => k0_hw56

def k0_off91 (v169 : BitVec 32) : Fin 3 → Nat :=
  let c1_196 : Index := 1#32
  let c64_i32_195 : BitVec 32 := 64#32
  let v170 : BitVec 32 := Scalar.muli v169 c64_i32_195
  let v171 : Index := Scalar.indexCast v170
  let c0_197 : Index := 0#32
  ![1, v171.toNat, 0]

def k0_chk57 (v169 : BitVec 32) : Prop :=
  (∀ a, (k0_off91 v169) a + S1x64x64.size a ≤ S2x4096x64.size a)
theorem k0_off91_inb : ∀ (v169 : BitVec 32) (k0_hw57 : k0_chk57 v169), ∀ a, (k0_off91 v169) a + S1x64x64.size a ≤ S2x4096x64.size a := fun v169 k0_hw57 => k0_hw57

def k0_off92 (v174 : BitVec 32) : Fin 3 → Nat :=
  let c1_203 : Index := 1#32
  let c64_i32_202 : BitVec 32 := 64#32
  let v175 : BitVec 32 := Scalar.muli v174 c64_i32_202
  let v176 : Index := Scalar.indexCast v175
  let c0_204 : Index := 0#32
  ![1, v176.toNat, 0]

def k0_chk58 (v174 : BitVec 32) : Prop :=
  (∀ a, (k0_off92 v174) a + S1x64x64.size a ≤ S2x4096x64.size a)
theorem k0_off92_inb : ∀ (v174 : BitVec 32) (k0_hw58 : k0_chk58 v174), ∀ a, (k0_off92 v174) a + S1x64x64.size a ≤ S2x4096x64.size a := fun v174 k0_hw58 => k0_hw58

def k0_off93 (v179 : BitVec 32) : Fin 3 → Nat :=
  let c1_210 : Index := 1#32
  let c64_i32_209 : BitVec 32 := 64#32
  let v180 : BitVec 32 := Scalar.muli v179 c64_i32_209
  let v181 : Index := Scalar.indexCast v180
  let c0_211 : Index := 0#32
  ![1, v181.toNat, 0]

def k0_chk59 (v179 : BitVec 32) : Prop :=
  (∀ a, (k0_off93 v179) a + S1x64x64.size a ≤ S2x4096x64.size a)
theorem k0_off93_inb : ∀ (v179 : BitVec 32) (k0_hw59 : k0_chk59 v179), ∀ a, (k0_off93 v179) a + S1x64x64.size a ≤ S2x4096x64.size a := fun v179 k0_hw59 => k0_hw59

def k0_off94 (v184 : BitVec 32) : Fin 3 → Nat :=
  let c1_217 : Index := 1#32
  let c64_i32_216 : BitVec 32 := 64#32
  let v185 : BitVec 32 := Scalar.muli v184 c64_i32_216
  let v186 : Index := Scalar.indexCast v185
  let c0_218 : Index := 0#32
  ![1, v186.toNat, 0]

def k0_chk60 (v184 : BitVec 32) : Prop :=
  (∀ a, (k0_off94 v184) a + S1x64x64.size a ≤ S2x4096x64.size a)
theorem k0_off94_inb : ∀ (v184 : BitVec 32) (k0_hw60 : k0_chk60 v184), ∀ a, (k0_off94 v184) a + S1x64x64.size a ≤ S2x4096x64.size a := fun v184 k0_hw60 => k0_hw60

def k0_off95 (v189 : BitVec 32) : Fin 3 → Nat :=
  let c1_224 : Index := 1#32
  let c64_i32_223 : BitVec 32 := 64#32
  let v190 : BitVec 32 := Scalar.muli v189 c64_i32_223
  let v191 : Index := Scalar.indexCast v190
  let c0_225 : Index := 0#32
  ![1, v191.toNat, 0]

def k0_chk61 (v189 : BitVec 32) : Prop :=
  (∀ a, (k0_off95 v189) a + S1x64x64.size a ≤ S2x4096x64.size a)
theorem k0_off95_inb : ∀ (v189 : BitVec 32) (k0_hw61 : k0_chk61 v189), ∀ a, (k0_off95 v189) a + S1x64x64.size a ≤ S2x4096x64.size a := fun v189 k0_hw61 => k0_hw61

def k0_off96 (v194 : BitVec 32) : Fin 3 → Nat :=
  let c1_231 : Index := 1#32
  let c64_i32_230 : BitVec 32 := 64#32
  let v195 : BitVec 32 := Scalar.muli v194 c64_i32_230
  let v196 : Index := Scalar.indexCast v195
  let c0_232 : Index := 0#32
  ![1, v196.toNat, 0]

def k0_chk62 (v194 : BitVec 32) : Prop :=
  (∀ a, (k0_off96 v194) a + S1x64x64.size a ≤ S2x4096x64.size a)
theorem k0_off96_inb : ∀ (v194 : BitVec 32) (k0_hw62 : k0_chk62 v194), ∀ a, (k0_off96 v194) a + S1x64x64.size a ≤ S2x4096x64.size a := fun v194 k0_hw62 => k0_hw62

def k0_off97 (v199 : BitVec 32) : Fin 3 → Nat :=
  let c1_238 : Index := 1#32
  let c64_i32_237 : BitVec 32 := 64#32
  let v200 : BitVec 32 := Scalar.muli v199 c64_i32_237
  let v201 : Index := Scalar.indexCast v200
  let c0_239 : Index := 0#32
  ![1, v201.toNat, 0]

def k0_chk63 (v199 : BitVec 32) : Prop :=
  (∀ a, (k0_off97 v199) a + S1x64x64.size a ≤ S2x4096x64.size a)
theorem k0_off97_inb : ∀ (v199 : BitVec 32) (k0_hw63 : k0_chk63 v199), ∀ a, (k0_off97 v199) a + S1x64x64.size a ≤ S2x4096x64.size a := fun v199 k0_hw63 => k0_hw63

def k0_off98 (v204 : BitVec 32) : Fin 3 → Nat :=
  let c1_245 : Index := 1#32
  let c64_i32_244 : BitVec 32 := 64#32
  let v205 : BitVec 32 := Scalar.muli v204 c64_i32_244
  let v206 : Index := Scalar.indexCast v205
  let c0_246 : Index := 0#32
  ![1, v206.toNat, 0]

def k0_chk64 (v204 : BitVec 32) : Prop :=
  (∀ a, (k0_off98 v204) a + S1x64x64.size a ≤ S2x4096x64.size a)
theorem k0_off98_inb : ∀ (v204 : BitVec 32) (k0_hw64 : k0_chk64 v204), ∀ a, (k0_off98 v204) a + S1x64x64.size a ≤ S2x4096x64.size a := fun v204 k0_hw64 => k0_hw64

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .smem S1x2x8x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.LutForm.lean ====
module

public import proofs.«01_k».proof.Proof.Gen.KernelIdeal.Skeleton
public import Idealize.ShloMosaic.Lib.Pipeline.FrameBody
public import Idealize.ShloMosaic.Lib.Pipeline.ReadBack
public import Idealize.ShloMosaic.Lib.Pointwise

@[expose] public section

/-! What the table kernel computes from one window of queries and one of keys: eight times, per row of the pooled scores,
the least column that attains the maximum, that entry then struck out. -/

set_option maxRecDepth 16384

noncomputable section

namespace Cert.KernelIdeal.Lut

open Idealize.ShloMosaic Idealize.ShloMosaic.TcCoe Idealize.ShloMosaic.Tactic
open Cert.KernelIdeal Cert.KernelIdeal.Gen

variable {F : FTy → Type} [FloatOps F]

/-- The column numbers. -/
def colNo : IVec S64x64 32 := iota .tc S64x64 32 [1] iota_S64x64_d1_w32

/-- Per row, the least column whose entry equals the row's maximum, and 64 where none does. -/
def best (s : FVec F S64x64 .f32) : IVec S64 32 :=
  multiReductionI .minsi [1] S64
    (select (cmpf .oeq s (broadcastTo S64x64 (shapeCast S64x1 (multiReduction .maximumf [1] S64 s 0xFF800000#32 reduces_S64x64_S64 (.inl rfl) rfl) shapeCasts_S64_S64x1) broadcasts_S64x1_S64x64))
      colNo (broadcast S64x64 64#32))
    2147483647#32 reduces_S64x64_S64 rfl

/-- The scores with that column of each row struck out. -/
def strike (s : FVec F S64x64 .f32) : FVec F S64x64 .f32 :=
  select (cmpi .eq colNo (broadcastTo S64x64 (shapeCast S64x1 (best s) shapeCasts_S64_S64x1) broadcasts_S64x1_S64x64))
    (broadcast S64x64 (Scalar.ofBits .f32 0xFF800000#32)) s

/-- The scores after `t` columns have been struck out. -/
def struck (s : FVec F S64x64 .f32) : ℕ → FVec F S64x64 .f32
  | 0 => s
  | t + 1 => strike (struck s t)

/-- The pooled scores of a head. -/
def pooled (p : Fin 2) (x0 x1 : Vec F S1x4096x128 .f32) : FVec F S64x64 .f32 :=
  match p with
  | 0 => k0_pay7 x0 x1
  | 1 => k0_pay32 (k0_pay5 x0) (k0_pay6 x1)

/-- The window of the table. -/
def lutOut (x0 x1 : Vec F S1x4096x128 .f32) : Vec F S1x2x8x64 .i32 := fun y =>
  best (struck (pooled (y 1) x0 x1) (y 2).val) (ix1 (n0 := 64) (y 3))

/-- One row of the table, as stored. -/
def tableRow (v : IVec S64 32) : IVec S1x1x1x64 32 := shapeCast S1x1x1x64 v shapeCasts_S64_S1x1x1x64

theorem tableRow_at (v : IVec S64 32) (x : S1x1x1x64.Idx) : tableRow v x = v (ix1 (n0 := 64) (x 3)) := by
  unfold tableRow
  pointwise

/-- A stored row is a block of the window of the table. -/
theorem row_block (x0 x1 : Vec F S1x4096x128 .f32) (p : Fin 2) (t : ℕ) (ht : t < 8)
    (inb : ∀ a, (![0, p.val, t, 0] : Fin 4 → Nat) a + S1x1x1x64.size a ≤ S1x2x8x64.size a) (x : S1x1x1x64.Idx) :
    tableRow (best (struck (pooled p x0 x1) t)) x = lutOut x0 x1 ((Rect.unit (s := S1x2x8x64) ![0, p.val, t, 0] S1x1x1x64.size inb).emb x) := by
  rw [tableRow_at]
  have h1 : (x 1).val < 1 := (x 1).isLt
  have h2 : (x 2).val < 1 := (x 2).isLt
  have e1 : ((Rect.unit (s := S1x2x8x64) ![0, p.val, t, 0] S1x1x1x64.size inb).emb x) 1 = p :=
    Fin.ext (by show p.val + 1 * (x 1).val = p.val; omega)
  have e2 : (((Rect.unit (s := S1x2x8x64) ![0, p.val, t, 0] S1x1x1x64.size inb).emb x) 2).val = t := by show t + 1 * (x 2).val = t; omega
  have e3 : ((Rect.unit (s := S1x2x8x64) ![0, p.val, t, 0] S1x1x1x64.size inb).emb x) 3 = x 3 :=
    Fin.ext (by show 0 + 1 * (x 3).val = (x 3).val; omega)
  unfold lutOut
  rw [e2, e1, e3]

end Cert.KernelIdeal.Lut

end
-- ==== Proof.TopBlocks.lean ====
module

public import Idealize.ShloMosaic.Lib.SortPrefix
public import Mathlib.Data.EReal.Basic
public import Mathlib.Data.Finset.Max

@[expose] public section

/-! Picking the greatest of 64 entries again and again, the one picked struck out each time, is the head of the stable
    descending sort. -/

noncomputable section

namespace Cert.Top

open Idealize.ShloMosaic

/-- Position `p` is sorted ahead of `q`: its entry is greater, or the entries are equal and it is the earlier one. -/
def ahead (f : Fin 64 → EReal) (p q : Fin 64) : Bool := decide (f q < f p) || (decide (f p = f q) && decide (p < q))

theorem ahead_total (f : Fin 64 → EReal) : StrictTotalBefore (ahead f) :=
  StrictTotalBefore.of_key_then_position (fun a b : EReal => decide (b < a)) f (fun a => by simp)
    (fun a b c h h' => by simp only [decide_eq_true_eq] at h h' ⊢; exact lt_trans h' h)
    (fun a b => by
      rcases lt_trichotomy a b with h | h | h
      · exact .inr (.inr (by simpa using h))
      · exact .inr (.inl h)
      · exact .inl (by simpa using h))

/-- A stable sort of positions in order asks its comparator only of a later and an earlier position. -/
theorem stableSort_of_later {n : ℕ} (R R' : Fin n → Fin n → Bool) (h : ∀ a b, a < b → R b a = R' b a) :
    ∀ l : List (Fin n), l.Pairwise (· < ·) → stableSort R l = stableSort R' l
  | [], _ => rfl
  | a :: l, hl => by
      have hl' := List.pairwise_cons.mp hl
      unfold stableSort
      rw [stableSort_of_later R R' h l hl'.2]
      exact insertBefore_congr R R' a _ fun b hb => h a b (hl'.1 b ((perm_stableSort R' l).mem_iff.mp hb))

/-- The stable sort by "greater" is the sort by `ahead`. -/
theorem sortedFrom_greater (f : Fin 64 → EReal) : sortedFrom (fun k k' => decide (f k' < f k)) = sortedFrom (ahead f) := by
  funext k
  unfold sortedFrom
  have e : sortPositions 64 (fun k k' => decide (f k' < f k)) = sortPositions 64 (ahead f) :=
    stableSort_of_later _ _ (fun a b hab => by
      unfold ahead
      have : ¬ b < a := not_lt.mpr hab.le
      simp [this]) _ (List.pairwise_lt_finRange 64)
  have hg : ∀ (L L' : List (Fin 64)) (e : L = L') (h : 64 = L.length) (h' : 64 = L'.length), L.get (k.cast h) = L'.get (k.cast h') := by
    intro L L' e h h'; subst e; rfl
  exact hg _ _ e _ _

theorem tops_nonempty (f : Fin 64 → EReal) : (Finset.univ.filter fun p => ∀ q, f q ≤ f p).Nonempty := by
  obtain ⟨p, -, hp⟩ := Finset.exists_max_image Finset.univ f Finset.univ_nonempty
  exact ⟨p, Finset.mem_filter.mpr ⟨Finset.mem_univ _, fun q => hp q (Finset.mem_univ _)⟩⟩

/-- The first position of the greatest entry. -/
def firstMax (f : Fin 64 → EReal) : Fin 64 := (Finset.univ.filter fun p => ∀ q, f q ≤ f p).min' (tops_nonempty f)

theorem le_firstMax (f : Fin 64 → EReal) (q : Fin 64) : f q ≤ f (firstMax f) :=
  (Finset.mem_filter.mp (Finset.min'_mem _ (tops_nonempty f))).2 q

theorem firstMax_le (f : Fin 64 → EReal) (p : Fin 64) (h : ∀ q, f q ≤ f p) : firstMax f ≤ p :=
  Finset.min'_le _ _ (Finset.mem_filter.mpr ⟨Finset.mem_univ _, h⟩)

/-- The entries after `t` picks: the picked ones at minus infinity. -/
def mask (f : Fin 64 → EReal) : ℕ → Fin 64 → EReal
  | 0 => f
  | t + 1 => Function.update (mask f t) (firstMax (mask f t)) ⊥

/-- The `t`-th pick. -/
def pick (f : Fin 64 → EReal) (t : ℕ) : Fin 64 := firstMax (mask f t)

theorem mask_picked (f : Fin 64 → EReal) (t : ℕ) : ∀ s < t, mask f t (pick f s) = ⊥ := by
  induction t with
  | zero => exact fun s h => absurd h (Nat.not_lt_zero _)
  | succ t ih =>
    intro s hs
    unfold mask
    by_cases e : pick f s = firstMax (mask f t)
    · rw [e, Function.update_self]
    · rw [Function.update_of_ne e]
      refine ih s (lt_of_le_of_ne (Nat.lt_succ_iff.mp hs) fun h => e ?_)
      subst h; rfl

theorem mask_other (f : Fin 64 → EReal) (t : ℕ) (p : Fin 64) (h : ∀ s < t, pick f s ≠ p) : mask f t p = f p := by
  induction t with
  | zero => rfl
  | succ t ih =>
    unfold mask
    rw [Function.update_of_ne (show p ≠ firstMax (mask f t) from fun e => h t (Nat.lt_succ_self t) e.symm)]
    exact ih fun s hs => h s (Nat.lt_succ_of_lt hs)

variable {f : Fin 64 → EReal} (hf : ∀ p, f p ≠ ⊥)
include hf

theorem pick_new {t : ℕ} (ht : t < 64) : ∀ s < t, pick f s ≠ pick f t := by
  intro s hs e
  have hbot : mask f t (pick f t) = ⊥ := e ▸ mask_picked f t s hs
  have : ∃ p, ∀ s < t, pick f s ≠ p := by
    by_contra hc
    push Not at hc
    have hsub : (Finset.univ : Finset (Fin 64)) ⊆ (Finset.range t).image (pick f) := fun p _ => by
      obtain ⟨s, hs, rfl⟩ := hc p
      exact Finset.mem_image.mpr ⟨s, Finset.mem_range.mpr hs, rfl⟩
    have := (Finset.card_le_card hsub).trans Finset.card_image_le
    simp at this
    omega
  obtain ⟨p, hp⟩ := this
  have := le_firstMax (mask f t) p
  rw [mask_other f t p hp, show firstMax (mask f t) = pick f t from rfl, hbot] at this
  exact hf p (le_bot_iff.mp this)

theorem not_ahead_pick {t : ℕ} (ht : t < 64) (p : Fin 64) (hp : ∀ s < t, pick f s ≠ p) : ahead f p (pick f t) = false := by
  have e : mask f t (pick f t) = f (pick f t) := mask_other f t _ (pick_new hf ht)
  have hle : f p ≤ f (pick f t) := by
    have := le_firstMax (mask f t) p
    rwa [mask_other f t p hp, show firstMax (mask f t) = pick f t from rfl, e] at this
  unfold ahead
  rw [Bool.or_eq_false_iff]
  refine ⟨by simpa using hle, ?_⟩
  by_cases h : f p = f (pick f t)
  · have : pick f t ≤ p := firstMax_le (mask f t) p fun q => by
      rw [mask_other f t p hp, h, ← e]; exact le_firstMax (mask f t) q
    simp [not_lt.mpr this]
  · simp [h]

/-- The `t`-th pick is the `t`-th of the descending sort. -/
theorem sortedFrom_eq_pick (t : Fin 8) : sortedFrom (fun k k' => decide (f k' < f k)) (t.castLE (by decide : 8 ≤ 64)) = pick f t.val := by
  rw [sortedFrom_greater]
  refine (ahead_total f).sortedFrom_eq_of_prefix (by decide) (fun t : Fin 8 => pick f t.val) ?_ ?_ ?_ t
  · intro i j e
    by_contra hne
    rcases lt_or_gt_of_ne (fun h => hne (Fin.ext h) : i.val ≠ j.val) with h | h
    · exact pick_new hf (by omega) i.val h e
    · exact pick_new hf (by omega) j.val h e.symm
  · intro i j hij
    exact not_ahead_pick hf (by omega) _ fun s hs => pick_new hf (by omega) s (hs.trans hij)
  · intro i p hp
    exact not_ahead_pick hf (by omega) p fun s hs => hp ⟨s, by omega⟩

end Cert.Top
-- ==== Proof.LutBest.lean ====
module

public import proofs.«01_k».proof.Proof.LutForm
public import proofs.«01_k».proof.Proof.TopBlocks
public import Idealize.ShloMosaic.PureOps.Ideal.Laws
public import Idealize.ShloMosaic.Lib.SortNet.Extract
public import Idealize.ShloMosaic.Lib.Pointwise

@[expose] public section

/-! At the exact values: the best column of a row of scores is the first position of its greatest entry. -/

set_option maxRecDepth 16384

noncomputable section

namespace Cert.KernelIdeal.Lut

open Idealize.ShloMosaic Idealize.ShloMosaic.TcCoe Idealize.ShloMosaic.Tactic
open Cert.KernelIdeal Cert.KernelIdeal.Gen Cert.Top Idealize.ShloMosaic.Ideal Idealize.ShloMosaic.SortNet

/-- Row `r` of a square of scores. -/
def row (s : FVec Ideal S64x64 .f32) (r : Fin 64) : Fin 64 → EReal := fun j => s (ix2 (n0 := 64) (n1 := 64) r j)

theorem lift_row (h : S64x64.Reduces [1] S64) (r : Fin 64) (j : Fin 64) :
    h.lift (ix1 (n0 := 64) r) j = ix2 (n0 := 64) (n1 := 64) r j := by
  funext a; fin_cases a <;> rfl

theorem negInf : (FloatOps.ofBits .f32 0xFF800000#32 : Ideal .f32) = (⊥ : EReal) := by
  show Ideal.ofBits .f32 0xFF800000#32 = (⊥ : EReal)
  simp [Ideal.ofBits, Ideal.ieee]

/-- The maximum of a row is its entry at the first greatest position. -/
theorem rowMax (s : FVec Ideal S64x64 .f32) (r : Fin 64) :
    multiReduction .maximumf [1] S64 s 0xFF800000#32 reduces_S64x64_S64 (.inl rfl) rfl (ix1 (n0 := 64) r)
      = row s r (firstMax (row s r)) := by
  refine (multiReduction_maximumf_single _ _ _ _ _ _).trans ?_
  have e : (s ∘ (reduces_S64x64_S64).lift (ix1 (n0 := 64) r)) = row s r := by
    funext j; exact congrArg s (lift_row _ r j)
  rw [e, negInf]
  refine le_antisymm ?_ ?_
  · exact (Finset.fold_max_le _).mpr ⟨bot_le, fun j _ => le_firstMax _ j⟩
  · exact (Finset.le_fold_max _).mpr (.inr ⟨_, Finset.mem_univ _, le_rfl⟩)

/-- The column number where the row has its maximum, 64 elsewhere. -/
def hitCol (f : Fin 64 → EReal) (j : Fin 64) : BitVec 32 := if f j = f (firstMax f) then BitVec.ofNat 32 j.val else 64#32

theorem hitCol_toInt (f : Fin 64 → EReal) (j : Fin 64) : (hitCol f j).toInt = if f j = f (firstMax f) then (j.val : ℤ) else 64 := by
  have : ∀ j : Fin 64, (BitVec.ofNat 32 j.val).toInt = (j.val : ℤ) := by decide
  unfold hitCol; split
  · exact this j
  · rfl

theorem fold_hitCol (f : Fin 64 → EReal) :
    (Finset.univ : Finset (Fin 64)).fold IntOp.minsi 2147483647#32 (hitCol f) = BitVec.ofNat 32 (firstMax f).val := by
  have hcast : ∀ j : Fin 64, (BitVec.ofNat 32 j.val).toInt = (j.val : ℤ) := by decide
  apply BitVec.eq_of_toInt_eq
  rw [hcast, ← Finset.fold_hom (m := BitVec.toInt) (op' := min) toInt_minsi]
  refine le_antisymm ?_ ?_
  · refine (Finset.fold_min_le _).mpr (.inr ⟨firstMax f, Finset.mem_univ _, ?_⟩)
    rw [hitCol_toInt, if_pos rfl]
  · refine (Finset.le_fold_min _).mpr ⟨?_, fun j _ => ?_⟩
    · rw [show (2147483647#32 : BitVec 32).toInt = 2147483647 from rfl]
      have := (firstMax f).isLt; omega
    · rw [hitCol_toInt]
      split
      · rename_i e
        have : firstMax f ≤ j := firstMax_le f j fun q => e ▸ le_firstMax f q
        exact_mod_cast this
      · have := (firstMax f).isLt; omega

/-- The comparison with a per-row value, read at one entry. -/
theorem select_apply (s : FVec Ideal S64x64 .f32) (m : FVec Ideal S64 .f32) (r j : Fin 64) :
    select (cmpf .oeq s (broadcastTo S64x64 (shapeCast S64x1 m shapeCasts_S64_S64x1) broadcasts_S64x1_S64x64))
      colNo (broadcast S64x64 64#32) (ix2 (n0 := 64) (n1 := 64) r j)
      = if s (ix2 (n0 := 64) (n1 := 64) r j) = m (ix1 (n0 := 64) r) then BitVec.ofNat 32 j.val else 64#32 := by
  unfold colNo
  pointwise

/-- The best column of row `r`. -/
theorem best_apply (s : FVec Ideal S64x64 .f32) (r : Fin 64) :
    best s (ix1 (n0 := 64) r) = BitVec.ofNat 32 (firstMax (row s r)).val := by
  unfold best
  refine (multiReductionI_eq_fold _ _ _ _ _ _).trans (((reduces_S64x64_S64).fold_filter_drop_single _ _ _ _).trans ?_)
  rw [← fold_hitCol]
  refine congrArg (fun g => (Finset.univ : Finset (Fin 64)).fold IntOp.minsi 2147483647#32 g) ?_
  funext j
  refine (congrArg _ (lift_row _ r j)).trans ((select_apply s _ r j).trans ?_)
  refine (congrArg (fun M => if s (ix2 (n0 := 64) (n1 := 64) r j) = M then BitVec.ofNat 32 j.val else 64#32) (rowMax s r)).trans ?_
  rfl

/-- Striking out the best column puts minus infinity there. -/
theorem row_strike (s : FVec Ideal S64x64 .f32) (r : Fin 64) :
    row (strike s) r = Function.update (row s r) (firstMax (row s r)) ⊥ := by
  have key : ∀ (b : IVec S64 32) (j : Fin 64),
      select (cmpi .eq colNo (broadcastTo S64x64 (shapeCast S64x1 b shapeCasts_S64_S64x1) broadcasts_S64x1_S64x64))
        (broadcast S64x64 (Scalar.ofBits .f32 0xFF800000#32)) s (ix2 (n0 := 64) (n1 := 64) r j)
        = if BitVec.ofNat 32 j.val = b (ix1 (n0 := 64) r) then (⊥ : EReal) else s (ix2 (n0 := 64) (n1 := 64) r j) := by
    intro b j
    unfold colNo
    pointwise
    by_cases e : BitVec.ofNat 32 j.val = b (ix1 (n0 := 64) r)
    · rw [if_pos e]; simp only [Scalar.select, IntOp.cmpi, e, BEq.rfl]; exact negInf
    · rw [if_neg e]; simp only [Scalar.select, IntOp.cmpi, beq_eq_false_iff_ne.mpr e]; rfl
  funext j
  refine (key (best s) j).trans ?_
  rw [best_apply]
  have hinj : ∀ a b : Fin 64, BitVec.ofNat 32 a.val = BitVec.ofNat 32 b.val → a = b := by
    intro a b h
    have h' := congrArg BitVec.toNat h
    simp only [BitVec.toNat_ofNat] at h'
    exact Fin.ext (by omega)
  by_cases e : j = firstMax (row s r)
  · subst e; simp
  · rw [Function.update_of_ne e, if_neg fun h => e (hinj _ _ h)]
    rfl

/-- After `t` picks, a row of the struck square is the row's mask. -/
theorem row_struck (s : FVec Ideal S64x64 .f32) (r : Fin 64) : ∀ t, row (struck s t) r = mask (row s r) t
  | 0 => rfl
  | t + 1 => by
      unfold struck mask
      rw [row_strike, row_struck s r t]

/-- A table entry is the pick of its row. -/
theorem lutOut_apply (x0 x1 : Vec Ideal S1x4096x128 .f32) (y : S1x2x8x64.Idx) :
    lutOut x0 x1 y = BitVec.ofNat 32 (pick (row (pooled (y 1) x0 x1) (y 3)) (y 2).val).val := by
  unfold lutOut pick
  refine (best_apply _ (y 3)).trans ?_
  exact congrArg (fun g => BitVec.ofNat 32 (firstMax g).val) (row_struck _ (y 3) _)

end Cert.KernelIdeal.Lut
-- ==== Proof.LutSteps.lean ====
module

public import proofs.«01_k».proof.Proof.LutForm

@[expose] public section

/-! The values the table kernel's body computes, in the words of `best` and `strike`. -/

set_option maxRecDepth 16384

noncomputable section

namespace Cert.KernelIdeal.Lut

open Idealize.ShloMosaic Idealize.ShloMosaic.TcCoe Idealize.ShloMosaic.Tactic
open Cert.KernelIdeal Cert.KernelIdeal.Gen

variable {F : FTy → Type} [FloatOps F]

/-- The column numbers where a row's maximum is attained, 64 elsewhere. -/
def sel (s : FVec F S64x64 .f32) : IVec S64x64 32 :=
  select (cmpf .oeq s (broadcastTo S64x64 (shapeCast S64x1 (multiReduction .maximumf [1] S64 s 0xFF800000#32 reduces_S64x64_S64 (.inl rfl) rfl) shapeCasts_S64_S64x1) broadcasts_S64x1_S64x64))
    colNo (broadcast S64x64 64#32)

/-- Each row's best column, along the row. -/
def spread (s : FVec F S64x64 .f32) : IVec S64x64 32 := broadcastTo S64x64 (shapeCast S64x1 (best s) shapeCasts_S64_S64x1) broadcasts_S64x1_S64x64

/-- Where a column is its row's best. -/
def hit (s : FVec F S64x64 .f32) : IVec S64x64 1 := cmpi .eq colNo (spread s)

theorem pay9_eq (x0 x1 : Vec F S1x4096x128 .f32) : k0_pay9 x0 x1 = tableRow (best (k0_pay7 x0 x1)) := rfl
theorem pay10_eq (x0 x1 : Vec F S1x4096x128 .f32) : k0_pay10 x0 x1 = strike (k0_pay7 x0 x1) := rfl
theorem pay11_eq (x0 x1 : Vec F S1x4096x128 .f32) : k0_pay11 x0 x1 = sel (strike (k0_pay7 x0 x1)) := rfl
theorem pay13_eq (s : FVec F S64x64 .f32) : k0_pay13 (sel s) = tableRow (best s) := rfl
theorem pay14_eq (s : FVec F S64x64 .f32) : k0_pay14 (iota .tc S64x64 32 [1] iota_S64x64_d1_w32) s (sel s) = (strike s) := rfl
theorem pay16_eq (s : FVec F S64x64 .f32) : k0_pay16 (iota .tc S64x64 32 [1] iota_S64x64_d1_w32) s (sel s) = tableRow (best (strike s)) := rfl
theorem pay17_eq (s : FVec F S64x64 .f32) : k0_pay17 (iota .tc S64x64 32 [1] iota_S64x64_d1_w32) s (sel s) = (strike (strike s)) := rfl
theorem pay19_eq (s : FVec F S64x64 .f32) : k0_pay19 (iota .tc S64x64 32 [1] iota_S64x64_d1_w32) s (sel s) = tableRow (best (strike (strike s))) := rfl
theorem pay20_eq (s : FVec F S64x64 .f32) : k0_pay20 (iota .tc S64x64 32 [1] iota_S64x64_d1_w32) s (sel s) = spread (strike (strike s)) := rfl
theorem pay21_eq (s : FVec F S64x64 .f32) : k0_pay21 (iota .tc S64x64 32 [1] iota_S64x64_d1_w32) s (spread s) = (strike s) := rfl
theorem pay23_eq (s : FVec F S64x64 .f32) : k0_pay23 (iota .tc S64x64 32 [1] iota_S64x64_d1_w32) s (spread s) = tableRow (best (strike s)) := rfl
theorem pay24_eq (s : FVec F S64x64 .f32) : k0_pay24 (iota .tc S64x64 32 [1] iota_S64x64_d1_w32) s (spread s) = (strike (strike s)) := rfl
theorem pay26_eq (s : FVec F S64x64 .f32) : k0_pay26 (iota .tc S64x64 32 [1] iota_S64x64_d1_w32) s (spread s) = tableRow (best (strike (strike s))) := rfl
theorem pay27_eq (s : FVec F S64x64 .f32) : k0_pay27 (iota .tc S64x64 32 [1] iota_S64x64_d1_w32) s (spread s) = (strike (strike (strike s))) := rfl
theorem pay28_eq (s : FVec F S64x64 .f32) : k0_pay28 (iota .tc S64x64 32 [1] iota_S64x64_d1_w32) s (spread s) = sel (strike (strike (strike s))) := rfl
theorem pay30_eq (s : FVec F S64x64 .f32) : k0_pay30 (sel s) = tableRow (best s) := rfl
theorem pay31_eq (s : FVec F S64x64 .f32) : k0_pay31 (iota .tc S64x64 32 [1] iota_S64x64_d1_w32) s (sel s) = tableRow (best (strike s)) := rfl
theorem pay34_eq (a b : FVec F S64x128 .f32) : k0_pay34 a b (iota .tc S64x64 32 [1] iota_S64x64_d1_w32) = tableRow (best (k0_pay32 a b)) := rfl
theorem pay35_eq (a b : FVec F S64x128 .f32) : k0_pay35 a b (iota .tc S64x64 32 [1] iota_S64x64_d1_w32) = hit (k0_pay32 a b) := rfl
theorem pay38_eq (s : FVec F S64x64 .f32) : k0_pay38 (iota .tc S64x64 32 [1] iota_S64x64_d1_w32) s (hit s) (Scalar.ofBits .f32 0xFF800000#32) = tableRow (best (strike s)) := rfl
theorem pay39_eq (s : FVec F S64x64 .f32) : k0_pay39 (iota .tc S64x64 32 [1] iota_S64x64_d1_w32) s (hit s) (Scalar.ofBits .f32 0xFF800000#32) = (strike (strike s)) := rfl
theorem pay41_eq (s : FVec F S64x64 .f32) : k0_pay41 (iota .tc S64x64 32 [1] iota_S64x64_d1_w32) s (hit s) (Scalar.ofBits .f32 0xFF800000#32) = tableRow (best (strike (strike s))) := rfl
theorem pay42_eq (s : FVec F S64x64 .f32) : k0_pay42 (iota .tc S64x64 32 [1] iota_S64x64_d1_w32) s (hit s) (Scalar.ofBits .f32 0xFF800000#32) = (strike (strike (strike s))) := rfl
theorem pay43_eq (s : FVec F S64x64 .f32) : k0_pay43 (iota .tc S64x64 32 [1] iota_S64x64_d1_w32) s (hit s) (Scalar.ofBits .f32 0xFF800000#32) = best (strike (strike (strike s))) := rfl
theorem pay44_eq (s : FVec F S64x64 .f32) : k0_pay44 (best s) = tableRow (best s) := rfl
theorem pay45_eq (s : FVec F S64x64 .f32) : k0_pay45 (iota .tc S64x64 32 [1] iota_S64x64_d1_w32) s (best s) = (strike s) := rfl
theorem pay47_eq (s : FVec F S64x64 .f32) : k0_pay47 (iota .tc S64x64 32 [1] iota_S64x64_d1_w32) s (best s) = tableRow (best (strike s)) := rfl
theorem pay48_eq (s : FVec F S64x64 .f32) : k0_pay48 (iota .tc S64x64 32 [1] iota_S64x64_d1_w32) s (best s) = (strike (strike s)) := rfl
theorem pay50_eq (s : FVec F S64x64 .f32) : k0_pay50 (iota .tc S64x64 32 [1] iota_S64x64_d1_w32) s (best s) = tableRow (best (strike (strike s))) := rfl
theorem pay51_eq (s : FVec F S64x64 .f32) : k0_pay51 (iota .tc S64x64 32 [1] iota_S64x64_d1_w32) s (best s) = hit (strike (strike s)) := rfl
theorem pay3_eq (s : FVec F S64x64 .f32) : k0_pay3 (iota .tc S64x64 32 [1] iota_S64x64_d1_w32) s (hit s) (Scalar.ofBits .f32 0xFF800000#32) = tableRow (best (strike s)) := rfl
theorem pay4_eq (s : FVec F S64x64 .f32) : k0_pay4 (iota .tc S64x64 32 [1] iota_S64x64_d1_w32) s (hit s) (Scalar.ofBits .f32 0xFF800000#32) = tableRow (best (strike (strike s))) := rfl

end Cert.KernelIdeal.Lut

end
-- ==== Proof.LutRun.lean ====
module

public import proofs.«01_k».proof.Proof.LutSteps
public import Idealize.ShloMosaic.Lib.WholeRead
public import Idealize.ShloMosaic.Lib.Tactic

@[expose] public section

/-! The table kernel's body: it ends with its result's window at the table of its two windows read. -/

set_option maxRecDepth 16384

noncomputable section

namespace Cert.KernelIdeal.Lut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The sixteen stores of the table's rows, last first. -/
def rows (x0 x1 : Vec F S1x4096x128 .f32) : List (View.Piece (Elt F) S1x2x8x64 .i32) :=
  [(⟨Rect.unit (s := S1x2x8x64) ![0, 1, 7, 0] S1x1x1x64.size inb_S1x2x8x64_S1x1x1x64_0_1_7_0, tableRow (best (struck (pooled 1 x0 x1) 7))⟩ : View.Piece (Elt F) S1x2x8x64 .i32),
    (⟨Rect.unit (s := S1x2x8x64) ![0, 1, 6, 0] S1x1x1x64.size inb_S1x2x8x64_S1x1x1x64_0_1_6_0, tableRow (best (struck (pooled 1 x0 x1) 6))⟩ : View.Piece (Elt F) S1x2x8x64 .i32),
    (⟨Rect.unit (s := S1x2x8x64) ![0, 1, 5, 0] S1x1x1x64.size inb_S1x2x8x64_S1x1x1x64_0_1_5_0, tableRow (best (struck (pooled 1 x0 x1) 5))⟩ : View.Piece (Elt F) S1x2x8x64 .i32),
    (⟨Rect.unit (s := S1x2x8x64) ![0, 1, 4, 0] S1x1x1x64.size inb_S1x2x8x64_S1x1x1x64_0_1_4_0, tableRow (best (struck (pooled 1 x0 x1) 4))⟩ : View.Piece (Elt F) S1x2x8x64 .i32),
    (⟨Rect.unit (s := S1x2x8x64) ![0, 1, 3, 0] S1x1x1x64.size inb_S1x2x8x64_S1x1x1x64_0_1_3_0, tableRow (best (struck (pooled 1 x0 x1) 3))⟩ : View.Piece (Elt F) S1x2x8x64 .i32),
    (⟨Rect.unit (s := S1x2x8x64) ![0, 1, 2, 0] S1x1x1x64.size inb_S1x2x8x64_S1x1x1x64_0_1_2_0, tableRow (best (struck (pooled 1 x0 x1) 2))⟩ : View.Piece (Elt F) S1x2x8x64 .i32),
    (⟨Rect.unit (s := S1x2x8x64) ![0, 1, 1, 0] S1x1x1x64.size inb_S1x2x8x64_S1x1x1x64_0_1_1_0, tableRow (best (struck (pooled 1 x0 x1) 1))⟩ : View.Piece (Elt F) S1x2x8x64 .i32),
    (⟨Rect.unit (s := S1x2x8x64) ![0, 1, 0, 0] S1x1x1x64.size inb_S1x2x8x64_S1x1x1x64_0_1_0_0, tableRow (best (struck (pooled 1 x0 x1) 0))⟩ : View.Piece (Elt F) S1x2x8x64 .i32),
    (⟨Rect.unit (s := S1x2x8x64) ![0, 0, 7, 0] S1x1x1x64.size inb_S1x2x8x64_S1x1x1x64_0_0_7_0, tableRow (best (struck (pooled 0 x0 x1) 7))⟩ : View.Piece (Elt F) S1x2x8x64 .i32),
    (⟨Rect.unit (s := S1x2x8x64) ![0, 0, 6, 0] S1x1x1x64.size inb_S1x2x8x64_S1x1x1x64_0_0_6_0, tableRow (best (struck (pooled 0 x0 x1) 6))⟩ : View.Piece (Elt F) S1x2x8x64 .i32),
    (⟨Rect.unit (s := S1x2x8x64) ![0, 0, 5, 0] S1x1x1x64.size inb_S1x2x8x64_S1x1x1x64_0_0_5_0, tableRow (best (struck (pooled 0 x0 x1) 5))⟩ : View.Piece (Elt F) S1x2x8x64 .i32),
    (⟨Rect.unit (s := S1x2x8x64) ![0, 0, 4, 0] S1x1x1x64.size inb_S1x2x8x64_S1x1x1x64_0_0_4_0, tableRow (best (struck (pooled 0 x0 x1) 4))⟩ : View.Piece (Elt F) S1x2x8x64 .i32),
    (⟨Rect.unit (s := S1x2x8x64) ![0, 0, 3, 0] S1x1x1x64.size inb_S1x2x8x64_S1x1x1x64_0_0_3_0, tableRow (best (struck (pooled 0 x0 x1) 3))⟩ : View.Piece (Elt F) S1x2x8x64 .i32),
    (⟨Rect.unit (s := S1x2x8x64) ![0, 0, 2, 0] S1x1x1x64.size inb_S1x2x8x64_S1x1x1x64_0_0_2_0, tableRow (best (struck (pooled 0 x0 x1) 2))⟩ : View.Piece (Elt F) S1x2x8x64 .i32),
    (⟨Rect.unit (s := S1x2x8x64) ![0, 0, 1, 0] S1x1x1x64.size inb_S1x2x8x64_S1x1x1x64_0_0_1_0, tableRow (best (struck (pooled 0 x0 x1) 1))⟩ : View.Piece (Elt F) S1x2x8x64 .i32),
    (⟨Rect.unit (s := S1x2x8x64) ![0, 0, 0, 0] S1x1x1x64.size inb_S1x2x8x64_S1x1x1x64_0_0_0_0, tableRow (best (struck (pooled 0 x0 x1) 0))⟩ : View.Piece (Elt F) S1x2x8x64 .i32)]

/-- The rows fill the window. -/
theorem rows_cover (x0 x1 : Vec F S1x4096x128 .f32) (y : S1x2x8x64.Idx) : ∃ q ∈ rows x0 x1, y ∈ q.1.set :=
  View.cover_of_tiled (rows x0 x1) S1x1x1x64.size (by rfl) y

/-- A buffer that ends with these stores reads as the window of the table. -/
theorem read_rows {sp : Space} (v : View sig .tc sp S1x2x8x64 .i32) (f : v.ty.Contents (Elt F)) (x0 x1 : Vec F S1x4096x128 .f32) :
    v.read (Elt F) (v.writes (Elt F) f (rows x0 x1)) = lutOut x0 x1 := by
  rw [View.read_writes_eq_canon _ _ _ (rows_cover x0 x1)]
  funext y
  have h := View.canon_append_of_pieces (lutOut x0 x1) [] (rows x0 x1)
    (View.PiecesOf.mem (L := [_, _, _, _, _, _, _, _, _, _, _, _, _, _, _, _]) ⟨row_block x0 x1 1 7 (by decide) inb_S1x2x8x64_S1x1x1x64_0_1_7_0, row_block x0 x1 1 6 (by decide) inb_S1x2x8x64_S1x1x1x64_0_1_6_0, row_block x0 x1 1 5 (by decide) inb_S1x2x8x64_S1x1x1x64_0_1_5_0, row_block x0 x1 1 4 (by decide) inb_S1x2x8x64_S1x1x1x64_0_1_4_0, row_block x0 x1 1 3 (by decide) inb_S1x2x8x64_S1x1x1x64_0_1_3_0, row_block x0 x1 1 2 (by decide) inb_S1x2x8x64_S1x1x1x64_0_1_2_0, row_block x0 x1 1 1 (by decide) inb_S1x2x8x64_S1x1x1x64_0_1_1_0, row_block x0 x1 1 0 (by decide) inb_S1x2x8x64_S1x1x1x64_0_1_0_0, row_block x0 x1 0 7 (by decide) inb_S1x2x8x64_S1x1x1x64_0_0_7_0, row_block x0 x1 0 6 (by decide) inb_S1x2x8x64_S1x1x1x64_0_0_6_0, row_block x0 x1 0 5 (by decide) inb_S1x2x8x64_S1x1x1x64_0_0_5_0, row_block x0 x1 0 4 (by decide) inb_S1x2x8x64_S1x1x1x64_0_0_4_0, row_block x0 x1 0 3 (by decide) inb_S1x2x8x64_S1x1x1x64_0_0_3_0, row_block x0 x1 0 2 (by decide) inb_S1x2x8x64_S1x1x1x64_0_0_2_0, row_block x0 x1 0 1 (by decide) inb_S1x2x8x64_S1x1x1x64_0_0_1_0, row_block x0 x1 0 0 (by decide) inb_S1x2x8x64_S1x1x1x64_0_0_0_0, trivial⟩) y (rows_cover x0 x1 y)
  rwa [List.append_nil] at h

set_option maxHeartbeats 2000000 in
/-- The body's triple. -/
theorem body_run (c : Dev nD) (E : Set ℕ) (i : grid0.Coords) (arg1 : Memref sig .tc .vmem S1x4096x128 .f32) (harg1 : arg1.IsWhole) (arg2 : Memref sig .tc .vmem S1x4096x128 .f32) (harg2 : arg2.IsWhole)
    (arg3 : Memref sig .tc .vmem S1x2x8x64 .i32) (harg3 : arg3.IsWhole) (x0 x1 : Vec F S1x4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (lutOut x0 x1)) -∗ K ⟨⟩))
      ⊢ wp frame (wpE (defs₀ (F := F)) Variants.none c none) E (cc0__lut_kernel i arg1 harg1 arg2 harg2 arg3 harg3) K := by
  simp only [cc0__lut_kernel_eq_skeleton]; unfold cc0__lut_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, Hk⟩
  obtain rfl := harg1.eq_unread hf0; obtain rfl := harg2.eq_unread hf1
  have w0 : arg1.view.readAt (Elt F) (Rect.unit (s := S1x4096x128) ![0, 0, 0] S1x4096x128.size inb_S1x4096x128_S1x4096x128_0_0_0).toLoadRect (harg1.unread x0) = x0 := by
    funext y; rw [harg1.readAt_unread]
    exact congrArg x0 (funext fun a => Fin.ext (by fin_cases a <;> exact (Nat.zero_add _).trans (Nat.one_mul _)))
  have w1 : arg2.view.readAt (Elt F) (Rect.unit (s := S1x4096x128) ![0, 0, 0] S1x4096x128.size inb_S1x4096x128_S1x4096x128_0_0_0).toLoadRect (harg2.unread x1) = x1 := by
    funext y; rw [harg2.readAt_unread]
    exact congrArg x1 (funext fun a => Fin.ext (by fin_cases a <;> exact (Nat.zero_add _).trans (Nat.one_mul _)))
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine Eq.trans (congrArg (fun L => arg3.view.read (Elt F) (arg3.view.writes (Elt F) f2 L)) ?_) (read_rows arg3.view f2 x0 x1)
  sl_unfold_run_names
  simp only [w0, w1, pay9_eq, pay10_eq, pay11_eq, pay13_eq, pay14_eq, pay16_eq, pay17_eq, pay19_eq, pay20_eq, pay21_eq, pay23_eq, pay24_eq, pay26_eq, pay27_eq, pay28_eq, pay30_eq, pay31_eq, pay34_eq, pay35_eq, pay38_eq, pay39_eq, pay41_eq, pay42_eq, pay43_eq, pay44_eq, pay45_eq, pay47_eq, pay48_eq, pay50_eq, pay51_eq, pay3_eq, pay4_eq]
  rfl

end Cert.KernelIdeal.Lut

end
-- ==== Proof.LutData.lean ====
module

public import proofs.«01_k».proof.Proof.LutRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Frame
public import Idealize.ShloMosaic.Lib.Tactic

@[expose] public section

/-! The table kernel as a pipeline over its grid, from any contents of its arrays. -/

set_option maxRecDepth 16384

noncomputable section

namespace Cert.KernelIdeal.Lut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (W : Dev nD → Valuation τ sig (Elt F))

/-- A window's block at a grid point, cut from its array as the call finds it. -/
def block (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The call's proof data: inputs keep their blocks, the output is what the body computes of them. -/
def dat (c : Dev nD) : Dat τ (Elt F) Unit ℕ (UR sig nD τ) ℕ cfg0 c where
  A w := W c (Proc.devRef .tc (Pipeline.arrRef spec0 w))
  after w t := match w with
    | ⟨0, _⟩ => block W c 0 t
    | ⟨1, _⟩ => block W c 1 t
    | ⟨2, _⟩ => lutOut (block W c 0 t) (block W c 1 t)
  Φ _ := Pipeline.ΦA spec0 c
  q _ := fullShare
  owed _ := 0

theorem A_eq (c : Dev nD) (w : Fin cfg0.W) : (dat W c).A w = W c (Proc.devRef .tc (Pipeline.arrRef spec0 w)) := by dsimp only [dat]

theorem after_0 (c : Dev nD) (t : Fin cfg0.N) : (dat W c).after 0 t = block W c 0 t := by dsimp only [dat]
theorem after_1 (c : Dev nD) (t : Fin cfg0.N) : (dat W c).after 1 t = block W c 1 t := by dsimp only [dat]
theorem after_2 (c : Dev nD) (t : Fin cfg0.N) : (dat W c).after 2 t = lutOut (block W c 0 t) (block W c 1 t) := by dsimp only [dat]

theorem before_0 (c : Dev nD) (t : Fin cfg0.N) (d) : (dat W c).before 0 t d = block W c 0 t :=
  ((dat W c).before_in_eq_fetched 0 rfl (fun _ => rfl) (fun _ _ _ => rfl) (fun t => by rw [after_0]; unfold Dat.blockOf block; rw [A_eq]; try rfl) t d).trans
    (by unfold Dat.fetched Dat.blockOf block; rw [A_eq]; try rfl)
theorem before_1 (c : Dev nD) (t : Fin cfg0.N) (d) : (dat W c).before 1 t d = block W c 1 t :=
  ((dat W c).before_in_eq_fetched 1 rfl (fun _ => rfl) (fun _ _ _ => rfl) (fun t => by rw [after_1]; unfold Dat.blockOf block; rw [A_eq]; try rfl) t d).trans
    (by unfold Dat.fetched Dat.blockOf block; rw [A_eq]; try rfl)

/-- What the body is entered with. -/
def entry (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))

/-- What the body leaves. -/
def left (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t))

set_option maxHeartbeats 3200000 in
/-- The body at every point. -/
theorem body_at (c : Dev nD) (t : Fin cfg0.N) :
    entry W c t ⊢ wp frame (wpE (defs₀ (F := F)) Variants.none c none) Set.univ (bodyAt0 t) (fun _ => left W c t) := by
  unfold entry left bodyAt0
  simp only [before_0, before_1]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (body_run c Set.univ (grid0.coords t) _ _ _ _ _ _ (block W c 0 t) (block W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's row in the table of bodies. -/
theorem body_row (t : Fin cfg0.N) : defs₀ (F := F) .tc cfg0.body (cfg0.bodyArgs t (cfg0.slots t)) = bodyAt0 t := by
  unfold defs₀; rw [Defs.onTc_tc]

/-- The library's obligation for the body. -/
theorem obligation (c : Dev nD) : BodyObligation (dat (F := F) W c) (defs₀ (F := F)) Variants.none () Set.univ := fun t => by
  rw [bigSep_W0, bigSep_W0, body_row]
  exact triple_restated (body_at W c t) rfl .rfl fun _ => .rfl

end Cert.KernelIdeal.Lut

end
-- ==== Proof.AttnChecks.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

/-! Every word of the table of selected blocks that is below 64 passes the kernel's side conditions: the block it names
lies inside the 4096 rows of the scratch. -/

noncomputable section

namespace Cert.KernelIdeal.Attn

open Idealize.ShloMosaic Cert.KernelIdeal Cert.KernelIdeal.Gen

/-- Sixty-four times a word below 64 does not wrap. -/
theorem row_of {w : BitVec 32} (h : w.toNat < 64) :
    (Scalar.indexCast (Scalar.muli w 64#32) : Index).toNat = w.toNat * 64 := by
  show (w * 64#32).toNat = _
  rw [BitVec.toNat_mul]
  show w.toNat * 64 % 2^32 = _
  omega

/-- Offsets `h, 64 w, 0` with `h < 2` and `w < 64` leave room for a block of 64 rows. -/
theorem inb_of {w : BitVec 32} (h : w.toNat < 64) (p : Nat) (hp : p < 2) (off : Fin 3 → Nat)
    (ho : off = ![p, (Scalar.indexCast (Scalar.muli w 64#32) : Index).toNat, 0]) :
    ∀ a, off a + S1x64x64.size a ≤ S2x4096x64.size a := by
  subst ho
  rw [row_of h]
  intro a
  fin_cases a
  · show p + 1 ≤ 2; omega
  · show w.toNat * 64 + 64 ≤ 4096; omega
  · show 0 + 64 ≤ 64; omega

theorem chk1_of {w : BitVec 32} (h : w.toNat < 64) : k1_chk1 w := inb_of h 0 (by decide) _ rfl
theorem chk2_of {w : BitVec 32} (h : w.toNat < 64) : k1_chk2 w := inb_of h 0 (by decide) _ rfl
theorem chk3_of {w : BitVec 32} (h : w.toNat < 64) : k1_chk3 w := inb_of h 0 (by decide) _ rfl
theorem chk4_of {w : BitVec 32} (h : w.toNat < 64) : k1_chk4 w := inb_of h 0 (by decide) _ rfl
theorem chk5_of {w : BitVec 32} (h : w.toNat < 64) : k1_chk5 w := inb_of h 0 (by decide) _ rfl
theorem chk6_of {w : BitVec 32} (h : w.toNat < 64) : k1_chk6 w := inb_of h 0 (by decide) _ rfl
theorem chk7_of {w : BitVec 32} (h : w.toNat < 64) : k1_chk7 w := inb_of h 0 (by decide) _ rfl
theorem chk8_of {w : BitVec 32} (h : w.toNat < 64) : k1_chk8 w := inb_of h 0 (by decide) _ rfl
theorem chk9_of {w : BitVec 32} (h : w.toNat < 64) : k1_chk9 w := inb_of h 1 (by decide) _ rfl
theorem chk10_of {w : BitVec 32} (h : w.toNat < 64) : k1_chk10 w := inb_of h 1 (by decide) _ rfl
theorem chk11_of {w : BitVec 32} (h : w.toNat < 64) : k1_chk11 w := inb_of h 1 (by decide) _ rfl
theorem chk12_of {w : BitVec 32} (h : w.toNat < 64) : k1_chk12 w := inb_of h 1 (by decide) _ rfl
theorem chk13_of {w : BitVec 32} (h : w.toNat < 64) : k1_chk13 w := inb_of h 1 (by decide) _ rfl
theorem chk14_of {w : BitVec 32} (h : w.toNat < 64) : k1_chk14 w := inb_of h 1 (by decide) _ rfl
theorem chk15_of {w : BitVec 32} (h : w.toNat < 64) : k1_chk15 w := inb_of h 1 (by decide) _ rfl
theorem chk16_of {w : BitVec 32} (h : w.toNat < 64) : k1_chk16 w := inb_of h 1 (by decide) _ rfl
theorem chk17_of {w : BitVec 32} (h : w.toNat < 64) : k1_chk17 w := inb_of h 0 (by decide) _ rfl
theorem chk18_of {w : BitVec 32} (h : w.toNat < 64) : k1_chk18 w := inb_of h 0 (by decide) _ rfl
theorem chk19_of {w : BitVec 32} (h : w.toNat < 64) : k1_chk19 w := inb_of h 0 (by decide) _ rfl
theorem chk20_of {w : BitVec 32} (h : w.toNat < 64) : k1_chk20 w := inb_of h 0 (by decide) _ rfl
theorem chk21_of {w : BitVec 32} (h : w.toNat < 64) : k1_chk21 w := inb_of h 0 (by decide) _ rfl
theorem chk22_of {w : BitVec 32} (h : w.toNat < 64) : k1_chk22 w := inb_of h 0 (by decide) _ rfl
theorem chk23_of {w : BitVec 32} (h : w.toNat < 64) : k1_chk23 w := inb_of h 0 (by decide) _ rfl
theorem chk24_of {w : BitVec 32} (h : w.toNat < 64) : k1_chk24 w := inb_of h 0 (by decide) _ rfl
theorem chk25_of {w : BitVec 32} (h : w.toNat < 64) : k1_chk25 w := inb_of h 1 (by decide) _ rfl
theorem chk26_of {w : BitVec 32} (h : w.toNat < 64) : k1_chk26 w := inb_of h 1 (by decide) _ rfl
theorem chk27_of {w : BitVec 32} (h : w.toNat < 64) : k1_chk27 w := inb_of h 1 (by decide) _ rfl
theorem chk28_of {w : BitVec 32} (h : w.toNat < 64) : k1_chk28 w := inb_of h 1 (by decide) _ rfl
theorem chk29_of {w : BitVec 32} (h : w.toNat < 64) : k1_chk29 w := inb_of h 1 (by decide) _ rfl
theorem chk30_of {w : BitVec 32} (h : w.toNat < 64) : k1_chk30 w := inb_of h 1 (by decide) _ rfl
theorem chk31_of {w : BitVec 32} (h : w.toNat < 64) : k1_chk31 w := inb_of h 1 (by decide) _ rfl
theorem chk32_of {w : BitVec 32} (h : w.toNat < 64) : k1_chk32 w := inb_of h 1 (by decide) _ rfl
theorem chk33_of {w : BitVec 32} (h : w.toNat < 64) : k1_chk33 w := inb_of h 0 (by decide) _ rfl
theorem chk34_of {w : BitVec 32} (h : w.toNat < 64) : k1_chk34 w := inb_of h 0 (by decide) _ rfl
theorem chk35_of {w : BitVec 32} (h : w.toNat < 64) : k1_chk35 w := inb_of h 0 (by decide) _ rfl
theorem chk36_of {w : BitVec 32} (h : w.toNat < 64) : k1_chk36 w := inb_of h 0 (by decide) _ rfl
theorem chk37_of {w : BitVec 32} (h : w.toNat < 64) : k1_chk37 w := inb_of h 0 (by decide) _ rfl
theorem chk38_of {w : BitVec 32} (h : w.toNat < 64) : k1_chk38 w := inb_of h 0 (by decide) _ rfl
theorem chk39_of {w : BitVec 32} (h : w.toNat < 64) : k1_chk39 w := inb_of h 0 (by decide) _ rfl
theorem chk40_of {w : BitVec 32} (h : w.toNat < 64) : k1_chk40 w := inb_of h 0 (by decide) _ rfl
theorem chk41_of {w : BitVec 32} (h : w.toNat < 64) : k1_chk41 w := inb_of h 1 (by decide) _ rfl
theorem chk42_of {w : BitVec 32} (h : w.toNat < 64) : k1_chk42 w := inb_of h 1 (by decide) _ rfl
theorem chk43_of {w : BitVec 32} (h : w.toNat < 64) : k1_chk43 w := inb_of h 1 (by decide) _ rfl
theorem chk44_of {w : BitVec 32} (h : w.toNat < 64) : k1_chk44 w := inb_of h 1 (by decide) _ rfl
theorem chk45_of {w : BitVec 32} (h : w.toNat < 64) : k1_chk45 w := inb_of h 1 (by decide) _ rfl
theorem chk46_of {w : BitVec 32} (h : w.toNat < 64) : k1_chk46 w := inb_of h 1 (by decide) _ rfl
theorem chk47_of {w : BitVec 32} (h : w.toNat < 64) : k1_chk47 w := inb_of h 1 (by decide) _ rfl
theorem chk48_of {w : BitVec 32} (h : w.toNat < 64) : k1_chk48 w := inb_of h 1 (by decide) _ rfl
theorem chk49_of {w : BitVec 32} (h : w.toNat < 64) : k1_chk49 w := inb_of h 0 (by decide) _ rfl
theorem chk50_of {w : BitVec 32} (h : w.toNat < 64) : k1_chk50 w := inb_of h 0 (by decide) _ rfl
theorem chk51_of {w : BitVec 32} (h : w.toNat < 64) : k1_chk51 w := inb_of h 0 (by decide) _ rfl
theorem chk52_of {w : BitVec 32} (h : w.toNat < 64) : k1_chk52 w := inb_of h 0 (by decide) _ rfl
theorem chk53_of {w : BitVec 32} (h : w.toNat < 64) : k1_chk53 w := inb_of h 0 (by decide) _ rfl
theorem chk54_of {w : BitVec 32} (h : w.toNat < 64) : k1_chk54 w := inb_of h 0 (by decide) _ rfl
theorem chk55_of {w : BitVec 32} (h : w.toNat < 64) : k1_chk55 w := inb_of h 0 (by decide) _ rfl
theorem chk56_of {w : BitVec 32} (h : w.toNat < 64) : k1_chk56 w := inb_of h 0 (by decide) _ rfl
theorem chk57_of {w : BitVec 32} (h : w.toNat < 64) : k1_chk57 w := inb_of h 1 (by decide) _ rfl
theorem chk58_of {w : BitVec 32} (h : w.toNat < 64) : k1_chk58 w := inb_of h 1 (by decide) _ rfl
theorem chk59_of {w : BitVec 32} (h : w.toNat < 64) : k1_chk59 w := inb_of h 1 (by decide) _ rfl
theorem chk60_of {w : BitVec 32} (h : w.toNat < 64) : k1_chk60 w := inb_of h 1 (by decide) _ rfl
theorem chk61_of {w : BitVec 32} (h : w.toNat < 64) : k1_chk61 w := inb_of h 1 (by decide) _ rfl
theorem chk62_of {w : BitVec 32} (h : w.toNat < 64) : k1_chk62 w := inb_of h 1 (by decide) _ rfl
theorem chk63_of {w : BitVec 32} (h : w.toNat < 64) : k1_chk63 w := inb_of h 1 (by decide) _ rfl
theorem chk64_of {w : BitVec 32} (h : w.toNat < 64) : k1_chk64 w := inb_of h 1 (by decide) _ rfl

end Cert.KernelIdeal.Attn

end
-- ==== Proof.AttnTrip.lean ====
module

public import proofs.«01_k».proof.Proof.AttnChecks

@[expose] public section

/-! One trip of the attention kernel's loop over the blocks of queries: with every word of the table below 64 it runs,
yields a value and stores one block of 64 rows. -/

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What the loop carries: both heads' probabilities and row sums. -/
abbrev Carry (F : FTy → Type) := FVec F S64x512 .bf16 × FVec F S64x512 .bf16 × FVec F S64x1 .f32 × FVec F S64x1 .f32

/-- Every word read out of the table is the number of a block. -/
def InTable (arg1 : Memref sig .tc .smem S1x2x8x64 .i32) (X_arg1 : BufTy.Contents (Elt F) arg1.view.ty) : Prop :=
  ∀ (r : LoadRect S1x2x8x64) (j : r.shape.Idx), (arg1.view.readAt (Elt F) r X_arg1 j : BitVec 32).toNat < 64

/-- What a trip holds: the table, the queries and the two scratch buffers it reads, and the result it stores into. -/
abbrev TripHeld (c : Dev nD) (arg1 : Memref sig .tc .smem S1x2x8x64 .i32) (arg2 : Memref sig .tc .vmem S1x4096x128 .f32) (arg6 : Memref sig .tc .vmem S2x4096x64 .bf16) (arg7 : Memref sig .tc .vmem S2x4096x64 .bf16) (arg5 : Memref sig .tc .vmem S1x4096x128 .f32) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (arg5.view.loc (c : Thread nD τ) ↦[arg5.view.set]{fullShare} f_arg5))

/-- One trip, run at any carried value: what it yields and what it stores are found by the run. -/
def trip (𝒱 : Variants) (c : Dev nD) (bd : Option 𝒱.V) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable arg1 X_arg1) (k : Fin k1_t1_loop.trips) :
    Σ' (R : Carry F → Carry F), { L : Carry F → List (View.Piece (Elt F) S1x4096x128 .f32) // ∀ (E : Set ℕ) (acc : Carry F) (f_arg5 : BufTy.Contents (Elt F) arg5.view.ty),
      TripHeld (F := F) c arg1 arg2 arg6 arg7 arg5 X_arg1 X_arg2 X_arg6 X_arg7 f_arg5
      ⊢ wp frame (wpE (defs₀ (F := F)) 𝒱 (c : Thread nD τ) bd) E (k1_t1_body (F := F) i arg1 harg1 arg2 harg2 arg3 harg3 arg4 harg4 arg5 harg5 arg6 harg6 arg7 harg7 v71 v72 v77 v82 v87 v92 v97 k acc)
          (fun yld => iprop(⌜yld = R acc⌝ ∗ TripHeld (F := F) c arg1 arg2 arg6 arg7 arg5 X_arg1 X_arg2 X_arg6 X_arg7 (arg5.view.writes (Elt F) f_arg5 (L acc)))) } := by
  have hk : k.val < 63 := Nat.lt_of_lt_of_le k.isLt k1_t1_abs.2.1
  refine ⟨?_, ?_, fun E acc f_arg5 => ?run⟩
  case run =>
    unfold k1_t1_body
    iintro ⟨HR_arg1, HR_arg2, HR_arg6, HR_arg7, HW_arg5⟩
    sl_exec (disch := first | exact chk17_of (hT _ _) | exact chk18_of (hT _ _) | exact chk19_of (hT _ _) | exact chk20_of (hT _ _) | exact chk21_of (hT _ _) | exact chk22_of (hT _ _) | exact chk23_of (hT _ _) | exact chk24_of (hT _ _) | exact chk25_of (hT _ _) | exact chk26_of (hT _ _) | exact chk27_of (hT _ _) | exact chk28_of (hT _ _) | exact chk29_of (hT _ _) | exact chk30_of (hT _ _) | exact chk31_of (hT _ _) | exact chk32_of (hT _ _) | exact chk33_of (hT _ _) | exact chk34_of (hT _ _) | exact chk35_of (hT _ _) | exact chk36_of (hT _ _) | exact chk37_of (hT _ _) | exact chk38_of (hT _ _) | exact chk39_of (hT _ _) | exact chk40_of (hT _ _) | exact chk41_of (hT _ _) | exact chk42_of (hT _ _) | exact chk43_of (hT _ _) | exact chk44_of (hT _ _) | exact chk45_of (hT _ _) | exact chk46_of (hT _ _) | exact chk47_of (hT _ _) | exact chk48_of (hT _ _))
    sl_step
    sl_close

end Cert.KernelIdeal.Attn

end
-- ==== Proof.AttnForm.lean ====
module

public import proofs.«01_k».proof.Proof.AttnTrip
public import Idealize.ShloMosaic.Lib.WholeRead
public import Idealize.ShloMosaic.Lib.Pointwise

@[expose] public section

/-! What one block of queries computes, as functions of the blocks the table names: the probabilities and row sums the
loop carries, and the block of results it stores. -/

set_option maxRecDepth 8192

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-- A block of 64 rows of one head. -/
abbrev Blk (F : FTy → Type) := Vec F S1x64x64 .bf16

/-- Eight blocks on top of each other. -/
def stack (b0 b1 b2 b3 b4 b5 b6 b7 : Blk F) : FVec F S512x64 .bf16 :=
  concatenate S512x64 0 [⟨S64x64, shapeCast S64x64 b0 shapeCasts_S1x64x64_S64x64⟩, ⟨S64x64, shapeCast S64x64 b1 shapeCasts_S1x64x64_S64x64⟩, ⟨S64x64, shapeCast S64x64 b2 shapeCasts_S1x64x64_S64x64⟩, ⟨S64x64, shapeCast S64x64 b3 shapeCasts_S1x64x64_S64x64⟩, ⟨S64x64, shapeCast S64x64 b4 shapeCasts_S1x64x64_S64x64⟩, ⟨S64x64, shapeCast S64x64 b5 shapeCasts_S1x64x64_S64x64⟩, ⟨S64x64, shapeCast S64x64 b6 shapeCasts_S1x64x64_S64x64⟩, ⟨S64x64, shapeCast S64x64 b7 shapeCasts_S1x64x64_S64x64⟩]
    concatenates_S64x64_S64x64_S64x64_S64x64_S64x64_S64x64_S64x64_S64x64_S512x64_d0

/-- The exponentials of the scores of 64 queries of one head against eight blocks of keys. -/
def expS (qh : FVec F S64x64 .bf16) (b0 b1 b2 b3 b4 b5 b6 b7 : Blk F) : FVec F S64x512 .f32 :=
  exp (matmul dot_S64x64_S512x64_S64x512_1_1_0_0_n_n none qh (stack b0 b1 b2 b3 b4 b5 b6 b7) (constant S64x512 .f32 0x00000000#32))

/-- The sum of each row, as a column. -/
def rowSum (p : FVec F S64x512 .f32) : FVec F S64x1 .f32 :=
  shapeCast S64x1 (multiReduction .add [1] S64 p 0x00000000#32 reduces_S64x512_S64 (.inl rfl) rfl) shapeCasts_S64_S64x1

/-- The weighted sum of the values over the row sum. -/
def quot (p : FVec F S64x512 .bf16) (d : FVec F S64x1 .f32) (b0 b1 b2 b3 b4 b5 b6 b7 : Blk F) : FVec F S64x64 .f32 :=
  divf (matmul dot_S64x512_S512x64_S64x64_1_0_0_1_n_n none p (stack b0 b1 b2 b3 b4 b5 b6 b7) (constant S64x64 .f32 0x00000000#32))
    (broadcastTo S64x64 d broadcasts_S64x1_S64x64)

/-- What the loop carries for one block of queries and the blocks of keys of both heads. -/
def carryOf (qb : Vec F S1x64x128 .f32) (b0 b1 b2 b3 b4 b5 b6 b7 c0 c1 c2 c3 c4 c5 c6 c7 : Blk F) : Carry F :=
  (truncf .bf16 (expS (k1_pay3 qb) b0 b1 b2 b3 b4 b5 b6 b7) bitsLt_bf16_f32, truncf .bf16 (expS (k1_pay8 (k1_pay2 qb)) c0 c1 c2 c3 c4 c5 c6 c7) bitsLt_bf16_f32,
    rowSum (expS (k1_pay3 qb) b0 b1 b2 b3 b4 b5 b6 b7), rowSum (expS (k1_pay8 (k1_pay2 qb)) c0 c1 c2 c3 c4 c5 c6 c7))

/-- The block of results from what was carried and the blocks of values of both heads. -/
def outOf (a : Carry F) (b0 b1 b2 b3 b4 b5 b6 b7 c0 c1 c2 c3 c4 c5 c6 c7 : Blk F) : FVec F S1x64x128 .f32 :=
  shapeCast S1x64x128 (concatenate S64x128 1 [⟨S64x64, quot a.1 a.2.2.1 b0 b1 b2 b3 b4 b5 b6 b7⟩, ⟨S64x64, quot a.2.1 a.2.2.2 c0 c1 c2 c3 c4 c5 c6 c7⟩]
    concatenates_S64x64_S64x64_S64x128_d1) shapeCasts_S64x128_S1x64x128

/-- Block `w` of head `p` of a scratch buffer (`w` below 64). -/
def blk (x : Vec F S2x4096x64 .bf16) (p : Fin 2) (w : BitVec 32) : Blk F :=
  fun j => x (ix3 (n0 := 2) (n1 := 4096) (n2 := 64) p ⟨(w.toNat * 64 + (j 1).val) % 4096, Nat.mod_lt _ (by decide)⟩ (j 2))

/-- The 64 rows of queries from row `64 m`. -/
def qblk (x : Vec F S1x4096x128 .f32) (m : Nat) : Vec F S1x64x128 .f32 :=
  fun j => x (ix3 (n0 := 1) (n1 := 4096) (n2 := 128) 0 ⟨(m * 64 + (j 1).val) % 4096, Nat.mod_lt _ (by decide)⟩ (j 2))

/-- The word of the table for head `p`, slot `t`, query block `m`. -/
def word (x1 : Vec F S1x2x8x64 .i32) (p : Fin 2) (t : Fin 8) (m : Nat) : BitVec 32 :=
  x1 (ix4 (n0 := 1) (n1 := 2) (n2 := 8) (n3 := 64) 0 p t ⟨m % 64, Nat.mod_lt _ (by decide)⟩)

/-- What the loop carries for query block `m`. -/
def carry (x1 : Vec F S1x2x8x64 .i32) (x2 : Vec F S1x4096x128 .f32) (x6 : Vec F S2x4096x64 .bf16) (m : Nat) : Carry F :=
  carryOf (qblk x2 m) (blk x6 0 (word x1 0 0 m)) (blk x6 0 (word x1 0 1 m)) (blk x6 0 (word x1 0 2 m)) (blk x6 0 (word x1 0 3 m)) (blk x6 0 (word x1 0 4 m)) (blk x6 0 (word x1 0 5 m)) (blk x6 0 (word x1 0 6 m)) (blk x6 0 (word x1 0 7 m))
    (blk x6 1 (word x1 1 0 m)) (blk x6 1 (word x1 1 1 m)) (blk x6 1 (word x1 1 2 m)) (blk x6 1 (word x1 1 3 m)) (blk x6 1 (word x1 1 4 m)) (blk x6 1 (word x1 1 5 m)) (blk x6 1 (word x1 1 6 m)) (blk x6 1 (word x1 1 7 m))

/-- The block of results of query block `m`, from what was carried. -/
def outBlk (x1 : Vec F S1x2x8x64 .i32) (x7 : Vec F S2x4096x64 .bf16) (m : Nat) (a : Carry F) : FVec F S1x64x128 .f32 :=
  outOf a (blk x7 0 (word x1 0 0 m)) (blk x7 0 (word x1 0 1 m)) (blk x7 0 (word x1 0 2 m)) (blk x7 0 (word x1 0 3 m)) (blk x7 0 (word x1 0 4 m)) (blk x7 0 (word x1 0 5 m)) (blk x7 0 (word x1 0 6 m)) (blk x7 0 (word x1 0 7 m))
    (blk x7 1 (word x1 1 0 m)) (blk x7 1 (word x1 1 1 m)) (blk x7 1 (word x1 1 2 m)) (blk x7 1 (word x1 1 3 m)) (blk x7 1 (word x1 1 4 m)) (blk x7 1 (word x1 1 5 m)) (blk x7 1 (word x1 1 6 m)) (blk x7 1 (word x1 1 7 m))

theorem carryOf_congr {qb qb' : Vec F S1x64x128 .f32} {b0 b1 b2 b3 b4 b5 b6 b7 c0 c1 c2 c3 c4 c5 c6 c7 b0' b1' b2' b3' b4' b5' b6' b7' c0' c1' c2' c3' c4' c5' c6' c7' : Blk F} (hq : qb = qb') (hb0 : b0 = b0') (hb1 : b1 = b1') (hb2 : b2 = b2') (hb3 : b3 = b3') (hb4 : b4 = b4') (hb5 : b5 = b5') (hb6 : b6 = b6') (hb7 : b7 = b7') (hc0 : c0 = c0') (hc1 : c1 = c1') (hc2 : c2 = c2') (hc3 : c3 = c3') (hc4 : c4 = c4') (hc5 : c5 = c5') (hc6 : c6 = c6') (hc7 : c7 = c7') :
    carryOf qb b0 b1 b2 b3 b4 b5 b6 b7 c0 c1 c2 c3 c4 c5 c6 c7 = carryOf qb' b0' b1' b2' b3' b4' b5' b6' b7' c0' c1' c2' c3' c4' c5' c6' c7' := by
  subst hq hb0 hb1 hb2 hb3 hb4 hb5 hb6 hb7 hc0 hc1 hc2 hc3 hc4 hc5 hc6 hc7; rfl

theorem outOf_congr {a a' : Carry F} {b0 b1 b2 b3 b4 b5 b6 b7 c0 c1 c2 c3 c4 c5 c6 c7 b0' b1' b2' b3' b4' b5' b6' b7' c0' c1' c2' c3' c4' c5' c6' c7' : Blk F} (ha : a = a') (hb0 : b0 = b0') (hb1 : b1 = b1') (hb2 : b2 = b2') (hb3 : b3 = b3') (hb4 : b4 = b4') (hb5 : b5 = b5') (hb6 : b6 = b6') (hb7 : b7 = b7') (hc0 : c0 = c0') (hc1 : c1 = c1') (hc2 : c2 = c2') (hc3 : c3 = c3') (hc4 : c4 = c4') (hc5 : c5 = c5') (hc6 : c6 = c6') (hc7 : c7 = c7') :
    outOf a b0 b1 b2 b3 b4 b5 b6 b7 c0 c1 c2 c3 c4 c5 c6 c7 = outOf a' b0' b1' b2' b3' b4' b5' b6' b7' c0' c1' c2' c3' c4' c5' c6' c7' := by
  subst ha hb0 hb1 hb2 hb3 hb4 hb5 hb6 hb7 hc0 hc1 hc2 hc3 hc4 hc5 hc6 hc7; rfl

/-- A word loaded from the table. -/
theorem word_read {m : Memref sig .tc .smem S1x2x8x64 .i32} (X : BufTy.Contents (Elt F) m.view.ty) (off : Fin 4 → Nat)
    (inb : ∀ a, off a + S1x1x1x1.size a ≤ S1x2x8x64.size a) (j) (p : Fin 2) (t : Fin 8) (n : Nat) (hn : n < 64)
    (ho : off = ![0, p.val, t.val, n]) :
    m.view.readAt (Elt F) (Rect.unit (s := S1x2x8x64) off S1x1x1x1.size inb).toLoadRect X j = word (m.view.read (Elt F) X) p t n := by
  subst ho
  refine congrArg (m.view.read (Elt F) X) (funext fun a => Fin.ext ?_)
  have hj : ∀ a, (j a).val = 0 := fun a => by
    have := (j a).isLt
    fin_cases a <;> exact Nat.lt_one_iff.mp this
  fin_cases a
  · show 0 + 1 * (j 0).val = 0; rw [hj]
  · show p.val + 1 * (j 1).val = p.val; rw [hj]; omega
  · show t.val + 1 * (j 2).val = t.val; rw [hj]; omega
  · show n + 1 * (j 3).val = n % 64; rw [hj, Nat.mod_eq_of_lt hn]; omega

/-- A block loaded from a scratch buffer at the row a word of the table names. -/
theorem blk_read {m : Memref sig .tc .vmem S2x4096x64 .bf16} (X : BufTy.Contents (Elt F) m.view.ty) (off : Fin 3 → Nat)
    (inb : ∀ a, off a + S1x64x64.size a ≤ S2x4096x64.size a) (p : Fin 2) (v w : BitVec 32) (hvw : v = w) (hw : v.toNat < 64)
    (ho : off = ![p.val, (Scalar.indexCast (Scalar.muli v 64#32) : Index).toNat, 0]) :
    m.view.readAt (Elt F) (Rect.unit (s := S2x4096x64) off S1x64x64.size inb).toLoadRect X = blk (m.view.read (Elt F) X) p w := by
  subst hvw
  funext j
  rw [row_of hw] at ho
  subst ho
  refine congrArg (m.view.read (Elt F) X) (funext fun a => Fin.ext ?_)
  have h0 : (j 0).val = 0 := Nat.lt_one_iff.mp (j 0).isLt
  have h1 : (j 1).val < 64 := (j 1).isLt
  fin_cases a
  · show p.val + 1 * (j 0).val = p.val; rw [h0]; omega
  · show v.toNat * 64 + 1 * (j 1).val = (v.toNat * 64 + (j 1).val) % 4096; omega
  · show 0 + 1 * (j 2).val = (j 2).val; omega

/-- The queries loaded for one block. -/
theorem q_read {m : Memref sig .tc .vmem S1x4096x128 .f32} (X : BufTy.Contents (Elt F) m.view.ty) (off : Fin 3 → Nat)
    (inb : ∀ a, off a + S1x64x128.size a ≤ S1x4096x128.size a) (n : Nat) (hn : n < 64) (ho : off = ![0, n * 64, 0]) :
    m.view.readAt (Elt F) (Rect.unit (s := S1x4096x128) off S1x64x128.size inb).toLoadRect X = qblk (m.view.read (Elt F) X) n := by
  funext j
  subst ho
  refine congrArg (m.view.read (Elt F) X) (funext fun a => Fin.ext ?_)
  have h0 : (j 0).val = 0 := Nat.lt_one_iff.mp (j 0).isLt
  have h1 : (j 1).val < 64 := (j 1).isLt
  fin_cases a
  · show 0 + 1 * (j 0).val = 0; rw [h0]
  · show n * 64 + 1 * (j 1).val = (n * 64 + (j 1).val) % 4096; omega
  · show 0 + 1 * (j 2).val = (j 2).val; omega

end Cert.KernelIdeal.Attn

end
-- ==== Proof.AttnTripForm.lean ====
module

public import proofs.«01_k».proof.Proof.AttnForm

@[expose] public section

set_option maxRecDepth 8192
set_option maxHeartbeats 4000000

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-- Offsets that name query block `k + 1`, and the block before. -/
theorem off_next : ∀ k : Fin k1_t1_loop.trips, (Scalar.indexCast (Scf.iv (1#32) (1#32) k.val : BitVec 32) : Index).toNat = k.val + 1 := by
  decide +kernel
theorem off_prev : ∀ k : Fin k1_t1_loop.trips, (Scalar.indexCast (Scalar.subi (Scf.iv (1#32) (1#32) k.val : BitVec 32) 1#32) : Index).toNat = k.val := by
  decide +kernel
theorem row_next : ∀ k : Fin k1_t1_loop.trips, (Scalar.indexCast (Scalar.muli (Scf.iv (1#32) (1#32) k.val : BitVec 32) 64#32) : Index).toNat = (k.val + 1) * 64 := by
  decide +kernel
theorem row_prev : ∀ k : Fin k1_t1_loop.trips, (Scalar.indexCast (Scalar.muli (Scalar.subi (Scf.iv (1#32) (1#32) k.val : BitVec 32) 1#32) 64#32) : Index).toNat = k.val * 64 := by
  decide +kernel

/-- A trip yields what query block `k + 1` carries, whatever came in. -/
theorem trip_yields (𝒱 : Variants) (c : Dev nD) (bd : Option 𝒱.V) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable (F := F) arg1 X_arg1) (k : Fin k1_t1_loop.trips) (acc : Carry F) :
   (trip (F := F) 𝒱 c bd i arg1 harg1 arg2 harg2 arg3 harg3 arg4 harg4 arg5 harg5 arg6 harg6 arg7 harg7 v71 v72 v77 v82 v87 v92 v97 X_arg1 X_arg2 X_arg6 X_arg7 hT k).1 acc = carry (arg1.view.read (Elt F) X_arg1) (arg2.view.read (Elt F) X_arg2) (arg6.view.read (Elt F) X_arg6) (k.val + 1) := by
  have hk : k.val < 63 := Nat.lt_of_lt_of_le k.isLt k1_t1_abs.2.1
  have e1 := off_next k
  have e2 := row_next k
  unfold trip
  dsimp only
  refine carryOf_congr (q_read X_arg2 _ _ (k.val + 1) (by omega) (congrArg (fun n => ![0, n, 0]) (row_next k))) (blk_read X_arg6 _ _ 0 _ _ (word_read X_arg1 _ _ _ 0 0 (k.val + 1) (by omega) (congrArg (fun n => ![0, 0, 0, n]) (off_next k))) (hT _ _) rfl) (blk_read X_arg6 _ _ 0 _ _ (word_read X_arg1 _ _ _ 0 1 (k.val + 1) (by omega) (congrArg (fun n => ![0, 0, 1, n]) (off_next k))) (hT _ _) rfl) (blk_read X_arg6 _ _ 0 _ _ (word_read X_arg1 _ _ _ 0 2 (k.val + 1) (by omega) (congrArg (fun n => ![0, 0, 2, n]) (off_next k))) (hT _ _) rfl) (blk_read X_arg6 _ _ 0 _ _ (word_read X_arg1 _ _ _ 0 3 (k.val + 1) (by omega) (congrArg (fun n => ![0, 0, 3, n]) (off_next k))) (hT _ _) rfl) (blk_read X_arg6 _ _ 0 _ _ (word_read X_arg1 _ _ _ 0 4 (k.val + 1) (by omega) (congrArg (fun n => ![0, 0, 4, n]) (off_next k))) (hT _ _) rfl) (blk_read X_arg6 _ _ 0 _ _ (word_read X_arg1 _ _ _ 0 5 (k.val + 1) (by omega) (congrArg (fun n => ![0, 0, 5, n]) (off_next k))) (hT _ _) rfl) (blk_read X_arg6 _ _ 0 _ _ (word_read X_arg1 _ _ _ 0 6 (k.val + 1) (by omega) (congrArg (fun n => ![0, 0, 6, n]) (off_next k))) (hT _ _) rfl) (blk_read X_arg6 _ _ 0 _ _ (word_read X_arg1 _ _ _ 0 7 (k.val + 1) (by omega) (congrArg (fun n => ![0, 0, 7, n]) (off_next k))) (hT _ _) rfl) (blk_read X_arg6 _ _ 1 _ _ (word_read X_arg1 _ _ _ 1 0 (k.val + 1) (by omega) (congrArg (fun n => ![0, 1, 0, n]) (off_next k))) (hT _ _) rfl) (blk_read X_arg6 _ _ 1 _ _ (word_read X_arg1 _ _ _ 1 1 (k.val + 1) (by omega) (congrArg (fun n => ![0, 1, 1, n]) (off_next k))) (hT _ _) rfl) (blk_read X_arg6 _ _ 1 _ _ (word_read X_arg1 _ _ _ 1 2 (k.val + 1) (by omega) (congrArg (fun n => ![0, 1, 2, n]) (off_next k))) (hT _ _) rfl) (blk_read X_arg6 _ _ 1 _ _ (word_read X_arg1 _ _ _ 1 3 (k.val + 1) (by omega) (congrArg (fun n => ![0, 1, 3, n]) (off_next k))) (hT _ _) rfl) (blk_read X_arg6 _ _ 1 _ _ (word_read X_arg1 _ _ _ 1 4 (k.val + 1) (by omega) (congrArg (fun n => ![0, 1, 4, n]) (off_next k))) (hT _ _) rfl) (blk_read X_arg6 _ _ 1 _ _ (word_read X_arg1 _ _ _ 1 5 (k.val + 1) (by omega) (congrArg (fun n => ![0, 1, 5, n]) (off_next k))) (hT _ _) rfl) (blk_read X_arg6 _ _ 1 _ _ (word_read X_arg1 _ _ _ 1 6 (k.val + 1) (by omega) (congrArg (fun n => ![0, 1, 6, n]) (off_next k))) (hT _ _) rfl) (blk_read X_arg6 _ _ 1 _ _ (word_read X_arg1 _ _ _ 1 7 (k.val + 1) (by omega) (congrArg (fun n => ![0, 1, 7, n]) (off_next k))) (hT _ _) rfl)

/-- A trip stores the results of query block `k`, computed from what came in. -/
theorem trip_stores (𝒱 : Variants) (c : Dev nD) (bd : Option 𝒱.V) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable (F := F) arg1 X_arg1) (k : Fin k1_t1_loop.trips) (acc : Carry F) :
   (trip (F := F) 𝒱 c bd i arg1 harg1 arg2 harg2 arg3 harg3 arg4 harg4 arg5 harg5 arg6 harg6 arg7 harg7 v71 v72 v77 v82 v87 v92 v97 X_arg1 X_arg2 X_arg6 X_arg7 hT k).2.1 acc = [⟨Rect.unit (s := S1x4096x128) (k1_off82 k) S1x64x128.size (k1_off82_inb k), outBlk (arg1.view.read (Elt F) X_arg1) (arg7.view.read (Elt F) X_arg7) k.val acc⟩] := by
  have hk : k.val < 63 := Nat.lt_of_lt_of_le k.isLt k1_t1_abs.2.1
  unfold trip
  dsimp only
  refine congrArg (fun o => [(⟨Rect.unit (s := S1x4096x128) (k1_off82 k) S1x64x128.size (k1_off82_inb k), o⟩ : View.Piece (Elt F) S1x4096x128 .f32)]) ?_
  refine outOf_congr rfl (blk_read X_arg7 _ _ 0 _ _ (word_read X_arg1 _ _ _ 0 0 k.val (by omega) (congrArg (fun n => ![0, 0, 0, n]) (off_prev k))) (hT _ _) rfl) (blk_read X_arg7 _ _ 0 _ _ (word_read X_arg1 _ _ _ 0 1 k.val (by omega) (congrArg (fun n => ![0, 0, 1, n]) (off_prev k))) (hT _ _) rfl) (blk_read X_arg7 _ _ 0 _ _ (word_read X_arg1 _ _ _ 0 2 k.val (by omega) (congrArg (fun n => ![0, 0, 2, n]) (off_prev k))) (hT _ _) rfl) (blk_read X_arg7 _ _ 0 _ _ (word_read X_arg1 _ _ _ 0 3 k.val (by omega) (congrArg (fun n => ![0, 0, 3, n]) (off_prev k))) (hT _ _) rfl) (blk_read X_arg7 _ _ 0 _ _ (word_read X_arg1 _ _ _ 0 4 k.val (by omega) (congrArg (fun n => ![0, 0, 4, n]) (off_prev k))) (hT _ _) rfl) (blk_read X_arg7 _ _ 0 _ _ (word_read X_arg1 _ _ _ 0 5 k.val (by omega) (congrArg (fun n => ![0, 0, 5, n]) (off_prev k))) (hT _ _) rfl) (blk_read X_arg7 _ _ 0 _ _ (word_read X_arg1 _ _ _ 0 6 k.val (by omega) (congrArg (fun n => ![0, 0, 6, n]) (off_prev k))) (hT _ _) rfl) (blk_read X_arg7 _ _ 0 _ _ (word_read X_arg1 _ _ _ 0 7 k.val (by omega) (congrArg (fun n => ![0, 0, 7, n]) (off_prev k))) (hT _ _) rfl) (blk_read X_arg7 _ _ 1 _ _ (word_read X_arg1 _ _ _ 1 0 k.val (by omega) (congrArg (fun n => ![0, 1, 0, n]) (off_prev k))) (hT _ _) rfl) (blk_read X_arg7 _ _ 1 _ _ (word_read X_arg1 _ _ _ 1 1 k.val (by omega) (congrArg (fun n => ![0, 1, 1, n]) (off_prev k))) (hT _ _) rfl) (blk_read X_arg7 _ _ 1 _ _ (word_read X_arg1 _ _ _ 1 2 k.val (by omega) (congrArg (fun n => ![0, 1, 2, n]) (off_prev k))) (hT _ _) rfl) (blk_read X_arg7 _ _ 1 _ _ (word_read X_arg1 _ _ _ 1 3 k.val (by omega) (congrArg (fun n => ![0, 1, 3, n]) (off_prev k))) (hT _ _) rfl) (blk_read X_arg7 _ _ 1 _ _ (word_read X_arg1 _ _ _ 1 4 k.val (by omega) (congrArg (fun n => ![0, 1, 4, n]) (off_prev k))) (hT _ _) rfl) (blk_read X_arg7 _ _ 1 _ _ (word_read X_arg1 _ _ _ 1 5 k.val (by omega) (congrArg (fun n => ![0, 1, 5, n]) (off_prev k))) (hT _ _) rfl) (blk_read X_arg7 _ _ 1 _ _ (word_read X_arg1 _ _ _ 1 6 k.val (by omega) (congrArg (fun n => ![0, 1, 6, n]) (off_prev k))) (hT _ _) rfl) (blk_read X_arg7 _ _ 1 _ _ (word_read X_arg1 _ _ _ 1 7 k.val (by omega) (congrArg (fun n => ![0, 1, 7, n]) (off_prev k))) (hT _ _) rfl)

end Cert.KernelIdeal.Attn

end
-- ==== Proof.AttnLoop.lean ====
module

public import proofs.«01_k».proof.Proof.AttnTripForm

@[expose] public section

/-! The attention kernel's loop by its invariant: before trip `k` it carries what query block `k` carries and the results
of the blocks before `k` have been stored. -/

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What is carried before trip `k`. -/
def accAt (x1 : Vec F S1x2x8x64 .i32) (x2 : Vec F S1x4096x128 .f32) (x6 : Vec F S2x4096x64 .bf16) (init : Carry F) : ℕ → Carry F
  | 0 => init
  | k + 1 => carry x1 x2 x6 (k + 1)

/-- The stores of the trips before `k`, last first. -/
def pcs (x1 : Vec F S1x2x8x64 .i32) (x2 : Vec F S1x4096x128 .f32) (x6 x7 : Vec F S2x4096x64 .bf16) (init : Carry F) : ℕ → List (View.Piece (Elt F) S1x4096x128 .f32)
  | 0 => []
  | k + 1 => if h : k < k1_t1_loop.trips then
      ⟨Rect.unit (s := S1x4096x128) (k1_off82 ⟨k, h⟩) S1x64x128.size (k1_off82_inb ⟨k, h⟩), outBlk x1 x7 k (accAt x1 x2 x6 init k)⟩ :: pcs x1 x2 x6 x7 init k
    else pcs x1 x2 x6 x7 init k

theorem pcs_succ (x1 : Vec F S1x2x8x64 .i32) (x2 : Vec F S1x4096x128 .f32) (x6 x7 : Vec F S2x4096x64 .bf16) (init : Carry F) (k : Fin k1_t1_loop.trips) :
    pcs x1 x2 x6 x7 init (k.val + 1) = [⟨Rect.unit (s := S1x4096x128) (k1_off82 k) S1x64x128.size (k1_off82_inb k), outBlk x1 x7 k.val (accAt x1 x2 x6 init k.val)⟩] ++ pcs x1 x2 x6 x7 init k.val := by
  rw [pcs]; exact dif_pos k.isLt

/-- Before trip `k`. -/
abbrev loopAt (c : Dev nD) (arg1 : Memref sig .tc .smem S1x2x8x64 .i32) (arg2 : Memref sig .tc .vmem S1x4096x128 .f32) (arg5 : Memref sig .tc .vmem S1x4096x128 .f32) (arg6 : Memref sig .tc .vmem S2x4096x64 .bf16) (arg7 : Memref sig .tc .vmem S2x4096x64 .bf16)
    (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (G_arg5 : BufTy.Contents (Elt F) arg5.view.ty) (init : Carry F) (k : ℕ) (acc : Carry F) : sProp 𝕄G :=
  iprop((arg1.view.loc (c : Thread nD τ) ↦[arg1.view.set]{fullShare} X_arg1) ∗ (arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (∃ f, (arg5.view.loc (c : Thread nD τ) ↦[arg5.view.set]{fullShare} f) ∗ ⌜f = arg5.view.writes (Elt F) G_arg5 (pcs (arg1.view.read (Elt F) X_arg1) (arg2.view.read (Elt F) X_arg2) (arg6.view.read (Elt F) X_arg6) (arg7.view.read (Elt F) X_arg7) init k)⌝) ∗ ⌜acc = accAt (arg1.view.read (Elt F) X_arg1) (arg2.view.read (Elt F) X_arg2) (arg6.view.read (Elt F) X_arg6) init k⌝)

set_option warn.classDefReducibility false in
/-- The loop, by its invariant. -/
@[sl_loop] def loopInv (𝒱 : Variants) (c : Dev nD) (bd : Option 𝒱.V) (E : Set ℕ) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (G_arg5 : BufTy.Contents (Elt F) arg5.view.ty) (init : Carry F) (hT : InTable (F := F) arg1 X_arg1) :
    LoopInv (M := 𝕄G) frame (wpE (defs₀ (F := F)) 𝒱 (c : Thread nD τ) bd) E
      k1_t1_loop.lb k1_t1_loop.ub k1_t1_loop.st k1_t1_ok init (k1_t1_body (F := F) i arg1 harg1 arg2 harg2 arg3 harg3 arg4 harg4 arg5 harg5 arg6 harg6 arg7 harg7 v71 v72 v77 v82 v87 v92 v97) where
  inv := loopAt (F := F) c arg1 arg2 arg5 arg6 arg7 X_arg1 X_arg2 X_arg6 X_arg7 G_arg5 init
  step k acc := by
    iintro ⟨HR_arg1, HR_arg2, HR_arg6, HR_arg7, ⟨%f_arg5, HW_arg5, %h_arg5⟩, %h_acc⟩
    subst h_acc
    iapply (wp_wand_r Idealize.ShloMosaic.frame (wpE (defs₀ (F := F)) 𝒱 (c : Thread nD τ) bd) E)
    isplitl [HR_arg1 HR_arg2 HR_arg6 HR_arg7 HW_arg5]
    · iapply ((trip (F := F) 𝒱 c bd i arg1 harg1 arg2 harg2 arg3 harg3 arg4 harg4 arg5 harg5 arg6 harg6 arg7 harg7 v71 v72 v77 v82 v87 v92 v97 X_arg1 X_arg2 X_arg6 X_arg7 hT k).2.2 E _ f_arg5)
      isplitl [HR_arg1]; · iexact HR_arg1
      isplitl [HR_arg2]; · iexact HR_arg2
      isplitl [HR_arg6]; · iexact HR_arg6
      isplitl [HR_arg7]; · iexact HR_arg7
      iexact HW_arg5
    · iintro %yld ⟨%h_res, HR_arg1, HR_arg2, HR_arg6, HR_arg7, HW_arg5⟩
      isplitl [HR_arg1]; · iexact HR_arg1
      isplitl [HR_arg2]; · iexact HR_arg2
      isplitl [HR_arg6]; · iexact HR_arg6
      isplitl [HR_arg7]; · iexact HR_arg7
      isplitl [HW_arg5]
      · iexists _; isplitl [HW_arg5]; · iexact HW_arg5
        ipureintro
        rw [h_arg5, ← View.writes_append, trip_stores, pcs_succ]
      ipureintro
      rw [h_res, trip_yields]
      rfl

end Cert.KernelIdeal.Attn

end
-- ==== Proof.AttnRun.lean ====
module

public import proofs.«01_k».proof.Proof.AttnLoop

@[expose] public section

/-! The attention kernel's body: with every word of the table below 64 it runs, and ends with its stores in the result's
window and in the two scratch buffers. -/

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

set_option maxHeartbeats 4000000 in
/-- The body's run: the stores in the result's window and in the scratch buffers are found by the run. -/
def bodyRun (c : Dev nD) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole)
    (x0 : Vec F S1x2x8x64 .i32) (x1 : Vec F S1x4096x128 .f32) (x2 : Vec F S1x4096x128 .f32) (x3 : Vec F S1x4096x128 .f32)
    (hT : InTable (F := F) arg1 (harg1.unread x0)) :
    Σ' (L4 : List (View.Piece (Elt F) S1x4096x128 .f32)), Σ' (LT0 : List (View.Piece (Elt F) S2x4096x64 .bf16)), { LT1 : List (View.Piece (Elt F) S2x4096x64 .bf16) //
      ∀ (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    simp only [k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact chk1_of (hT _ _) | exact chk2_of (hT _ _) | exact chk3_of (hT _ _) | exact chk4_of (hT _ _) | exact chk5_of (hT _ _) | exact chk6_of (hT _ _) | exact chk7_of (hT _ _) | exact chk8_of (hT _ _) | exact chk9_of (hT _ _) | exact chk10_of (hT _ _) | exact chk11_of (hT _ _) | exact chk12_of (hT _ _) | exact chk13_of (hT _ _) | exact chk14_of (hT _ _) | exact chk15_of (hT _ _) | exact chk16_of (hT _ _) | exact chk49_of (hT _ _) | exact chk50_of (hT _ _) | exact chk51_of (hT _ _) | exact chk52_of (hT _ _) | exact chk53_of (hT _ _) | exact chk54_of (hT _ _) | exact chk55_of (hT _ _) | exact chk56_of (hT _ _) | exact chk57_of (hT _ _) | exact chk58_of (hT _ _) | exact chk59_of (hT _ _) | exact chk60_of (hT _ _) | exact chk61_of (hT _ _) | exact chk62_of (hT _ _) | exact chk63_of (hT _ _) | exact chk64_of (hT _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Attn

end
-- ==== Proof.AttnScratch.lean ====
module

public import proofs.«01_k».proof.Proof.AttnRun
public import Idealize.ShloMosaic.Lib.Pipeline.ValueKit
public import Idealize.ShloMosaic.Lib.Pipeline.ReadBack

@[expose] public section

/-! The scratch copies of the keys and the values after the kernel's four stores. -/

set_option maxRecDepth 16384
set_option maxHeartbeats 4000000

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-- The scratch copy of keys or values: head by head, cast. -/
def half16 (x : Vec F S1x4096x128 .f32) : Vec F S2x4096x64 .bf16 :=
  fun j => truncf .bf16 (x : FVec F S1x4096x128 .f32) bitsLt_bf16_f32
    (ix3 (n0 := 1) (n1 := 4096) (n2 := 128) 0 (j 1) ⟨(j 0).val * 64 + (j 2).val, by
      have h0 : (j 0).val < 2 := (j 0).isLt
      have h2 : (j 2).val < 64 := (j 2).isLt
      omega⟩)

/-- A cast between two reshapes that undo each other is the cast. -/
theorem cast_pay (v : Vec F S1x4096x64 .f32) :
    shapeCast S1x4096x64 (truncf .bf16 (shapeCast S4096x64 v shapeCasts_S1x4096x64_S4096x64 : FVec F S4096x64 .f32) bitsLt_bf16_f32) shapeCasts_S4096x64_S1x4096x64
      = truncf .bf16 (v : FVec F S1x4096x64 .f32) bitsLt_bf16_f32 := by
  have e : truncf .bf16 (shapeCast S4096x64 v shapeCasts_S1x4096x64_S4096x64 : FVec F S4096x64 .f32) bitsLt_bf16_f32
      = shapeCast S4096x64 (truncf .bf16 (v : FVec F S1x4096x64 .f32) bitsLt_bf16_f32) shapeCasts_S1x4096x64_S4096x64 := rfl
  rw [e, shapeCast_comp, shapeCast_self]

/-- One head's half of the scratch copy is a block of it. -/
theorem half_block {m : Memref sig .tc .vmem S1x4096x128 .f32} (h : m.IsWhole) (x : Vec F S1x4096x128 .f32) (p : Nat) (hp : p < 2)
    (inb : ∀ a, (![0, 0, p * 64] : Fin 3 → Nat) a + S1x4096x64.size a ≤ S1x4096x128.size a)
    (inb' : ∀ a, (![p, 0, 0] : Fin 3 → Nat) a + S1x4096x64.size a ≤ S2x4096x64.size a) (j : S1x4096x64.Idx) :
    truncf .bf16 (m.view.readAt (Elt F) (Rect.unit (s := S1x4096x128) ![0, 0, p * 64] S1x4096x64.size inb).toLoadRect (h.unread x) : FVec F S1x4096x64 .f32) bitsLt_bf16_f32 j
      = half16 x ((Rect.unit (s := S2x4096x64) ![p, 0, 0] S1x4096x64.size inb').emb j) := by
  show FloatOps.truncf .bf16 _ _ = FloatOps.truncf .bf16 _ _
  refine congrArg (fun a => FloatOps.truncf (F := F) .bf16 bitsLt_bf16_f32 a) ?_
  rw [h.readAt_unread]
  refine congrArg x (funext fun a => Fin.ext ?_)
  have h0 : (j 0).val = 0 := Nat.lt_one_iff.mp (j 0).isLt
  fin_cases a
  · show 0 + 1 * (j 0).val = 0; omega
  · show 0 + 1 * (j 1).val = 0 + 1 * (j 1).val; rfl
  · show p * 64 + 1 * (j 2).val = (p + 1 * (j 0).val) * 64 + (0 + 1 * (j 2).val); omega

/-- The scratch buffer of the keys after both stores. -/
theorem scratch_k {m : Memref sig .tc .vmem S2x4096x64 .bf16} {m' : Memref sig .tc .vmem S1x4096x128 .f32} (h : m'.IsWhole) (x : Vec F S1x4096x128 .f32) (f : BufTy.Contents (Elt F) m.view.ty) :
    m.view.read (Elt F) (m.view.writes (Elt F) f
      [⟨Rect.unit (s := S2x4096x64) ![1, 0, 0] S1x4096x64.size inb_S2x4096x64_S1x4096x64_1_0_0, k1_pay31 (m'.view.readAt (Elt F) (Rect.unit (s := S1x4096x128) ![0, 0, 64] S1x4096x64.size inb_S1x4096x128_S1x4096x64_0_0_64).toLoadRect (h.unread x))⟩,
       ⟨Rect.unit (s := S2x4096x64) ![0, 0, 0] S1x4096x64.size inb_S2x4096x64_S1x4096x64_0_0_0, k1_pay29 (m'.view.readAt (Elt F) (Rect.unit (s := S1x4096x128) ![0, 0, 0] S1x4096x64.size inb_S1x4096x128_S1x4096x64_0_0_0).toLoadRect (h.unread x))⟩])
      = half16 x := by
  have hc := fun y => View.cover_of_tiled (Val := Elt F) [(⟨Rect.unit (s := S2x4096x64) ![1, 0, 0] S1x4096x64.size inb_S2x4096x64_S1x4096x64_1_0_0, k1_pay31 (m'.view.readAt (Elt F) (Rect.unit (s := S1x4096x128) ![0, 0, 64] S1x4096x64.size inb_S1x4096x128_S1x4096x64_0_0_64).toLoadRect (h.unread x))⟩ : View.Piece (Elt F) S2x4096x64 .bf16),
       ⟨Rect.unit (s := S2x4096x64) ![0, 0, 0] S1x4096x64.size inb_S2x4096x64_S1x4096x64_0_0_0, k1_pay29 (m'.view.readAt (Elt F) (Rect.unit (s := S1x4096x128) ![0, 0, 0] S1x4096x64.size inb_S1x4096x128_S1x4096x64_0_0_0).toLoadRect (h.unread x))⟩] S1x4096x64.size (by rfl) y
  rw [View.read_writes_eq_canon _ _ _ hc]
  funext y
  refine (View.canon_append_of_pieces (half16 x) [] _ (View.PiecesOf.mem (L := [_, _]) ⟨?_, ?_, trivial⟩) y (hc y))
  · intro j
    exact (congrFun (cast_pay _) j).trans (half_block h x 1 (by decide) _ inb_S2x4096x64_S1x4096x64_1_0_0 j)
  · intro j
    exact (congrFun (cast_pay _) j).trans (half_block h x 0 (by decide) _ inb_S2x4096x64_S1x4096x64_0_0_0 j)

end Cert.KernelIdeal.Attn

end
-- ==== Proof.AttnOut.lean ====
module

public import proofs.«01_k».proof.Proof.AttnScratch
public import proofs.«01_k».proof.Proof.AttnRun
public import Idealize.ShloMosaic.Lib.Pipeline.ValueKit
public import Idealize.ShloMosaic.Lib.Pipeline.ReadBack

@[expose] public section

/-! What the attention kernel's body leaves in the result's window: block `m` of 64 rows holds the results of query block
`m`, each computed from what that block carries. -/

set_option maxRecDepth 16384
set_option maxHeartbeats 4000000

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-- The carried value the loop starts from is what query block 0 carries. -/
theorem start_eq (q : Vec F S1x64x128 .f32) (b0 b1 b2 b3 b4 b5 b6 b7 c0 c1 c2 c3 c4 c5 c6 c7 : Blk F) :
    (k1_pay50 (k1_pay41 (k1_pay36 (k1_pay33 q) k1_pay34) (k1_pay37 b0) (k1_pay38 b1) (k1_pay39 b2) (k1_pay40 b3) b4 b5 b6 b7),
      k1_pay53 (k1_pay42 (k1_pay35 (k1_pay33 q) k1_pay34)) (k1_pay43 c0) (k1_pay44 c1) (k1_pay45 c2) (k1_pay46 c3) (k1_pay47 c4) c5 c6 c7,
      k1_pay49 (k1_pay41 (k1_pay36 (k1_pay33 q) k1_pay34) (k1_pay37 b0) (k1_pay38 b1) (k1_pay39 b2) (k1_pay40 b3) b4 b5 b6 b7),
      k1_pay52 (k1_pay42 (k1_pay35 (k1_pay33 q) k1_pay34)) (k1_pay43 c0) (k1_pay44 c1) (k1_pay45 c2) (k1_pay46 c3) (k1_pay47 c4) c5 c6 c7)
      = carryOf q b0 b1 b2 b3 b4 b5 b6 b7 c0 c1 c2 c3 c4 c5 c6 c7 := rfl

/-- The last block's results. -/
theorem last_eq (a : Carry F) (b0 b1 b2 b3 b4 b5 b6 b7 c0 c1 c2 c3 c4 c5 c6 c7 : Blk F) :
    k1_pay1 a.2.1 a.2.2.2 (k1_pay60 a.1 a.2.2.1 (k1_pay55 b0) (k1_pay56 b1) (k1_pay57 b2) (k1_pay58 b3) (k1_pay59 b4) b5 b6 b7)
      (k1_pay61 c0) (k1_pay62 c1) (k1_pay63 c2) (k1_pay64 c3) (k1_pay65 c4) c5 c6 c7
      = outOf a b0 b1 b2 b3 b4 b5 b6 b7 c0 c1 c2 c3 c4 c5 c6 c7 := rfl

/-- The loop's number of trips, as the run spells it. -/
abbrev trips : ℕ := Scf.trips k1_t1_loop.lb k1_t1_loop.ub k1_t1_loop.st

theorem accAt_congr {x1 x1' : Vec F S1x2x8x64 .i32} {x2 x2' : Vec F S1x4096x128 .f32} {x6 x6' : Vec F S2x4096x64 .bf16} {i i' : Carry F} (n : ℕ)
    (h1 : x1 = x1') (h2 : x2 = x2') (h6 : x6 = x6') (hi : i = i') : accAt x1 x2 x6 i n = accAt x1' x2' x6' i' n := by
  subst h1 h2 h6 hi; rfl

theorem pcs_congr {x1 x1' : Vec F S1x2x8x64 .i32} {x2 x2' : Vec F S1x4096x128 .f32} {x6 x6' x7 x7' : Vec F S2x4096x64 .bf16} {i i' : Carry F} (n : ℕ)
    (h1 : x1 = x1') (h2 : x2 = x2') (h6 : x6 = x6') (h7 : x7 = x7') (hi : i = i') : pcs x1 x2 x6 x7 i n = pcs x1' x2' x6' x7' i' n := by
  subst h1 h2 h6 h7 hi; rfl

/-- Carried from its own start, what is carried before trip `k` is what block `k` carries. -/
theorem accAt_carry (x1 : Vec F S1x2x8x64 .i32) (x2 : Vec F S1x4096x128 .f32) (x6 : Vec F S2x4096x64 .bf16) : ∀ k, accAt x1 x2 x6 (carry x1 x2 x6 0) k = carry x1 x2 x6 k
  | 0 => rfl
  | _ + 1 => rfl

theorem carry_congr {x1 x1' : Vec F S1x2x8x64 .i32} {x2 x2' : Vec F S1x4096x128 .f32} {x6 x6' : Vec F S2x4096x64 .bf16} (n : ℕ)
    (h1 : x1 = x1') (h2 : x2 = x2') (h6 : x6 = x6') : carry x1 x2 x6 n = carry x1' x2' x6' n := by
  subst h1 h2 h6; rfl

/-- The body's stores in the result's window: the last block after those of the loop. -/
theorem bodyRun_stores (c : Dev nD) (i : grid1.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (x0 : Vec F S1x2x8x64 .i32) (x1 : Vec F S1x4096x128 .f32) (x2 : Vec F S1x4096x128 .f32) (x3 : Vec F S1x4096x128 .f32) (hT : InTable (F := F) arg1 (harg1.unread x0)) :
    (bodyRun c i arg1 harg1 arg2 harg2 arg3 harg3 arg4 harg4 arg5 harg5 arg6 harg6 arg7 harg7 x0 x1 x2 x3 hT).1
      = ⟨Rect.unit (s := S1x4096x128) ![0, 4032, 0] S1x64x128.size inb_S1x4096x128_S1x64x128_0_4032_0, outBlk x0 (half16 x3) 63 (carry x0 x1 (half16 x2) trips)⟩
        :: pcs x0 x1 (half16 x2) (half16 x3) (carry x0 x1 (half16 x2) 0) trips := by
  have e1 := harg1.read_unread x0
  have e2 := harg2.read_unread x1
  have e6 := scratch_k (m := arg6) harg3 x2 arg6.view.junk
  have e7 := scratch_k (m := arg7) harg4 x3 arg7.view.junk
  unfold bodyRun
  dsimp only
  refine congrArg₂ (fun (o : FVec F S1x64x128 .f32) L => (⟨Rect.unit (s := S1x4096x128) ![0, 4032, 0] S1x64x128.size inb_S1x4096x128_S1x64x128_0_4032_0, o⟩ : View.Piece (Elt F) S1x4096x128 .f32) :: L) ?_
    (pcs_congr trips e1 e2 e6 e7 ?_)
  · refine (last_eq _ _ _ _ _ _ _ _ _ _ _ _ _ _ _ _ _).trans ?_
    refine outOf_congr ?_ ((blk_read _ _ _ 0 _ _ ((word_read (harg1.unread x0) _ _ _ 0 0 63 (by omega) rfl).trans (congrArg (fun x => word x 0 0 63) (harg1.read_unread x0))) (hT _ _) rfl).trans (congrArg (fun x => blk x 0 (word x0 0 0 63)) e7)) ((blk_read _ _ _ 0 _ _ ((word_read (harg1.unread x0) _ _ _ 0 1 63 (by omega) rfl).trans (congrArg (fun x => word x 0 1 63) (harg1.read_unread x0))) (hT _ _) rfl).trans (congrArg (fun x => blk x 0 (word x0 0 1 63)) e7)) ((blk_read _ _ _ 0 _ _ ((word_read (harg1.unread x0) _ _ _ 0 2 63 (by omega) rfl).trans (congrArg (fun x => word x 0 2 63) (harg1.read_unread x0))) (hT _ _) rfl).trans (congrArg (fun x => blk x 0 (word x0 0 2 63)) e7)) ((blk_read _ _ _ 0 _ _ ((word_read (harg1.unread x0) _ _ _ 0 3 63 (by omega) rfl).trans (congrArg (fun x => word x 0 3 63) (harg1.read_unread x0))) (hT _ _) rfl).trans (congrArg (fun x => blk x 0 (word x0 0 3 63)) e7)) ((blk_read _ _ _ 0 _ _ ((word_read (harg1.unread x0) _ _ _ 0 4 63 (by omega) rfl).trans (congrArg (fun x => word x 0 4 63) (harg1.read_unread x0))) (hT _ _) rfl).trans (congrArg (fun x => blk x 0 (word x0 0 4 63)) e7)) ((blk_read _ _ _ 0 _ _ ((word_read (harg1.unread x0) _ _ _ 0 5 63 (by omega) rfl).trans (congrArg (fun x => word x 0 5 63) (harg1.read_unread x0))) (hT _ _) rfl).trans (congrArg (fun x => blk x 0 (word x0 0 5 63)) e7)) ((blk_read _ _ _ 0 _ _ ((word_read (harg1.unread x0) _ _ _ 0 6 63 (by omega) rfl).trans (congrArg (fun x => word x 0 6 63) (harg1.read_unread x0))) (hT _ _) rfl).trans (congrArg (fun x => blk x 0 (word x0 0 6 63)) e7)) ((blk_read _ _ _ 0 _ _ ((word_read (harg1.unread x0) _ _ _ 0 7 63 (by omega) rfl).trans (congrArg (fun x => word x 0 7 63) (harg1.read_unread x0))) (hT _ _) rfl).trans (congrArg (fun x => blk x 0 (word x0 0 7 63)) e7)) ((blk_read _ _ _ 1 _ _ ((word_read (harg1.unread x0) _ _ _ 1 0 63 (by omega) rfl).trans (congrArg (fun x => word x 1 0 63) (harg1.read_unread x0))) (hT _ _) rfl).trans (congrArg (fun x => blk x 1 (word x0 1 0 63)) e7)) ((blk_read _ _ _ 1 _ _ ((word_read (harg1.unread x0) _ _ _ 1 1 63 (by omega) rfl).trans (congrArg (fun x => word x 1 1 63) (harg1.read_unread x0))) (hT _ _) rfl).trans (congrArg (fun x => blk x 1 (word x0 1 1 63)) e7)) ((blk_read _ _ _ 1 _ _ ((word_read (harg1.unread x0) _ _ _ 1 2 63 (by omega) rfl).trans (congrArg (fun x => word x 1 2 63) (harg1.read_unread x0))) (hT _ _) rfl).trans (congrArg (fun x => blk x 1 (word x0 1 2 63)) e7)) ((blk_read _ _ _ 1 _ _ ((word_read (harg1.unread x0) _ _ _ 1 3 63 (by omega) rfl).trans (congrArg (fun x => word x 1 3 63) (harg1.read_unread x0))) (hT _ _) rfl).trans (congrArg (fun x => blk x 1 (word x0 1 3 63)) e7)) ((blk_read _ _ _ 1 _ _ ((word_read (harg1.unread x0) _ _ _ 1 4 63 (by omega) rfl).trans (congrArg (fun x => word x 1 4 63) (harg1.read_unread x0))) (hT _ _) rfl).trans (congrArg (fun x => blk x 1 (word x0 1 4 63)) e7)) ((blk_read _ _ _ 1 _ _ ((word_read (harg1.unread x0) _ _ _ 1 5 63 (by omega) rfl).trans (congrArg (fun x => word x 1 5 63) (harg1.read_unread x0))) (hT _ _) rfl).trans (congrArg (fun x => blk x 1 (word x0 1 5 63)) e7)) ((blk_read _ _ _ 1 _ _ ((word_read (harg1.unread x0) _ _ _ 1 6 63 (by omega) rfl).trans (congrArg (fun x => word x 1 6 63) (harg1.read_unread x0))) (hT _ _) rfl).trans (congrArg (fun x => blk x 1 (word x0 1 6 63)) e7)) ((blk_read _ _ _ 1 _ _ ((word_read (harg1.unread x0) _ _ _ 1 7 63 (by omega) rfl).trans (congrArg (fun x => word x 1 7 63) (harg1.read_unread x0))) (hT _ _) rfl).trans (congrArg (fun x => blk x 1 (word x0 1 7 63)) e7))
    exact (carry_congr 63 e1 e2 e6 : _ = carry x0 x1 (half16 x2) 63)
  · refine (start_eq _ _ _ _ _ _ _ _ _ _ _ _ _ _ _ _ _).trans ?_
    refine carryOf_congr ((q_read (harg2.unread x1) _ _ 0 (by omega) rfl).trans (congrArg (fun x => qblk x 0) e2)) ((blk_read _ _ _ 0 _ _ ((word_read (harg1.unread x0) _ _ _ 0 0 0 (by omega) rfl).trans (congrArg (fun x => word x 0 0 0) (harg1.read_unread x0))) (hT _ _) rfl).trans (congrArg (fun x => blk x 0 (word x0 0 0 0)) e6)) ((blk_read _ _ _ 0 _ _ ((word_read (harg1.unread x0) _ _ _ 0 1 0 (by omega) rfl).trans (congrArg (fun x => word x 0 1 0) (harg1.read_unread x0))) (hT _ _) rfl).trans (congrArg (fun x => blk x 0 (word x0 0 1 0)) e6)) ((blk_read _ _ _ 0 _ _ ((word_read (harg1.unread x0) _ _ _ 0 2 0 (by omega) rfl).trans (congrArg (fun x => word x 0 2 0) (harg1.read_unread x0))) (hT _ _) rfl).trans (congrArg (fun x => blk x 0 (word x0 0 2 0)) e6)) ((blk_read _ _ _ 0 _ _ ((word_read (harg1.unread x0) _ _ _ 0 3 0 (by omega) rfl).trans (congrArg (fun x => word x 0 3 0) (harg1.read_unread x0))) (hT _ _) rfl).trans (congrArg (fun x => blk x 0 (word x0 0 3 0)) e6)) ((blk_read _ _ _ 0 _ _ ((word_read (harg1.unread x0) _ _ _ 0 4 0 (by omega) rfl).trans (congrArg (fun x => word x 0 4 0) (harg1.read_unread x0))) (hT _ _) rfl).trans (congrArg (fun x => blk x 0 (word x0 0 4 0)) e6)) ((blk_read _ _ _ 0 _ _ ((word_read (harg1.unread x0) _ _ _ 0 5 0 (by omega) rfl).trans (congrArg (fun x => word x 0 5 0) (harg1.read_unread x0))) (hT _ _) rfl).trans (congrArg (fun x => blk x 0 (word x0 0 5 0)) e6)) ((blk_read _ _ _ 0 _ _ ((word_read (harg1.unread x0) _ _ _ 0 6 0 (by omega) rfl).trans (congrArg (fun x => word x 0 6 0) (harg1.read_unread x0))) (hT _ _) rfl).trans (congrArg (fun x => blk x 0 (word x0 0 6 0)) e6)) ((blk_read _ _ _ 0 _ _ ((word_read (harg1.unread x0) _ _ _ 0 7 0 (by omega) rfl).trans (congrArg (fun x => word x 0 7 0) (harg1.read_unread x0))) (hT _ _) rfl).trans (congrArg (fun x => blk x 0 (word x0 0 7 0)) e6)) ((blk_read _ _ _ 1 _ _ ((word_read (harg1.unread x0) _ _ _ 1 0 0 (by omega) rfl).trans (congrArg (fun x => word x 1 0 0) (harg1.read_unread x0))) (hT _ _) rfl).trans (congrArg (fun x => blk x 1 (word x0 1 0 0)) e6)) ((blk_read _ _ _ 1 _ _ ((word_read (harg1.unread x0) _ _ _ 1 1 0 (by omega) rfl).trans (congrArg (fun x => word x 1 1 0) (harg1.read_unread x0))) (hT _ _) rfl).trans (congrArg (fun x => blk x 1 (word x0 1 1 0)) e6)) ((blk_read _ _ _ 1 _ _ ((word_read (harg1.unread x0) _ _ _ 1 2 0 (by omega) rfl).trans (congrArg (fun x => word x 1 2 0) (harg1.read_unread x0))) (hT _ _) rfl).trans (congrArg (fun x => blk x 1 (word x0 1 2 0)) e6)) ((blk_read _ _ _ 1 _ _ ((word_read (harg1.unread x0) _ _ _ 1 3 0 (by omega) rfl).trans (congrArg (fun x => word x 1 3 0) (harg1.read_unread x0))) (hT _ _) rfl).trans (congrArg (fun x => blk x 1 (word x0 1 3 0)) e6)) ((blk_read _ _ _ 1 _ _ ((word_read (harg1.unread x0) _ _ _ 1 4 0 (by omega) rfl).trans (congrArg (fun x => word x 1 4 0) (harg1.read_unread x0))) (hT _ _) rfl).trans (congrArg (fun x => blk x 1 (word x0 1 4 0)) e6)) ((blk_read _ _ _ 1 _ _ ((word_read (harg1.unread x0) _ _ _ 1 5 0 (by omega) rfl).trans (congrArg (fun x => word x 1 5 0) (harg1.read_unread x0))) (hT _ _) rfl).trans (congrArg (fun x => blk x 1 (word x0 1 5 0)) e6)) ((blk_read _ _ _ 1 _ _ ((word_read (harg1.unread x0) _ _ _ 1 6 0 (by omega) rfl).trans (congrArg (fun x => word x 1 6 0) (harg1.read_unread x0))) (hT _ _) rfl).trans (congrArg (fun x => blk x 1 (word x0 1 6 0)) e6)) ((blk_read _ _ _ 1 _ _ ((word_read (harg1.unread x0) _ _ _ 1 7 0 (by omega) rfl).trans (congrArg (fun x => word x 1 7 0) (harg1.read_unread x0))) (hT _ _) rfl).trans (congrArg (fun x => blk x 1 (word x0 1 7 0)) e6))

end Cert.KernelIdeal.Attn

end
-- ==== Proof.AttnClosed.lean ====
module

public import proofs.«01_k».proof.Proof.AttnOut
public import Idealize.ShloMosaic.Lib.Pipeline.ReadBack

@[expose] public section

/-! The whole window of results after the attention kernel's body, as one function of the four windows read. -/

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-- The window of results: row `64 m + i` is row `i` of query block `m`. -/
def attnOut (x0 : Vec F S1x2x8x64 .i32) (x1 x2 x3 : Vec F S1x4096x128 .f32) : Vec F S1x4096x128 .f32 := fun y =>
  outBlk x0 (half16 x3) ((y 1).val / 64) (carry x0 x1 (half16 x2) ((y 1).val / 64))
    (ix3 (n0 := 1) (n1 := 64) (n2 := 128) 0 ⟨(y 1).val % 64, Nat.mod_lt _ (by decide)⟩ (y 2))

/-- A block of 64 rows stored from row `64 m` holds the rows of query block `m`. -/
theorem attnOut_block (x0 : Vec F S1x2x8x64 .i32) (x1 x2 x3 : Vec F S1x4096x128 .f32) (m : ℕ) (off : Fin 3 → ℕ)
    (h0 : off 0 = 0) (h1 : off 1 = m * 64) (h2 : off 2 = 0)
    (j : S1x64x128.Idx) (y : S1x4096x128.Idx) (hy : ∀ a, (y a).val = off a + 1 * (j a).val) :
    outBlk x0 (half16 x3) m (carry x0 x1 (half16 x2) m) j = attnOut x0 x1 x2 x3 y := by
  have hj : (j 1).val < 64 := (j 1).isLt
  have hj0 : (j 0).val < 1 := (j 0).isLt
  have e1 : (y 1).val = m * 64 + (j 1).val := by rw [hy 1, h1]; omega
  have d : (y 1).val / 64 = m := by omega
  have r : (y 1).val % 64 = (j 1).val := by omega
  have e2 : (y 2).val = (j 2).val := by rw [hy 2, h2]; omega
  unfold attnOut
  rw [d]
  congr 1
  funext a
  fin_cases a
  · exact Fin.ext (by show (j 0).val = 0; omega)
  · exact Fin.ext r.symm
  · exact Fin.ext e2.symm

/-- The loop's stores are blocks of that window. -/
theorem pcs_blocks (x0 : Vec F S1x2x8x64 .i32) (x1 x2 x3 : Vec F S1x4096x128 .f32) : ∀ (n : ℕ),
    ∀ p ∈ pcs x0 x1 (half16 x2) (half16 x3) (carry x0 x1 (half16 x2) 0) n, ∀ x, p.2 x = attnOut x0 x1 x2 x3 (p.1.emb x)
  | 0, p, hp, x => absurd hp List.not_mem_nil
  | n + 1, p, hp, x => by
    by_cases h : n < k1_t1_loop.trips
    · rw [pcs_succ x0 x1 (half16 x2) (half16 x3) (carry x0 x1 (half16 x2) 0) ⟨n, h⟩] at hp
      rcases List.mem_append.mp hp with hp | hp
      · obtain rfl := List.mem_singleton.mp hp
        rw [accAt_carry]
        exact attnOut_block x0 x1 x2 x3 n (k1_off82 ⟨n, h⟩) rfl (row_prev ⟨n, h⟩) rfl x _ fun a => rfl
      · exact pcs_blocks x0 x1 x2 x3 n p hp x
    · rw [pcs, dif_neg h] at hp
      exact pcs_blocks x0 x1 x2 x3 n p hp x

/-- Rows before `64 n` are covered by the first `n` stores. -/
theorem pcs_cover (x0 : Vec F S1x2x8x64 .i32) (x1 x2 x3 : Vec F S1x4096x128 .f32) (y : S1x4096x128.Idx) : ∀ (n : ℕ), n ≤ k1_t1_loop.trips →
    (y 1).val < n * 64 → ∃ p ∈ pcs x0 x1 (half16 x2) (half16 x3) (carry x0 x1 (half16 x2) 0) n, y ∈ p.1.set
  | 0, _, h => absurd h (by omega)
  | n + 1, hn, h => by
    rw [pcs_succ x0 x1 (half16 x2) (half16 x3) (carry x0 x1 (half16 x2) 0) ⟨n, hn⟩]
    by_cases hlt : (y 1).val < n * 64
    · obtain ⟨p, hp, hy⟩ := pcs_cover x0 x1 x2 x3 y n (by omega) hlt
      exact ⟨p, List.mem_append_right _ hp, hy⟩
    · refine ⟨_, List.mem_append_left _ (List.mem_singleton.mpr rfl), ?_⟩
      rw [Rect.mem_set_unit]
      intro a
      have e : k1_off82 ⟨n, hn⟩ 1 = n * 64 := row_prev ⟨n, hn⟩
      have l0 : (y 0).val < 1 := (y 0).isLt
      have l2 : (y 2).val < 128 := (y 2).isLt
      fin_cases a
      · exact ⟨Nat.zero_le _, by show (y 0).val < 0 + 1; omega⟩
      · refine ⟨?_, ?_⟩
        · show k1_off82 ⟨n, hn⟩ 1 ≤ (y 1).val; omega
        · show (y 1).val < k1_off82 ⟨n, hn⟩ 1 + 64; omega
      · exact ⟨Nat.zero_le _, by show (y 2).val < 0 + 128; omega⟩

/-- The loop makes 63 trips. -/
theorem trips_eq : k1_t1_loop.trips = 63 := by decide +kernel

/-- All the body's stores are blocks of the window of results. -/
theorem stores_blocks (x0 : Vec F S1x2x8x64 .i32) (x1 x2 x3 : Vec F S1x4096x128 .f32) :
    ∀ p ∈ (⟨Rect.unit (s := S1x4096x128) ![0, 4032, 0] S1x64x128.size inb_S1x4096x128_S1x64x128_0_4032_0, outBlk x0 (half16 x3) 63 (carry x0 x1 (half16 x2) trips)⟩ : View.Piece (Elt F) S1x4096x128 .f32)
      :: pcs x0 x1 (half16 x2) (half16 x3) (carry x0 x1 (half16 x2) 0) trips, ∀ x, p.2 x = attnOut x0 x1 x2 x3 (p.1.emb x) := by
  intro p hp x
  rcases List.mem_cons.mp hp with rfl | hp
  · have e : trips = 63 := trips_eq
    rw [e]
    exact attnOut_block x0 x1 x2 x3 63 ![0, 4032, 0] rfl rfl rfl x _ fun a => rfl
  · exact pcs_blocks x0 x1 x2 x3 trips p hp x

/-- Every element of the window is stored. -/
theorem stores_cover (x0 : Vec F S1x2x8x64 .i32) (x1 x2 x3 : Vec F S1x4096x128 .f32) (y : S1x4096x128.Idx) :
    ∃ p ∈ (⟨Rect.unit (s := S1x4096x128) ![0, 4032, 0] S1x64x128.size inb_S1x4096x128_S1x64x128_0_4032_0, outBlk x0 (half16 x3) 63 (carry x0 x1 (half16 x2) trips)⟩ : View.Piece (Elt F) S1x4096x128 .f32)
      :: pcs x0 x1 (half16 x2) (half16 x3) (carry x0 x1 (half16 x2) 0) trips, y ∈ p.1.set := by
  have e : trips = 63 := trips_eq
  by_cases hlt : (y 1).val < trips * 64
  · obtain ⟨p, hp, hy⟩ := pcs_cover x0 x1 x2 x3 y trips le_rfl hlt
    exact ⟨p, List.mem_cons_of_mem _ hp, hy⟩
  · refine ⟨_, List.mem_cons_self, ?_⟩
    rw [Rect.mem_set_unit]
    rw [e] at hlt
    have l0 : (y 0).val < 1 := (y 0).isLt
    have l1 : (y 1).val < 4096 := (y 1).isLt
    have l2 : (y 2).val < 128 := (y 2).isLt
    intro a
    fin_cases a
    · exact ⟨Nat.zero_le _, by show (y 0).val < 0 + 1; omega⟩
    · exact ⟨by show 4032 ≤ (y 1).val; omega, by show (y 1).val < 4032 + 64; omega⟩
    · exact ⟨Nat.zero_le _, by show (y 2).val < 0 + 128; omega⟩

/-- A buffer that ends with the body's stores reads as the window of results. -/
theorem read_stores {sp : Space} (v : View sig .tc sp S1x4096x128 .f32) (f : v.ty.Contents (Elt F)) (x0 : Vec F S1x2x8x64 .i32) (x1 x2 x3 : Vec F S1x4096x128 .f32) :
    v.read (Elt F) (v.writes (Elt F) f (⟨Rect.unit (s := S1x4096x128) ![0, 4032, 0] S1x64x128.size inb_S1x4096x128_S1x64x128_0_4032_0, outBlk x0 (half16 x3) 63 (carry x0 x1 (half16 x2) trips)⟩
      :: pcs x0 x1 (half16 x2) (half16 x3) (carry x0 x1 (half16 x2) 0) trips)) = attnOut x0 x1 x2 x3 := by
  rw [View.read_writes_eq_canon _ _ _ (stores_cover x0 x1 x2 x3)]
  funext y
  have h := View.canon_append_of_pieces (attnOut x0 x1 x2 x3) [] _ (stores_blocks x0 x1 x2 x3) y (stores_cover x0 x1 x2 x3 y)
  rwa [List.append_nil] at h

end Cert.KernelIdeal.Attn

end
-- ==== Proof.AttnData.lean ====
module

public import proofs.«01_k».proof.Proof.AttnClosed
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Frame
public import Idealize.ShloMosaic.Lib.Tactic

@[expose] public section

/-! The attention kernel as a pipeline over its grid, from any contents of its arrays whose table names blocks that exist. -/

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (W : Dev nD → Valuation τ sig (Elt F))

/-- A window's block at a grid point, cut from its array as the call finds it. -/
def block (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The call's proof data: inputs keep their blocks, the output is what the body computes of them. -/
def dat (c : Dev nD) : Dat τ (Elt F) Unit ℕ (UR sig nD τ) ℕ cfg1 c where
  A w := W c (Proc.devRef .tc (Pipeline.arrRef spec1 w))
  after w t := match w with
    | ⟨0, _⟩ => block W c 0 t
    | ⟨1, _⟩ => block W c 1 t
    | ⟨2, _⟩ => block W c 2 t
    | ⟨3, _⟩ => block W c 3 t
    | ⟨4, _⟩ => attnOut (block W c 0 t) (block W c 1 t) (block W c 2 t) (block W c 3 t)
  Φ _ := Pipeline.ΦA spec1 c
  q _ := fullShare
  owed _ := 0

theorem A_eq (c : Dev nD) (w : Fin cfg1.W) : (dat W c).A w = W c (Proc.devRef .tc (Pipeline.arrRef spec1 w)) := by dsimp only [dat]

theorem after_0 (c : Dev nD) (t : Fin cfg1.N) : (dat W c).after 0 t = block W c 0 t := by dsimp only [dat]
theorem after_1 (c : Dev nD) (t : Fin cfg1.N) : (dat W c).after 1 t = block W c 1 t := by dsimp only [dat]
theorem after_2 (c : Dev nD) (t : Fin cfg1.N) : (dat W c).after 2 t = block W c 2 t := by dsimp only [dat]
theorem after_3 (c : Dev nD) (t : Fin cfg1.N) : (dat W c).after 3 t = block W c 3 t := by dsimp only [dat]
theorem after_4 (c : Dev nD) (t : Fin cfg1.N) : (dat W c).after 4 t = attnOut (block W c 0 t) (block W c 1 t) (block W c 2 t) (block W c 3 t) := by dsimp only [dat]

theorem before_0 (c : Dev nD) (t : Fin cfg1.N) (d) : (dat W c).before 0 t d = block W c 0 t :=
  ((dat W c).before_in_eq_fetched 0 rfl (fun _ => rfl) (fun _ _ _ => rfl) (fun t => by rw [after_0]; unfold Dat.blockOf block; rw [A_eq]; try rfl) t d).trans
    (by unfold Dat.fetched Dat.blockOf block; rw [A_eq]; try rfl)
theorem before_1 (c : Dev nD) (t : Fin cfg1.N) (d) : (dat W c).before 1 t d = block W c 1 t :=
  ((dat W c).before_in_eq_fetched 1 rfl (fun _ => rfl) (fun _ _ _ => rfl) (fun t => by rw [after_1]; unfold Dat.blockOf block; rw [A_eq]; try rfl) t d).trans
    (by unfold Dat.fetched Dat.blockOf block; rw [A_eq]; try rfl)
theorem before_2 (c : Dev nD) (t : Fin cfg1.N) (d) : (dat W c).before 2 t d = block W c 2 t :=
  ((dat W c).before_in_eq_fetched 2 rfl (fun _ => rfl) (fun _ _ _ => rfl) (fun t => by rw [after_2]; unfold Dat.blockOf block; rw [A_eq]; try rfl) t d).trans
    (by unfold Dat.fetched Dat.blockOf block; rw [A_eq]; try rfl)
theorem before_3 (c : Dev nD) (t : Fin cfg1.N) (d) : (dat W c).before 3 t d = block W c 3 t :=
  ((dat W c).before_in_eq_fetched 3 rfl (fun _ => rfl) (fun _ _ _ => rfl) (fun t => by rw [after_3]; unfold Dat.blockOf block; rw [A_eq]; try rfl) t d).trans
    (by unfold Dat.fetched Dat.blockOf block; rw [A_eq]; try rfl)

/-- What the body is entered with. -/
def entry (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d)))

/-- What the body leaves. -/
def left (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t))

/-- The two scratch buffers. -/
abbrev scrK : Memref sig .tc .vmem S2x4096x64 .bf16 := Memref.whole cc1_scratch0
abbrev scrV : Memref sig .tc .vmem S2x4096x64 .bf16 := Memref.whole cc1_scratch1

/-- The invariant, with the scratch buffers as memrefs. -/
theorem inv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scrK fullShare d) ∗ (∃ d, owns (c : Thread nD τ) scrV fullShare d)) ∗ (∃ r, prngReg c r)) := by
  unfold Pipeline.ΦA; rw [scopedRest1_eq]; simp only [scrK, scrV, owns_whole]; try rfl

/-- Every word of the table is below 64. -/
def TableOk : Prop := ∀ (c : Dev nD) (t : Fin cfg1.N) (i : S1x2x8x64.Idx), (block W c 0 t i : BitVec 32).toNat < 64

/-- What a load of a window of the table reads is below 64. -/
theorem inTable_of {arg1 : Memref sig .tc .smem S1x2x8x64 .i32} (h : arg1.IsWhole) (x : Vec F S1x2x8x64 .i32) (hx : ∀ i, (x i : BitVec 32).toNat < 64) :
    InTable (F := F) arg1 (h.unread x) := by
  intro r j
  rw [Memref.IsWhole.readAt_unread h x]
  exact hx _

set_option maxHeartbeats 3200000 in
/-- The body at every point. -/
theorem body_at (hT : TableOk W) (c : Dev nD) (t : Fin cfg1.N) :
    entry W c t ⊢ wp frame (wpE (defs₀ (F := F)) Variants.none c none) Set.univ (bodyAt1 t) (fun _ => left W c t) := by
  unfold entry left bodyAt1
  simp only [before_0, before_1, before_2, before_3]
  rw [show (dat W c).Φ t.succ = (dat W c).Φ t.castSucc from rfl,
    show (dat W c).owesAt () t.succ = (dat W c).owesAt () t.castSucc from rfl,
    after_0, after_1, after_2, after_3, after_4]
  rw [show (dat W c).Φ t.castSucc = Pipeline.ΦA spec1 c from rfl, inv_eq]
  iintro ⟨⟨⟨G0, G1, G2, G3, G4, G5, HS0, HS1⟩, Hg⟩, Ho, ⟨%d0, H0⟩, ⟨%d1, H1⟩, ⟨%d2, H2⟩, ⟨%d3, H3⟩, ⟨%d4, H4⟩⟩
  iapply ((bodyRun c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) scrK (Memref.isWhole_whole _) scrV (Memref.isWhole_whole _) (block W c 0 t) (block W c 1 t) (block W c 2 t) (block W c 3 t) (inTable_of _ _ (hT c t))).2.2.2)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, ⟨%fT0, HS0⟩, ⟨%fT1, HS1⟩⟩
  isplitl [G0 G1 G2 G3 G4 G5 HS0 HS1 Hg]
  · isplitl [G0 G1 G2 G3 G4 G5 HS0 HS1]
    · isplitl [G0]; · iexact G0
      isplitl [G1]; · iexact G1
      isplitl [G2]; · iexact G2
      isplitl [G3]; · iexact G3
      isplitl [G4]; · iexact G4
      isplitl [G5]; · iexact G5
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [bodyRun_stores]
  exact read_stores _ _ _ _ _ _

/-- The body's row in the table of bodies. -/
theorem body_row (t : Fin cfg1.N) : defs₀ (F := F) .tc cfg1.body (cfg1.bodyArgs t (cfg1.slots t)) = bodyAt1 t := by
  unfold defs₀; rw [Defs.onTc_tc]

/-- The library's obligation for the body. -/
theorem obligation (hT : TableOk W) (c : Dev nD) : BodyObligation (dat (F := F) W c) (defs₀ (F := F)) Variants.none () Set.univ := fun t => by
  rw [bigSep_W1, bigSep_W1, body_row]
  exact triple_restated (body_at W hT c t) rfl .rfl fun _ => .rfl

end Cert.KernelIdeal.Attn

end
-- ==== Proof.Arrays.lean ====
module

public import proofs.«01_k».proof.Proof.LutData
public import proofs.«01_k».proof.Proof.AttnData
public import Idealize.ShloMosaic.Lib.Pipeline.ValueKit
public import Idealize.ShloMosaic.Lib.Tactic

@[expose] public section

/-! What the two calls leave in their result arrays, entry by entry: each entry is what the body computes of the blocks
of its batch and pair of heads. -/

set_option maxRecDepth 16384

noncomputable section

namespace Cert.KernelIdeal.Arrays

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]

/-- The block of batch `b` and head pair `g` of an array of flattened heads. -/
def cut (X : Vec F S2x4096x1024 .f32) (b : Fin 2) (g : Fin 8) : Vec F S1x4096x128 .f32 := fun y =>
  X (ix3 (n0 := 2) (n1 := 4096) (n2 := 1024) b (y 1) ⟨g.val * 128 + (y 2).val, by have := g.isLt; have := (y 2).isLt; change (y 2).val < 128 at this; omega⟩)

/-- The block of batch `b` and head pair `g` of the table. -/
def cutT (X : Vec F S2x16x8x64 .i32) (b : Fin 2) (g : Fin 8) : Vec F S1x2x8x64 .i32 := fun y =>
  X (ix4 (n0 := 2) (n1 := 16) (n2 := 8) (n3 := 64) b ⟨g.val * 2 + (y 1).val, by have := g.isLt; have := (y 1).isLt; change (y 1).val < 2 at this; omega⟩ (y 2) (y 3))

/-- The table of the whole arrays. -/
def lutArr (q k : Vec F S2x4096x1024 .f32) : Vec F S2x16x8x64 .i32 := fun i =>
  Lut.lutOut (cut q (i 0) ⟨(i 1).val / 2, by have := (i 1).isLt; change (i 1).val < 16 at this; omega⟩)
    (cut k (i 0) ⟨(i 1).val / 2, by have := (i 1).isLt; change (i 1).val < 16 at this; omega⟩)
    (ix4 (n0 := 1) (n1 := 2) (n2 := 8) (n3 := 64) 0 ⟨(i 1).val % 2, Nat.mod_lt _ (by decide)⟩ (i 2) (i 3))

/-- The attention of the whole arrays under a table. -/
def attnArr (l : Vec F S2x16x8x64 .i32) (q k v : Vec F S2x4096x1024 .f32) : Vec F S2x4096x1024 .f32 := fun i =>
  let g : Fin 8 := ⟨(i 2).val / 128, by have := (i 2).isLt; change (i 2).val < 1024 at this; omega⟩
  Attn.attnOut (cutT l (i 0) g) (cut q (i 0) g) (cut k (i 0) g) (cut v (i 0) g)
    (ix3 (n0 := 1) (n1 := 4096) (n2 := 128) 0 (i 1) ⟨(i 2).val % 128, Nat.mod_lt _ (by decide)⟩)

/-- The batch of a grid point. -/
def bat (t : Fin 16) : Fin 2 := ⟨t.val / 8, by omega⟩
/-- The pair of heads of a grid point. -/
def grp (t : Fin 16) : Fin 8 := ⟨t.val % 8, by omega⟩

/-- An entry of the table is the block's entry. -/
theorem lutArr_at (q k : Vec F S2x4096x1024 .f32) (b : Fin 2) (g : Fin 8) (i : S2x16x8x64.Idx) (y : S1x2x8x64.Idx)
    (h0 : (i 0).val = b.val) (h1 : (i 1).val = g.val * 2 + (y 1).val) (h2 : (i 2).val = (y 2).val) (h3 : (i 3).val = (y 3).val) :
    Lut.lutOut (cut q b g) (cut k b g) y = lutArr q k i := by
  have hy0 : (y 0).val < 1 := (y 0).isLt
  have hy1 : (y 1).val < 2 := (y 1).isLt
  have e0 : i 0 = b := Fin.ext h0
  have e1 : (⟨(i 1).val / 2, by have := (i 1).isLt; change (i 1).val < 16 at this; omega⟩ : Fin 8) = g := Fin.ext (by show (i 1).val / 2 = g.val; omega)
  have e : ix4 (n0 := 1) (n1 := 2) (n2 := 8) (n3 := 64) 0 ⟨(i 1).val % 2, Nat.mod_lt _ (by decide)⟩ (i 2) (i 3) = y := by
    funext a
    match a with
    | ⟨0, _⟩ => exact Fin.ext (by show 0 = (y 0).val; omega)
    | ⟨1, _⟩ => exact Fin.ext (by show (i 1).val % 2 = (y 1).val; omega)
    | ⟨2, _⟩ => exact Fin.ext h2
    | ⟨3, _⟩ => exact Fin.ext h3
  unfold lutArr
  rw [e1, e0, e]

/-- An entry of the result is the block's entry. -/
theorem attnArr_at (l : Vec F S2x16x8x64 .i32) (q k v : Vec F S2x4096x1024 .f32) (b : Fin 2) (g : Fin 8) (i : S2x4096x1024.Idx) (y : S1x4096x128.Idx)
    (h0 : (i 0).val = b.val) (h1 : (i 1).val = (y 1).val) (h2 : (i 2).val = g.val * 128 + (y 2).val) :
    Attn.attnOut (cutT l b g) (cut q b g) (cut k b g) (cut v b g) y = attnArr l q k v i := by
  have hy0 : (y 0).val < 1 := (y 0).isLt
  have hy2 : (y 2).val < 128 := (y 2).isLt
  have e0 : i 0 = b := Fin.ext h0
  have e1 : (⟨(i 2).val / 128, by have := (i 2).isLt; change (i 2).val < 1024 at this; omega⟩ : Fin 8) = g := Fin.ext (by show (i 2).val / 128 = g.val; omega)
  have e : ix3 (n0 := 1) (n1 := 4096) (n2 := 128) 0 (i 1) ⟨(i 2).val % 128, Nat.mod_lt _ (by decide)⟩ = y := by
    funext a
    match a with
    | ⟨0, _⟩ => exact Fin.ext (by show 0 = (y 0).val; omega)
    | ⟨1, _⟩ => exact Fin.ext h1
    | ⟨2, _⟩ => exact Fin.ext (by show (i 2).val % 128 = (y 2).val; omega)
  unfold attnArr
  simp only [e1, e0, e]

section Table

variable (W : Dev nD → Valuation τ sig (Elt F))

theorem e0_0 : ∀ t : Fin cfg0.N, win0_0.index t = ![t.val / 8, 0, t.val % 8] :=
  (by decide +kernel : ∀ t : Fin grid0.N, _)
theorem e0_1 : ∀ t : Fin cfg0.N, win0_1.index t = ![t.val / 8, 0, t.val % 8] :=
  (by decide +kernel : ∀ t : Fin grid0.N, _)
theorem e0_2 : ∀ t : Fin cfg0.N, win0_2.index t = ![t.val / 8, t.val % 8, 0, 0] :=
  (by decide +kernel : ∀ t : Fin grid0.N, _)

theorem lut_block0 (c : Dev nD) (t : Fin cfg0.N) : Lut.block W c 0 t = cut (W c main_call0_v0) (bat t) (grp t) := by
  funext y
  unfold cut bat grp
  blk_simp [Lut.block]
  refine congrArg _ ?_
  blk_ext [e0_0]

theorem lut_block1 (c : Dev nD) (t : Fin cfg0.N) : Lut.block W c 1 t = cut (W c main_call0_v1) (bat t) (grp t) := by
  funext y
  unfold cut bat grp
  blk_simp [Lut.block]
  refine congrArg _ ?_
  blk_ext [e0_1]

/-- The table array after the first call. -/
theorem lut_arr (c : Dev nD) : (Lut.dat W c).arrAt 2 cfg0.N = lutArr (W c main_call0_v0) (W c main_call0_v1) := by
  refine (Lut.dat W c).arrAt_eq_of_covers 2 _ (by decide +kernel) fun t hf y => ?_
  blk_simp
  rw [Lut.after_2, lut_block0, lut_block1]
  refine lutArr_at _ _ (bat t) (grp t) _ y ?_ ?_ ?_ ?_ <;> (blk_simp [bat, grp, e0_2]; try omega)

end Table

section Attention

variable (W : Dev nD → Valuation τ sig (Elt F))

theorem e1_0 : ∀ t : Fin cfg1.N, win1_0.index t = ![t.val / 8, t.val % 8, 0, 0] :=
  (by decide +kernel : ∀ t : Fin grid1.N, _)
theorem e1_1 : ∀ t : Fin cfg1.N, win1_1.index t = ![t.val / 8, 0, t.val % 8] :=
  (by decide +kernel : ∀ t : Fin grid1.N, _)
theorem e1_2 : ∀ t : Fin cfg1.N, win1_2.index t = ![t.val / 8, 0, t.val % 8] :=
  (by decide +kernel : ∀ t : Fin grid1.N, _)
theorem e1_3 : ∀ t : Fin cfg1.N, win1_3.index t = ![t.val / 8, 0, t.val % 8] :=
  (by decide +kernel : ∀ t : Fin grid1.N, _)
theorem e1_4 : ∀ t : Fin cfg1.N, win1_4.index t = ![t.val / 8, 0, t.val % 8] :=
  (by decide +kernel : ∀ t : Fin grid1.N, _)

theorem attn_block0 (c : Dev nD) (t : Fin cfg1.N) : Attn.block W c 0 t = cutT (W c main_call0_v3) (bat t) (grp t) := by
  funext y
  unfold cutT bat grp
  blk_simp [Attn.block]
  refine congrArg _ ?_
  blk_ext [e1_0]

theorem attn_block1 (c : Dev nD) (t : Fin cfg1.N) : Attn.block W c 1 t = cut (W c main_call0_v0) (bat t) (grp t) := by
  funext y
  unfold cut bat grp
  blk_simp [Attn.block]
  refine congrArg _ ?_
  blk_ext [e1_1]

theorem attn_block2 (c : Dev nD) (t : Fin cfg1.N) : Attn.block W c 2 t = cut (W c main_call0_v1) (bat t) (grp t) := by
  funext y
  unfold cut bat grp
  blk_simp [Attn.block]
  refine congrArg _ ?_
  blk_ext [e1_2]

theorem attn_block3 (c : Dev nD) (t : Fin cfg1.N) : Attn.block W c 3 t = cut (W c main_call0_v2) (bat t) (grp t) := by
  funext y
  unfold cut bat grp
  blk_simp [Attn.block]
  refine congrArg _ ?_
  blk_ext [e1_3]

/-- The result array after the second call. -/
theorem attn_arr (c : Dev nD) : (Attn.dat W c).arrAt 4 cfg1.N
    = attnArr (W c main_call0_v3) (W c main_call0_v0) (W c main_call0_v1) (W c main_call0_v2) := by
  refine (Attn.dat W c).arrAt_eq_of_covers 4 _ (by decide +kernel) fun t hf y => ?_
  blk_simp
  rw [Attn.after_4, attn_block0, attn_block1, attn_block2, attn_block3]
  refine attnArr_at _ _ _ _ (bat t) (grp t) _ y ?_ ?_ ?_ <;> (blk_simp [bat, grp, e1_4]; try omega)

end Attention

end Cert.KernelIdeal.Arrays
-- ==== Proof.KernelRun.lean ====
module

public import proofs.«01_k».proof.Proof.LutData
public import proofs.«01_k».proof.Proof.AttnData
public import proofs.«01_k».proof.Proof.Gen.KernelIdeal.Regions
public import Idealize.ShloMosaic.Lib.Pipeline.RegionArraysS
public import Idealize.ShloMosaic.Lib.Pipeline.FrameTail
public import Idealize.ShloMosaic.Lib.Tactic

@[expose] public section

/-! The whole program: the table call, the attention call after it, and what the result buffer then holds. -/

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg afterRegion ucRefs)
open Cert.KernelIdeal Cert.KernelIdeal.Gen

variable {F : FTy → Type} [FloatOps F]

local notation "𝕄" => MT nD τ sig Unit (Elt F) ℕ (UR sig nD τ) ℕ

variable (W0 W1 : Dev nD → Valuation τ sig (Elt F))

/-- The two calls' proof data, each from what it finds in the buffers. -/
def dats (p : Fin 2) (c : Dev nD) : Dat τ (Elt F) Unit ℕ (UR sig nD τ) ℕ (cfgs p) c :=
  match p with
  | ⟨0, _⟩ => Lut.dat W0 c
  | ⟨1, _⟩ => Attn.dat W1 c

/-- Staging waits carry the one index, at level 0. -/
def lvS : GSem nD τ sig → Finset Unit := fun g => if g.1.2 = .tc then {()} else ∅
/-- The level of that index. -/
abbrev lev : GSem nD τ sig → Unit → ℕ := fun _ _ => 0

/-- What rides beside the buffers: the core's tally of dues, at nothing, and its generator register. -/
abbrev beside (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () lvS lev p (fun _ : Dev nD => 0) (fun _ => 0) where
  hι c w s := by unfold lvS; rw [if_pos rfl]; exact Finset.mem_singleton_self _
  hιb _ _ _ := le_refl _
  hD _ _ _ h := absurd h (lt_irrefl _)

/-- The table call as a segment of the run. -/
def reg0 : RegionSeg (pcfgs (F := F)) adm (dats W0 W1) () defs₀ Variants.none lvS lev 0 :=
  RegionSeg.ofHeldIn (pcfgs (F := F)) adm (dats W0 W1) () defs₀ Variants.none lvS lev 0 (fun _ => 0) (ucRefs τ sig)
    (fun c => iprop(∃ r, prngReg c r)) (fun c => iprop(∃ r, prngReg c r)) launch0.toP rfl
    (fun c => (Lut.obligation W0 c).loose) (fun _ _ => rfl) (fun _ => rfl) (fun c => (Lut.dat W0 c).share_full fun _ => rfl)
    (fun c => .rfl) (fun c => .rfl) (fun _ => 0) (cut 0) (fun _ => iprop(emp)) W0 (fun c w => Lut.A_eq W0 c w)

/-- The attention call as a segment of the run. -/
def reg1 (hT : Attn.TableOk W1) : RegionSeg (pcfgs (F := F)) adm (dats W0 W1) () defs₀ Variants.none lvS lev 1 :=
  RegionSeg.ofHeldIn (pcfgs (F := F)) adm (dats W0 W1) () defs₀ Variants.none lvS lev 1 (fun _ => 0) (ucRefs τ sig)
    (fun c => iprop(∃ r, prngReg c r)) (fun c => iprop(∃ r, prngReg c r)) launch1.toP rfl
    (fun c => (Attn.obligation W1 hT c).loose) (fun _ _ => rfl) (fun _ => rfl) (fun c => (Attn.dat W1 c).share_full fun _ => rfl)
    (fun c => .rfl) (fun c => .rfl) (fun _ => 0) (cut 1) (fun _ => iprop(emp)) W1 (fun c w => Attn.A_eq W1 c w)

theorem arrs0 : Pipeline.arrRefs (τ := τ) (pcfgs (F := F) 0).spec ⊆ ucRefs τ sig := Pipeline.arrRefs_sub_ucRefs spec0 (by decide)
theorem arrs1 : Pipeline.arrRefs (τ := τ) (pcfgs (F := F) 1).spec ⊆ ucRefs τ sig := Pipeline.arrRefs_sub_ucRefs spec1 (by decide)

theorem pre0 (c : Dev nD) : iprop(StableHlo.held (c : Thread nD τ) (ucRefs τ sig) (W0 c) ∗ beside (F := F) c) ⊢ (reg0 W0 W1).pre c := by
  unfold reg0
  exact RegionSeg.ofHeldIn_pre (pcs := pcfgs (F := F)) (a := adm) (pdats := dats W0 W1) (ι := ()) (defs₀ := defs₀) (𝒱₀ := Variants.none) (L := lvS) (lv := lev)
    (p := 0) (D := fun _ => 0) (X := fun c => iprop(∃ r, prngReg c r)) (R := fun _ => iprop(emp)) (W := W0) arrs0 c

theorem post0 (c : Dev nD) : (reg0 W0 W1).post c ⊢ iprop(StableHlo.held (c : Thread nD τ) (ucRefs τ sig) (afterRegion (Lut.dat W0 c) (W0 c)) ∗ beside (F := F) c) := by
  unfold reg0
  exact RegionSeg.ofHeldIn_post arrs0 c

theorem pre1 (hT : Attn.TableOk W1) (c : Dev nD) :
    iprop(StableHlo.held (c : Thread nD τ) (ucRefs τ sig) (W1 c) ∗ beside (F := F) c) ⊢ (reg1 W0 W1 hT).pre c := by
  unfold reg1
  exact RegionSeg.ofHeldIn_pre (pcs := pcfgs (F := F)) (a := adm) (pdats := dats W0 W1) (ι := ()) (defs₀ := defs₀) (𝒱₀ := Variants.none) (L := lvS) (lv := lev)
    (p := 1) (D := fun _ => 0) (X := fun c => iprop(∃ r, prngReg c r)) (R := fun _ => iprop(emp)) (W := W1) arrs1 c

theorem post1 (hT : Attn.TableOk W1) (c : Dev nD) :
    (reg1 W0 W1 hT).post c ⊢ iprop(StableHlo.held (c : Thread nD τ) (ucRefs τ sig) (afterRegion (Attn.dat W1 c) (W1 c)) ∗ beside (F := F) c) := by
  unfold reg1
  exact RegionSeg.ofHeldIn_post arrs1 c

variable (m : (ℓ : Loc nD τ sig) → Buf (Elt F) ℓ)

/-- The buffers once the table call has run. -/
abbrev U2 (c : Dev nD) : Valuation τ sig (Elt F) :=
  Function.update (V1 m c) main_call0_v3 (afterRegion (Lut.dat (V1 m) c) (V1 m c) main_call0_v3)

/-- What each call leaves in the array it writes. -/
def outs : Outs (F := F) := fun n r c =>
  if n = 2 then afterRegion (Lut.dat (V1 m) c) (V1 m c) r else afterRegion (Attn.dat (U2 m) c) (U2 m c) r

theorem V2_eq : V2 m (outs m) = U2 m := by
  funext c; unfold V2 outs; rw [if_pos rfl]

theorem outs3 (c : Dev nD) : outs m 3 main_call0_v4 c = afterRegion (Attn.dat (U2 m) c) (U2 m c) main_call0_v4 := by
  unfold outs; rw [if_neg (by decide)]

theorem outs2 (c : Dev nD) : outs m 2 main_call0_v3 c = afterRegion (Lut.dat (V1 m) c) (V1 m c) main_call0_v3 := by
  unfold outs; rw [if_pos rfl]

/-- After the table call every unscoped buffer but the table is as before. -/
theorem after0 (c : Dev nD) : ∀ b ∈ ucRefs τ sig, afterRegion (Lut.dat (V1 m) c) (V1 m c) b = V2 m (outs m) c b := fun b hb => by
  obtain ⟨r, -, rfl⟩ := Finset.mem_map.mp (Finset.mem_filter.mp hb).1
  by_cases h : r = main_call0_v3
  · subst h
    rw [V2_eq]
    show afterRegion (Lut.dat (V1 m) c) (V1 m c) (Proc.devRef .tc main_call0_v3) = U2 m c (Proc.devRef .tc main_call0_v3)
    unfold U2; rw [Function.update_self]
  · refine (Pipeline.afterRegion_keeps (Lut.dat (V1 m) c) (V1 m c) launch0.win.arr_inj (Lut.A_eq (V1 m) c) r ?_).trans (V2_of m (outs m) c r (by simpa using h)).symm
    intro w hw
    revert w; intro w
    fin_cases w
    · exact fun _ => rfl
    · exact fun _ => rfl
    · exact fun e => absurd e.symm h

/-- After the attention call every unscoped buffer but the result is as before. -/
theorem after1 (c : Dev nD) : ∀ b ∈ ucRefs τ sig, afterRegion (Attn.dat (U2 m) c) (U2 m c) b = V3 m (outs m) c b := fun b hb => by
  obtain ⟨r, -, rfl⟩ := Finset.mem_map.mp (Finset.mem_filter.mp hb).1
  by_cases h : r = main_call0_v4
  · subst h
    show afterRegion (Attn.dat (U2 m) c) (U2 m c) (Proc.devRef .tc main_call0_v4) = V3 m (outs m) c (Proc.devRef .tc main_call0_v4)
    unfold V3; rw [Function.update_self]; exact (outs3 m c).symm
  · refine (Pipeline.afterRegion_keeps (Attn.dat (U2 m) c) (U2 m c) launch1.win.arr_inj (Attn.A_eq (U2 m) c) r ?_).trans
      ((V3_of m (outs m) c r (by simpa using h)).trans (congrFun (congrFun (V2_eq m) c) _)).symm
    intro w hw
    revert w; intro w
    fin_cases w
    · exact fun _ => rfl
    · exact fun _ => rfl
    · exact fun _ => rfl
    · exact fun _ => rfl
    · exact fun e => absurd e.symm h

theorem held0 (c : Dev nD) : (StableHlo.held (c : Thread nD τ) (ucRefs τ sig) (afterRegion (Lut.dat (V1 m) c) (V1 m c)) : sProp 𝕄)
    = StableHlo.held (c : Thread nD τ) (ucRefs τ sig) (V2 m (outs m) c) := StableHlo.held_congr (c : Thread nD τ) (after0 m c)

theorem held1 (c : Dev nD) : (StableHlo.held (c : Thread nD τ) (ucRefs τ sig) (afterRegion (Attn.dat (U2 m) c) (U2 m c)) : sProp 𝕄)
    = StableHlo.held (c : Thread nD τ) (ucRefs τ sig) (V3 m (outs m) c) := StableHlo.held_congr (c : Thread nD τ) (after1 m c)

theorem held2 (c : Dev nD) : (StableHlo.held (c : Thread nD τ) (ucRefs τ sig) (V2 m (outs m) c) : sProp 𝕄)
    = StableHlo.held (c : Thread nD τ) (ucRefs τ sig) (U2 m c) := congrArg _ (congrFun (V2_eq m) c)

set_option backward.isDefEq.respectTransparency.types false in
/-- The whole program run: given that every table entry names a block, it ends with the arguments as they were, every
    counter at zero, and the result buffer at the last valuation. -/
theorem run (hT : Attn.TableOk (U2 m)) (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = V4 m (outs m) c main_v0)
      ∧ r.2.sem = fun _ => 0) := by
  refine Pipeline.θ_run_regions_kit_dev_sems (pcfgs (F := F)) adm (dats (V1 m) (U2 m)) () cellOf_inj emb₁ defs₀ Variants.none lvS lev m ρ main
    (segs m (outs m) Variants.none lvS lev (fun _ => beside) () (dats (V1 m) (U2 m)) (reg0 (V1 m) (U2 m)) (reg1 (V1 m) (U2 m) hT))
    (fun c Q => by
      rewrite [main_chain c, Pipeline.Seg.run_eq_chain,
        show (segs m (outs m) Variants.none lvS lev (fun _ => beside) () (dats (V1 m) (U2 m)) (reg0 (V1 m) (U2 m)) (reg1 (V1 m) (U2 m) hT) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := fun _ => 0) (hL := fun g hg => if_neg hg) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ beside c))
    (Tₙ := fun c => StableHlo.held (c : Thread nD τ) (ucRefs τ sig) (V4 m (outs m) c))
    (hch := fun c => ⟨.rfl, pre0 (V1 m) (U2 m) c,
      (post0 (V1 m) (U2 m) c).trans ((sep_mono (Entails.of_eq ((held0 m c).trans (held2 m c))) .rfl).trans (pre1 (V1 m) (U2 m) hT c)),
      (post1 (V1 m) (U2 m) hT c).trans (sep_mono (Entails.of_eq (held1 m c)) .rfl), sep_mono .rfl (by
      unfold beside; iintro ⟨H, -, -⟩; iexact H)⟩)
    (hinit := by
      refine Pipeline.initEach lvS lev fun c => ?_
      rw [show unscopedBufs c (fun b => m ((c.tc : Thread nD τ).loc b)) = StableHlo.held (c.tc : Thread nD τ) (ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v0) = V4 m (outs m) c main_v0)
    (hfin := fun c s' => ?_) (hQ := fun _ h hz => ⟨h, funext fun g => hz g (.inr (regions_no_unscoped g.2))⟩)
  unfold StableHlo.held
  iintro ⟨Hh, HSI⟩
  ihave Hr := (pointsTo_read_all (ucRefs τ sig) (fun b => ((c : Thread nD τ).1, b)) (V4 m (outs m) c) s') $$ [Hh HSI]
  · isplitl [Hh] <;> iassumption
  icases Hr with ⟨%h, HSI⟩
  imodintro
  isplitr
  · ipureintro
    have at_ := fun (r : Ref sig .tc) (hr : ¬ (Proc.devRef .tc r : DevRef τ sig).isScoped) => h (Proc.devRef .tc r) (Finset.mem_filter.mpr ⟨StableHlo.devRef_mem_tcRefs r, hr⟩)
    exact ⟨⟨(at_ main_arg0 (by decide)).trans (V4_main_arg0 m (outs m) c), (at_ main_arg1 (by decide)).trans (V4_main_arg1 m (outs m) c),
      (at_ main_arg2 (by decide)).trans (V4_main_arg2 m (outs m) c), (at_ main_arg3 (by decide)).trans (V4_main_arg3 m (outs m) c),
      (at_ main_arg4 (by decide)).trans (V4_main_arg4 m (outs m) c)⟩, at_ main_v0 (by decide)⟩
  · iexact HSI

end Cert.KernelIdeal.Whole
-- ==== Proof.Ideal.lean ====
module

public import proofs.«01_k».proof.Proof.LutBest
public import proofs.«01_k».proof.Proof.Arrays
public import proofs.«01_k».proof.Proof.KernelRun
public import Idealize.ShloMosaic.Lib.StableHlo.RunRead
public import Idealize.ShloMosaic.Lib.StableHlo.ReadAt

@[expose] public section

/-! At the exact values the table's entries are block numbers below 64, so the whole program runs, and its result buffer
holds the attention under that table. -/

set_option maxRecDepth 16384

noncomputable section

namespace Cert.KernelIdeal.Whole

open Idealize.ShloMosaic Idealize.ShloMosaic.TcCoe Idealize.ShloMosaic.Tactic
open Idealize.SL.Sem
open Idealize.ShloMosaic.Pipeline (afterRegion)
open Cert.KernelIdeal Cert.KernelIdeal.Gen Cert.KernelIdeal.Arrays

variable (m : (ℓ : Loc nD τ sig) → Buf (Elt Ideal) ℓ) (ρ : Dev nD → PrngReg)

/-- The table array the attention call finds. -/
theorem table_eq (c : Dev nD) : U2 m c main_call0_v3 = lutArr (V1 m c main_call0_v0) (V1 m c main_call0_v1) := by
  show (Function.update (V1 m c) main_call0_v3 _ : Valuation τ sig (Elt Ideal)) main_call0_v3 = _
  rw [Function.update_self]
  exact (Pipeline.afterRegion_arr (Lut.dat (V1 m) c) (V1 m c) launch0.win.arr_inj 2).trans (lut_arr (V1 m) c)

/-- A table entry is a block number. -/
theorem lutArr_lt (q k : Vec Ideal S2x4096x1024 .f32) (i : S2x16x8x64.Idx) : (lutArr q k i : BitVec 32).toNat < 64 := by
  unfold lutArr
  rw [Lut.lutOut_apply, BitVec.toNat_ofNat]
  exact (Nat.mod_le _ _).trans_lt (Fin.isLt _)

/-- The attention call finds block numbers in its table. -/
theorem tableOk : Attn.TableOk (U2 m) := fun c t i => by
  rw [attn_block0, table_eq]
  exact lutArr_lt _ _ _

/-- An argument flattened over heads. -/
def flat (x : Vec Ideal S2x4096x16x64 .f32) : Vec Ideal S2x4096x1024 .f32 := shapeCast S2x4096x1024 x shapeCasts_S2x4096x16x64_S2x4096x1024

theorem v1_q (c : Dev nD) : V1 m c main_call0_v0 = flat (m ((c.tc : Thread nD τ).loc main_arg0)) := by
  unfold V1
  after_reads_simp
  rfl

theorem v1_k (c : Dev nD) : V1 m c main_call0_v1 = flat (m ((c.tc : Thread nD τ).loc main_arg1)) := by
  unfold V1
  after_reads_simp
  rfl

theorem v1_v (c : Dev nD) : V1 m c main_call0_v2 = flat (m ((c.tc : Thread nD τ).loc main_arg2)) := by
  unfold V1
  after_reads_simp
  rfl

/-- The attention call finds the arrays it reads as the table call did. -/
theorem u2_q (c : Dev nD) : U2 m c main_call0_v0 = V1 m c main_call0_v0 := by
  rw [← V2_eq]; exact V2_of m (outs m) c main_call0_v0 (by decide)
theorem u2_k (c : Dev nD) : U2 m c main_call0_v1 = V1 m c main_call0_v1 := by
  rw [← V2_eq]; exact V2_of m (outs m) c main_call0_v1 (by decide)
theorem u2_v (c : Dev nD) : U2 m c main_call0_v2 = V1 m c main_call0_v2 := by
  rw [← V2_eq]; exact V2_of m (outs m) c main_call0_v2 (by decide)

/-- The result array of the attention call. -/
theorem v3_out (c : Dev nD) : V3 m (outs m) c main_call0_v4
    = attnArr (lutArr (V1 m c main_call0_v0) (V1 m c main_call0_v1)) (V1 m c main_call0_v0) (V1 m c main_call0_v1) (V1 m c main_call0_v2) := by
  show (Function.update (V2 m (outs m) c) main_call0_v4 _ : Valuation τ sig (Elt Ideal)) main_call0_v4 = _
  rw [Function.update_self, outs3]
  refine (Pipeline.afterRegion_arr (Attn.dat (U2 m) c) (U2 m c) launch1.win.arr_inj 4).trans ((attn_arr (U2 m) c).trans ?_)
  rw [table_eq, u2_q, u2_k, u2_v]

/-- What the kernel computes of its arguments, heads flattened. -/
def flatOut (q k v : Vec Ideal S2x4096x16x64 .f32) : Vec Ideal S2x4096x1024 .f32 :=
  attnArr (lutArr (flat q) (flat k)) (flat q) (flat k) (flat v)

/-- What the result buffer holds at the end. -/
theorem v4_out (c : Dev nD) : V4 m (outs m) c main_v0 = shapeCast S2x4096x16x64
      (flatOut (m ((c.tc : Thread nD τ).loc main_arg0)) (m ((c.tc : Thread nD τ).loc main_arg1)) (m ((c.tc : Thread nD τ).loc main_arg2)))
      shapeCasts_S2x4096x1024_S2x4096x16x64 := by
  have h := v3_out m c
  rw [v1_q, v1_k, v1_v] at h
  unfold flatOut
  rw [← h]
  unfold V4
  after_reads_simp
  rfl

/-- The kernel's program at the exact values: it runs, keeps its arguments, and its result is `flatOut` of them. -/
theorem run_ideal : θ_run defs (onTc (τ := τ) (main (F := Ideal))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = shapeCast S2x4096x16x64
          (flatOut (m ((c.tc : Thread nD τ).loc main_arg0)) (m ((c.tc : Thread nD τ).loc main_arg1)) (m ((c.tc : Thread nD τ).loc main_arg2)))
          shapeCasts_S2x4096x1024_S2x4096x16x64)
      ∧ r.2.sem = fun _ => 0) :=
  (θ_run _ _ _).mono (fun r h => ⟨fun c => ⟨(h.1 c).1, (h.1 c).2.trans (v4_out m c)⟩, h.2⟩) (run m (tableOk m) ρ)

end Cert.KernelIdeal.Whole
-- ==== Proof.AttnEntry.lean ====
module

public import proofs.«01_k».proof.Proof.AttnClosed
public import Idealize.ShloMosaic.Lib.Pointwise
public import Idealize.ShloMosaic.PureOps.Ideal.Laws

@[expose] public section

/-! One entry of the attention kernel's block at the exact values. -/

set_option maxRecDepth 16384

noncomputable section

namespace Cert.KernelIdeal.Attn

open Idealize.ShloMosaic Idealize.ShloMosaic.TcCoe Idealize.ShloMosaic.Tactic
open Cert.KernelIdeal Cert.KernelIdeal.Gen

theorem stack_apply (B : Fin 8 → Blk Ideal) (T : Fin 8) (r d : Fin 64) (j : Fin 512) (hj : j.val = T.val * 64 + r.val) :
    stack (B 0) (B 1) (B 2) (B 3) (B 4) (B 5) (B 6) (B 7) (ix2 (n0 := 512) (n1 := 64) j d) = B T (ix3 (n0 := 1) (n1 := 64) (n2 := 64) 0 r d) := by
  have hr := r.isLt
  fin_cases T <;> pointwise [stack] <;> dsimp at hj <;> (repeat rw [dif_neg (by omega)]) <;> (try rw [dif_pos (by omega)])
  all_goals exact congrArg _ (congrArg (fun x => ix3 (n0 := 1) (n1 := 64) (n2 := 64) 0 x d) (Fin.ext (by dsimp; omega)))

theorem expS_apply (qh : FVec Ideal S64x64 .bf16) (b0 b1 b2 b3 b4 b5 b6 b7 : Blk Ideal) (i : Fin 64) (j : Fin 512) :
    expS qh b0 b1 b2 b3 b4 b5 b6 b7 (ix2 (n0 := 64) (n1 := 512) i j) = Ideal.exp (∑ d : Fin 64, (qh (ix2 (n0 := 64) (n1 := 64) i d) : EReal) * stack b0 b1 b2 b3 b4 b5 b6 b7 (ix2 (n0 := 512) (n1 := 64) j d)) := by
  unfold expS
  generalize stack b0 b1 b2 b3 b4 b5 b6 b7 = s
  pointwise

theorem rowSum_apply (p : FVec Ideal S64x512 .f32) (i : Fin 64) :
    rowSum p (ix2 (n0 := 64) (n1 := 1) i 0) = ∑ j : Fin 512, p (ix2 (n0 := 64) (n1 := 512) i j) := by
  unfold rowSum
  pointwise

theorem quot_apply (p : FVec Ideal S64x512 .bf16) (dd : FVec Ideal S64x1 .f32) (b0 b1 b2 b3 b4 b5 b6 b7 : Blk Ideal) (i d : Fin 64) :
    quot p dd b0 b1 b2 b3 b4 b5 b6 b7 (ix2 (n0 := 64) (n1 := 64) i d) = Ideal.div (∑ j : Fin 512, (p (ix2 (n0 := 64) (n1 := 512) i j) : EReal) * stack b0 b1 b2 b3 b4 b5 b6 b7 (ix2 (n0 := 512) (n1 := 64) j d)) (dd (ix2 (n0 := 64) (n1 := 1) i 0)) := by
  unfold quot
  generalize stack b0 b1 b2 b3 b4 b5 b6 b7 = s
  pointwise

theorem outOf_apply (a : Carry Ideal) (b0 b1 b2 b3 b4 b5 b6 b7 c0 c1 c2 c3 c4 c5 c6 c7 : Blk Ideal) (i d : Fin 64) (p : Fin 2) (e : Fin 128)
    (he : e.val = p.val * 64 + d.val) :
    outOf a b0 b1 b2 b3 b4 b5 b6 b7 c0 c1 c2 c3 c4 c5 c6 c7 (ix3 (n0 := 1) (n1 := 64) (n2 := 128) 0 i e)
      = (if p = 0 then quot a.1 a.2.2.1 b0 b1 b2 b3 b4 b5 b6 b7 else quot a.2.1 a.2.2.2 c0 c1 c2 c3 c4 c5 c6 c7) (ix2 (n0 := 64) (n1 := 64) i d) := by
  unfold outOf
  generalize quot a.1 a.2.2.1 b0 b1 b2 b3 b4 b5 b6 b7 = x
  generalize quot a.2.1 a.2.2.2 c0 c1 c2 c3 c4 c5 c6 c7 = y
  fin_cases p <;> pointwise
  all_goals dsimp at he
  · rw [dif_pos (by omega)]
    exact congrArg _ (congrArg (fun x => ix2 (n0 := 64) (n1 := 64) i x) (Fin.ext (by dsimp; omega)))
  · rw [dif_neg (by omega)]
    exact congrArg _ (congrArg (fun x => ix2 (n0 := 64) (n1 := 64) i x) (Fin.ext (by dsimp; omega)))

theorem pay3_apply (x : Vec Ideal S1x64x128 .f32) (i d : Fin 64) :
    k1_pay3 x (ix2 (n0 := 64) (n1 := 64) i d) = (x (ix3 (n0 := 1) (n1 := 64) (n2 := 128) 0 i ⟨d.val, by omega⟩) : EReal) * Ideal.ofBits .f32 0x3E000000#32 := by
  pointwise [k1_pay3, k1_pay2]

theorem pay8_apply (x : Vec Ideal S1x64x128 .f32) (i d : Fin 64) :
    k1_pay8 (k1_pay2 x) (ix2 (n0 := 64) (n1 := 64) i d) = (x (ix3 (n0 := 1) (n1 := 64) (n2 := 128) 0 i ⟨64 + d.val, by omega⟩) : EReal) * Ideal.ofBits .f32 0x3E000000#32 := by
  pointwise [k1_pay8, k1_pay2]

/-- The row of keys that column `j` of the scores of query block `m` stands for. -/
def krow (x0 : Vec Ideal S1x2x8x64 .i32) (p : Fin 2) (m : ℕ) (j : Fin 512) : Fin 4096 :=
  ⟨((word x0 p ⟨j.val / 64, by omega⟩ m).toNat * 64 + j.val % 64) % 4096, Nat.mod_lt _ (by decide)⟩

/-- Column `d` of head `p`. -/
def hcol (p : Fin 2) (d : Fin 64) : Fin 128 := ⟨p.val * 64 + d.val, by omega⟩

/-- The stacked blocks a table names, entry by entry. -/
theorem stack_blk (x0 : Vec Ideal S1x2x8x64 .i32) (x : Vec Ideal S1x4096x128 .f32) (p : Fin 2) (m : ℕ) (j : Fin 512) (d : Fin 64) :
    stack (blk (half16 x) p (word x0 p 0 m)) (blk (half16 x) p (word x0 p 1 m)) (blk (half16 x) p (word x0 p 2 m)) (blk (half16 x) p (word x0 p 3 m))
      (blk (half16 x) p (word x0 p 4 m)) (blk (half16 x) p (word x0 p 5 m)) (blk (half16 x) p (word x0 p 6 m)) (blk (half16 x) p (word x0 p 7 m))
      (ix2 (n0 := 512) (n1 := 64) j d) = x (ix3 (n0 := 1) (n1 := 4096) (n2 := 128) 0 (krow x0 p m j) (hcol p d)) :=
  (stack_apply (fun T => blk (half16 x) p (word x0 p T m)) ⟨j.val / 64, by omega⟩ ⟨j.val % 64, Nat.mod_lt _ (by decide)⟩ d j
    (by dsimp; omega)).trans rfl

/-- The score of query row `l` of head `p` against column `j`. -/
def score (x0 : Vec Ideal S1x2x8x64 .i32) (x1 x2 : Vec Ideal S1x4096x128 .f32) (p : Fin 2) (l : Fin 4096) (j : Fin 512) : EReal :=
  ∑ d : Fin 64, ((x1 (ix3 (n0 := 1) (n1 := 4096) (n2 := 128) 0 l (hcol p d)) : EReal) * Ideal.ofBits .f32 0x3E000000#32)
    * x2 (ix3 (n0 := 1) (n1 := 4096) (n2 := 128) 0 (krow x0 p (l.val / 64) j) (hcol p d))

theorem qblk_row (x : Vec Ideal S1x4096x128 .f32) (l : Fin 4096) (e : Fin 128) :
    qblk x (l.val / 64) (ix3 (n0 := 1) (n1 := 64) (n2 := 128) 0 ⟨l.val % 64, Nat.mod_lt _ (by decide)⟩ e)
      = x (ix3 (n0 := 1) (n1 := 4096) (n2 := 128) 0 l e) := by
  unfold qblk
  refine congrArg (fun r => x (ix3 (n0 := 1) (n1 := 4096) (n2 := 128) 0 r e)) (Fin.ext ?_)
  show (l.val / 64 * 64 + l.val % 64) % 4096 = l.val
  omega

theorem exp0 (x0 : Vec Ideal S1x2x8x64 .i32) (x1 x2 : Vec Ideal S1x4096x128 .f32) (l : Fin 4096) (j : Fin 512) :
    (carry x0 x1 (half16 x2) (l.val / 64)).1 (ix2 (n0 := 64) (n1 := 512) ⟨l.val % 64, Nat.mod_lt _ (by decide)⟩ j) = Ideal.exp (score x0 x1 x2 0 l j) := by
  refine (expS_apply _ _ _ _ _ _ _ _ _ _ _).trans (congrArg Ideal.exp (Finset.sum_congr rfl fun d _ => ?_))
  rw [stack_blk, pay3_apply, qblk_row]
  congr 5
  show d.val = 0 * 64 + d.val
  omega

theorem exp1 (x0 : Vec Ideal S1x2x8x64 .i32) (x1 x2 : Vec Ideal S1x4096x128 .f32) (l : Fin 4096) (j : Fin 512) :
    (carry x0 x1 (half16 x2) (l.val / 64)).2.1 (ix2 (n0 := 64) (n1 := 512) ⟨l.val % 64, Nat.mod_lt _ (by decide)⟩ j) = Ideal.exp (score x0 x1 x2 1 l j) := by
  refine (expS_apply _ _ _ _ _ _ _ _ _ _ _).trans (congrArg Ideal.exp (Finset.sum_congr rfl fun d _ => ?_))
  rw [stack_blk, pay8_apply, qblk_row]
  congr 5

/-- An entry of the attention kernel's block: the weighted mean of the values under the exponentials of the scores. -/
theorem attnOut_apply (x0 : Vec Ideal S1x2x8x64 .i32) (x1 x2 x3 : Vec Ideal S1x4096x128 .f32) (l : Fin 4096) (p : Fin 2) (d : Fin 64) :
    attnOut x0 x1 x2 x3 (ix3 (n0 := 1) (n1 := 4096) (n2 := 128) 0 l (hcol p d))
      = Ideal.div (∑ j : Fin 512, Ideal.exp (score x0 x1 x2 p l j) * (x3 (ix3 (n0 := 1) (n1 := 4096) (n2 := 128) 0 (krow x0 p (l.val / 64) j) (hcol p d)) : EReal))
          (∑ j : Fin 512, Ideal.exp (score x0 x1 x2 p l j)) := by
  unfold attnOut outBlk
  refine (outOf_apply _ _ _ _ _ _ _ _ _ _ _ _ _ _ _ _ _ ⟨l.val % 64, Nat.mod_lt _ (by decide)⟩ d p (hcol p d) rfl).trans ?_
  fin_cases p
  · refine (quot_apply _ _ _ _ _ _ _ _ _ _ _ _).trans (congrArg₂ Ideal.div (Finset.sum_congr rfl fun j _ => ?_) ?_)
    · exact congrArg₂ (· * ·) (exp0 x0 x1 x2 l j) (stack_blk x0 x3 0 _ j d)
    · refine (rowSum_apply _ _).trans (Finset.sum_congr rfl fun j _ => ?_)
      exact exp0 x0 x1 x2 l j
  · refine (quot_apply _ _ _ _ _ _ _ _ _ _ _ _).trans (congrArg₂ Ideal.div (Finset.sum_congr rfl fun j _ => ?_) ?_)
    · exact congrArg₂ (· * ·) (exp1 x0 x1 x2 l j) (stack_blk x0 x3 1 _ j d)
    · refine (rowSum_apply _ _).trans (Finset.sum_congr rfl fun j _ => ?_)
      exact exp1 x0 x1 x2 l j

end Cert.KernelIdeal.Attn
-- ==== Proof.LutEntry.lean ====
module

public import proofs.«01_k».proof.Proof.LutForm
public import Idealize.ShloMosaic.Lib.Pointwise
public import Idealize.ShloMosaic.PureOps.Ideal.Laws

@[expose] public section

/-! One entry of the pooled scores at the exact values. -/

set_option maxRecDepth 16384

noncomputable section

namespace Cert.KernelIdeal.Lut

open Idealize.ShloMosaic Idealize.ShloMosaic.TcCoe Idealize.ShloMosaic.Tactic
open Cert.KernelIdeal Cert.KernelIdeal.Gen

/-- The mean of column `e` over block `m` of rows. -/
def mean (x : Vec Ideal S1x4096x128 .f32) (m : Fin 64) (e : Fin 128) : EReal :=
  Ideal.div (∑ i : Fin 64, x (ix3 (n0 := 1) (n1 := 4096) (n2 := 128) 0 ⟨m.val * 64 + i.val, by omega⟩ e)) (Ideal.ofBits .f32 0x42800000#32)

theorem pay5_apply (x : Vec Ideal S1x4096x128 .f32) (m : Fin 64) (e : Fin 128) :
    k0_pay5 x (ix2 (n0 := 64) (n1 := 128) m e) = mean x m e := by
  pointwise [k0_pay5, mean]

theorem pay6_apply (x : Vec Ideal S1x4096x128 .f32) (m : Fin 64) (e : Fin 128) :
    k0_pay6 x (ix2 (n0 := 64) (n1 := 128) m e) = mean x m e := by
  pointwise [k0_pay6, mean]

/-- An entry of the pooled scores of head `p`: the products of the means. -/
theorem pooled_apply (p : Fin 2) (x0 x1 : Vec Ideal S1x4096x128 .f32) (m n : Fin 64) :
    pooled p x0 x1 (ix2 (n0 := 64) (n1 := 64) m n)
      = ∑ d : Fin 64, mean x0 m ⟨p.val * 64 + d.val, by omega⟩ * mean x1 n ⟨p.val * 64 + d.val, by omega⟩ := by
  have h : ∀ (a b : FVec Ideal S64x128 .f32) (o : ℕ) (ho : o + 64 ≤ 128) (h : S64x128.Slices ![0, o] S64x64),
      matmul dot_S64x64_S64x64_S64x64_1_1_0_0_n_n none (extractStridedSlice S64x64 ![0, o] a h)
        (extractStridedSlice S64x64 ![0, o] b h) (constant S64x64 .f32 0x00000000#32) (ix2 (n0 := 64) (n1 := 64) m n)
        = ∑ d : Fin 64, (a (ix2 (n0 := 64) (n1 := 128) m ⟨o + d.val, by omega⟩) : EReal) * b (ix2 (n0 := 64) (n1 := 128) n ⟨o + d.val, by omega⟩) := by
    intro a b o ho h
    pointwise
  have e : ∀ (p : Fin 2) (o : ℕ) (ho : o + 64 ≤ 128), o = p.val * 64 → ∑ d : Fin 64, (k0_pay5 x0 (ix2 (n0 := 64) (n1 := 128) m ⟨o + d.val, by omega⟩) : EReal)
      * k0_pay6 x1 (ix2 (n0 := 64) (n1 := 128) n ⟨o + d.val, by omega⟩)
        = ∑ d : Fin 64, mean x0 m ⟨p.val * 64 + d.val, by omega⟩ * mean x1 n ⟨p.val * 64 + d.val, by omega⟩ := by
    intro p o ho e; subst e
    exact Finset.sum_congr rfl fun d _ => congrArg₂ (· * ·) (pay5_apply _ _ _) (pay6_apply _ _ _)
  match p with
  | 0 => exact (h _ _ 0 (by decide) slices_S64x128_o0_0_S64x64).trans (e 0 0 (by decide) rfl)
  | 1 => exact (h _ _ 64 (by decide) slices_S64x128_o0_64_S64x64).trans (e 1 64 (by decide) rfl)

end Cert.KernelIdeal.Lut
-- ==== Proof.Spec.lean ====
module

public import proofs.«01_k».proof.Proof.TopBlocks
public import Idealize.ShloMosaic.PureOps.Ideal

@[expose] public section

/-! What the kernel computes, as a formula over the entries of its arguments. -/

noncomputable section

namespace Cert.Spec

open Idealize.ShloMosaic

/-- The entries of an argument: batch, position, head, column. -/
abbrev Arr := Fin 2 → Fin 4096 → Fin 16 → Fin 64 → EReal

/-- The mean of a block of 64 rows. -/
def pmean (x : Arr) (b : Fin 2) (h : Fin 16) (m : Fin 64) (d : Fin 64) : EReal :=
  Ideal.div (∑ i : Fin 64, x b ⟨m.val * 64 + i.val, by omega⟩ h d) (Ideal.ofBits .f32 0x42800000#32)

/-- The pooled score of query block `m` and key block `n`. -/
def pscore (q k : Arr) (b : Fin 2) (h : Fin 16) (m n : Fin 64) : EReal := ∑ d : Fin 64, pmean q b h m d * pmean k b h n d

/-- The `t`-th key block selected for query block `m`. -/
def sel (q k : Arr) (b : Fin 2) (h : Fin 16) (m : Fin 64) (t : ℕ) : Fin 64 := Top.pick (fun n => pscore q k b h m n) t

/-- The key row that column `j` of the scores of query block `m` stands for. -/
def krow (q k : Arr) (b : Fin 2) (h : Fin 16) (m : Fin 64) (j : Fin 512) : Fin 4096 :=
  ⟨(sel q k b h m (j.val / 64)).val * 64 + j.val % 64, by have := (sel q k b h m (j.val / 64)).isLt; omega⟩

/-- The score of query row `l` against column `j`, the scale taken to the query. -/
def score (q k : Arr) (b : Fin 2) (h : Fin 16) (l : Fin 4096) (j : Fin 512) : EReal :=
  ∑ d : Fin 64, (q b l h d * Ideal.ofBits .f32 0x3E000000#32) * k b (krow q k b h ⟨l.val / 64, by omega⟩ j) h d

/-- The result: the mean of the selected values weighted by the exponentials of the scores. -/
def out (q k v : Arr) (b : Fin 2) (h : Fin 16) (l : Fin 4096) (d : Fin 64) : EReal :=
  Ideal.div (∑ j : Fin 512, Ideal.exp (score q k b h l j) * v b (krow q k b h ⟨l.val / 64, by omega⟩ j) h d)
    (∑ j : Fin 512, Ideal.exp (score q k b h l j))

end Cert.Spec
-- ==== Proof.KernelEntry.lean ====
module

public import proofs.«01_k».proof.Proof.Ideal
public import proofs.«01_k».proof.Proof.AttnEntry
public import proofs.«01_k».proof.Proof.LutEntry
public import proofs.«01_k».proof.Proof.Spec

@[expose] public section

/-! One entry of the kernel's result, as the formula. -/

set_option maxRecDepth 16384

noncomputable section

namespace Cert.KernelIdeal.Whole

open Idealize.ShloMosaic Idealize.ShloMosaic.TcCoe Idealize.ShloMosaic.Tactic
open Cert.KernelIdeal Cert.KernelIdeal.Gen Cert.KernelIdeal.Arrays

/-- The entries of an argument array. -/
def ent (x : Vec Ideal S2x4096x16x64 .f32) : Spec.Arr := fun b l h d => x (ix4 (n0 := 2) (n1 := 4096) (n2 := 16) (n3 := 64) b l h d)

/-- Head `p` of pair `g`. -/
def head (g : Fin 8) (p : Fin 2) : Fin 16 := ⟨g.val * 2 + p.val, by omega⟩

theorem cut_flat (x : Vec Ideal S2x4096x16x64 .f32) (b : Fin 2) (g : Fin 8) (p : Fin 2) (l : Fin 4096) (d : Fin 64) :
    Arrays.cut (flat x) b g (ix3 (n0 := 1) (n1 := 4096) (n2 := 128) 0 l (Attn.hcol p d)) = ent x b l (head g p) d := by
  have h : ∀ e : Fin 1024, flat x (ix3 (n0 := 2) (n1 := 4096) (n2 := 1024) b l e)
      = x (ix4 (n0 := 2) (n1 := 4096) (n2 := 16) (n3 := 64) b l ⟨e.val / 64, by omega⟩ ⟨e.val % 64, Nat.mod_lt _ (by decide)⟩) := by
    intro e
    pointwise [flat]
  refine (h _).trans ?_
  unfold ent
  refine congrArg₂ (fun a c => x (ix4 (n0 := 2) (n1 := 4096) (n2 := 16) (n3 := 64) b l a c)) (Fin.ext ?_) (Fin.ext ?_)
  · show (g.val * 128 + (p.val * 64 + d.val)) / 64 = g.val * 2 + p.val
    omega
  · show (g.val * 128 + (p.val * 64 + d.val)) % 64 = d.val
    omega

variable (q k v : Vec Ideal S2x4096x16x64 .f32)

theorem mean_eq (x : Vec Ideal S2x4096x16x64 .f32) (b : Fin 2) (g : Fin 8) (p : Fin 2) (m d : Fin 64) :
    Lut.mean (Arrays.cut (flat x) b g) m (Attn.hcol p d) = Spec.pmean (ent x) b (head g p) m d := by
  unfold Lut.mean Spec.pmean
  exact congrArg (fun s => Ideal.div s _) (Finset.sum_congr rfl fun i _ => cut_flat x b g p _ d)

theorem pooled_eq (b : Fin 2) (g : Fin 8) (p : Fin 2) (m : Fin 64) :
    Lut.row (Lut.pooled p (Arrays.cut (flat q) b g) (Arrays.cut (flat k) b g)) m = fun n => Spec.pscore (ent q) (ent k) b (head g p) m n := by
  funext n
  refine (Lut.pooled_apply p _ _ m n).trans (Finset.sum_congr rfl fun d _ => ?_)
  exact congrArg₂ (· * ·) (mean_eq q b g p m d) (mean_eq k b g p n d)

/-- A word of the block's table. -/
theorem word_eq (b : Fin 2) (g : Fin 8) (p : Fin 2) (t : Fin 8) (m : Fin 64) :
    (Attn.word (cutT (lutArr (flat q) (flat k)) b g) p t m.val).toNat = (Spec.sel (ent q) (ent k) b (head g p) m t.val).val := by
  have e : Attn.word (cutT (lutArr (flat q) (flat k)) b g) p t m.val
      = Lut.lutOut (Arrays.cut (flat q) b g) (Arrays.cut (flat k) b g) (ix4 (n0 := 1) (n1 := 2) (n2 := 8) (n3 := 64) 0 p t m) :=
    (lutArr_at (flat q) (flat k) b g _ _ rfl rfl rfl (Nat.mod_eq_of_lt m.isLt)).symm
  rw [e, Lut.lutOut_apply, BitVec.toNat_ofNat]
  refine (Nat.mod_eq_of_lt ((Fin.isLt _).trans (by decide))).trans ?_
  exact congrArg (fun f => (Top.pick f t.val).val) (pooled_eq q k b g p m)

theorem krow_eq (b : Fin 2) (g : Fin 8) (p : Fin 2) (m : Fin 64) (j : Fin 512) :
    Attn.krow (cutT (lutArr (flat q) (flat k)) b g) p m.val j = Spec.krow (ent q) (ent k) b (head g p) m j := by
  refine Fin.ext ?_
  show ((Attn.word _ p ⟨j.val / 64, _⟩ m.val).toNat * 64 + j.val % 64) % 4096 = (Spec.sel _ _ b (head g p) m (j.val / 64)).val * 64 + j.val % 64
  rw [word_eq q k b g p ⟨j.val / 64, by omega⟩ m]
  have := (Spec.sel (ent q) (ent k) b (head g p) m (j.val / 64)).isLt
  show ((Spec.sel _ _ b (head g p) m (j.val / 64)).val * 64 + j.val % 64) % 4096 = _
  omega

theorem score_eq (b : Fin 2) (g : Fin 8) (p : Fin 2) (l : Fin 4096) (j : Fin 512) :
    Attn.score (cutT (lutArr (flat q) (flat k)) b g) (Arrays.cut (flat q) b g) (Arrays.cut (flat k) b g) p l j
      = Spec.score (ent q) (ent k) b (head g p) l j := by
  unfold Attn.score Spec.score
  refine Finset.sum_congr rfl fun d _ => ?_
  refine congrArg₂ (· * ·) (congrArg (· * _) (cut_flat q b g p l d)) ?_
  rw [krow_eq q k b g p ⟨l.val / 64, by omega⟩ j]
  exact cut_flat k b g p _ d

/-- One entry of the kernel's result. -/
theorem result_apply (b : Fin 2) (l : Fin 4096) (h : Fin 16) (d : Fin 64) :
    shapeCast S2x4096x16x64 (flatOut q k v) shapeCasts_S2x4096x1024_S2x4096x16x64 (ix4 (n0 := 2) (n1 := 4096) (n2 := 16) (n3 := 64) b l h d)
      = Spec.out (ent q) (ent k) (ent v) b h l d := by
  obtain ⟨g, p, rfl⟩ : ∃ g p, h = head g p := ⟨⟨h.val / 2, by omega⟩, ⟨h.val % 2, by omega⟩, Fin.ext (by show h.val = h.val / 2 * 2 + h.val % 2; omega)⟩
  have e1 : ∀ (X : Vec Ideal S2x4096x1024 .f32), shapeCast S2x4096x16x64 X shapeCasts_S2x4096x1024_S2x4096x16x64
      (ix4 (n0 := 2) (n1 := 4096) (n2 := 16) (n3 := 64) b l (head g p) d)
      = X (ix3 (n0 := 2) (n1 := 4096) (n2 := 1024) b l ⟨(head g p).val * 64 + d.val, by have := (head g p).isLt; omega⟩) := by
    intro X
    pointwise
  refine (e1 _).trans ?_
  unfold flatOut
  refine (attnArr_at _ _ _ _ b g _ (ix3 (n0 := 1) (n1 := 4096) (n2 := 128) 0 l (Attn.hcol p d)) rfl rfl ?_).symm.trans ?_
  · show (g.val * 2 + p.val) * 64 + d.val = g.val * 128 + (p.val * 64 + d.val)
    omega
  refine (Attn.attnOut_apply _ _ _ _ l p d).trans ?_
  unfold Spec.out
  refine congrArg₂ Ideal.div (Finset.sum_congr rfl fun j _ => ?_) (Finset.sum_congr rfl fun j _ => ?_)
  · refine congrArg₂ (· * ·) (congrArg Ideal.exp (score_eq q k b g p l j)) ?_
    rw [krow_eq q k b g p ⟨l.val / 64, by omega⟩ j]
    exact cut_flat v b g p _ d
  · exact congrArg Ideal.exp (score_eq q k b g p l j)

end Cert.KernelIdeal.Whole
-- ==== Proof.RefForm.lean ====
module

public import proofs.«01_k».proof.Proof.Gen.ReferenceIdeal.Run
public import Idealize.ShloMosaic.PureOps.Ideal

@[expose] public section

/-! The reference's result, cut into its stages. -/

set_option maxRecDepth 16384

noncomputable section

namespace Cert.ReferenceIdeal.Stages

open Idealize.ShloMosaic Idealize.ShloMosaic.TcCoe
open Cert.ReferenceIdeal Cert.ReferenceIdeal.Gen

/-- An argument with its heads in front of its positions. -/
def heads (x : FVec Ideal S2x4096x16x64 .f32) : FVec Ideal S2x16x4096x64 .f32 :=
  transpose S2x16x4096x64 [0, 2, 1, 3] x transposes_S2x4096x16x64_S2x16x4096x64_0_2_1_3

/-- An argument cut into blocks of 64 positions. -/
def blocks (x : FVec Ideal S2x4096x16x64 .f32) : FVec Ideal S2x16x64x64x64 .f32 :=
  shapeCast _ (heads x) shapeCasts_S2x16x4096x64_S2x16x64x64x64

/-- The blocks' means. -/
def pool (x : FVec Ideal S2x4096x16x64 .f32) : FVec Ideal S2x16x64x64 .f32 :=
  Host.divf (Host.reduceAdd (blocks x) (constant S_ .f32 0x00000000#32) reducesTo_S2x16x64x64x64_S2x16x64x64_d3 h_S_)
    (broadcastInDim S2x16x64x64 ![] bcast_S_S2x16x64x64 (constant S_ .f32 0x42800000#32))

/-- The scaled scores of the means. -/
def pooled (q k : FVec Ideal S2x4096x16x64 .f32) : FVec Ideal S2x16x64x64 .f32 :=
  mulf (Host.dotGeneral dot_S2x16x64x64_S2x16x64x64_S2x16x64x64_3_3_2_2_01_01 none (pool q) (pool k))
    (broadcastInDim S2x16x64x64 ![] bcast_S_S2x16x64x64 (constant S_ .f32 0x3E000000#32))

/-- The numbers of the selected blocks. -/
def chosen (q k : FVec Ideal S2x4096x16x64 .f32) : IVec S2x16x64x8 32 :=
  (Host.topK S2x16x64x8 3 (FloatOps.cmpfTotal .gt) (pooled q k) sliceFits_S2x16x64x64_S2x16x64x8).2

/-- The numbers with the negative ones counted from the end. -/
def wrapped (i : IVec S2x16x64x8 32) : IVec S2x16x64x8x1 32 :=
  broadcastInDim S2x16x64x8x1 ![0, 1, 2, 3] bcast_S2x16x64x8_S2x16x64x8x1_0_1_2_3
    (select (cmpi .slt i (broadcastInDim S2x16x64x8 ![] bcast_S_S2x16x64x8 (constantI S_ 32 0#32)))
      (addi i (broadcastInDim S2x16x64x8 ![] bcast_S_S2x16x64x8 (constantI S_ 32 64#32))) i)

/-- The blocks of `x` at the numbers `i`. -/
def taken (x : FVec Ideal S2x4096x16x64 .f32) (i : IVec S2x16x64x8 32) : FVec Ideal S2x16x64x8x64x64 .f32 :=
  Host.gather gather_S2x16x64x64x64_S2x16x64x8x1_S2x16x64x8x64x64_45_2_01_01_2_4_1116464 (blocks x) (wrapped i)

/-- The same blocks' rows in one line. -/
def rows (x : FVec Ideal S2x4096x16x64 .f32) (i : IVec S2x16x64x8 32) : FVec Ideal S2x16x64x512x64 .f32 :=
  shapeCast _ (taken x i) shapeCasts_S2x16x64x8x64x64_S2x16x64x512x64

/-- The scaled scores of the query rows against the rows `r`. -/
def scores (q : FVec Ideal S2x4096x16x64 .f32) (r : FVec Ideal S2x16x64x512x64 .f32) : FVec Ideal S2x16x64x64x512 .f32 :=
  mulf (Host.dotGeneral dot_S2x16x64x64x64_S2x16x64x512x64_S2x16x64x64x512_4_4_3_3_012_012 none (blocks q) r)
    (broadcastInDim S2x16x64x64x512 ![] bcast_S_S2x16x64x64x512 (constant S_ .f32 0x3E000000#32))

/-- The largest score of each row. -/
def top (s : FVec Ideal S2x16x64x64x512 .f32) : FVec Ideal S2x16x64x64 .f32 :=
  maximumf (broadcastInDim S2x16x64x64 ![] bcast_S_S2x16x64x64 (constant S_ .f32 0xFF800000#32))
    (Host.reduce FloatOps.maximumf s (constant S_ .f32 0xFF800000#32) reducesTo_S2x16x64x64x512_S2x16x64x64_d4 h_S_)

/-- One number per row, along the row. -/
def along (t : FVec Ideal S2x16x64x64 .f32) : FVec Ideal S2x16x64x64x512 .f32 :=
  broadcastInDim S2x16x64x64x512 ![0, 1, 2, 3, 4] bcast_S2x16x64x64x1_S2x16x64x64x512_0_1_2_3_4
    (broadcastInDim S2x16x64x64x1 ![0, 1, 2, 3] bcast_S2x16x64x64_S2x16x64x64x1_0_1_2_3 t)

/-- The exponentials of the scores less the row's largest. -/
def exps (s : FVec Ideal S2x16x64x64x512 .f32) : FVec Ideal S2x16x64x64x512 .f32 := Host.exp (subf s (along (top s)))

/-- The weights. -/
def weights (s : FVec Ideal S2x16x64x64x512 .f32) : FVec Ideal S2x16x64x64x512 .f32 :=
  Host.divf (exps s)
    (along (Host.reduceAdd (exps s) (constant S_ .f32 0x00000000#32) reducesTo_S2x16x64x64x512_S2x16x64x64_d4 h_S_))

/-- The weighted sums of the rows `r`. -/
def mixed (w : FVec Ideal S2x16x64x64x512 .f32) (r : FVec Ideal S2x16x64x512x64 .f32) : FVec Ideal S2x16x64x64x64 .f32 :=
  Host.dotGeneral dot_S2x16x64x64x512_S2x16x64x512x64_S2x16x64x64x64_4_3_3_4_012_012 none w r

/-- The sparse branch. -/
def sparse (q k v : FVec Ideal S2x4096x16x64 .f32) : FVec Ideal S2x16x4096x64 .f32 :=
  shapeCast _ (mixed (weights (scores q (rows k (chosen q k)))) (rows v (chosen q k))) shapeCasts_S2x16x64x64x64_S2x16x4096x64

/-- The linear branch's projection of `o`. -/
def linear (o : FVec Ideal S2x16x4096x64 .f32) (w : FVec Ideal S64x64 .f32) (b : FVec Ideal S64 .f32) : FVec Ideal S2x16x4096x64 .f32 :=
  addf (Host.dotGeneral dot_S2x16x4096x64_S64x64_S2x16x4096x64_3_0_012_1_n_n none o (transpose S64x64 [1, 0] w transposes_S64x64_S64x64_1_0))
    (broadcastInDim S2x16x4096x64 ![0, 1, 2, 3] bcast_S1x1x1x64_S2x16x4096x64_0_1_2_3
      (broadcastInDim S1x1x1x64 ![3] bcast_S64_S1x1x1x64_3 b))

/-- The sum of the branches, the heads behind the positions. -/
def total (s l : FVec Ideal S2x16x4096x64 .f32) : FVec Ideal S2x4096x16x64 .f32 :=
  transpose S2x4096x16x64 [0, 2, 1, 3] (addf s l) transposes_S2x16x4096x64_S2x4096x16x64_0_2_1_3

/-- The reference's result is its stages'. -/
theorem result_eq (m : (ℓ : Loc nD τ sig) → Buf (Elt Ideal) ℓ) (c : Dev nD) :
    ∃ o, Value.res_out0 m c
      = total (sparse (m ((c.tc : Thread nD τ).loc main_arg0)) (m ((c.tc : Thread nD τ).loc main_arg1)) (m ((c.tc : Thread nD τ).loc main_arg2)))
          (linear o (m ((c.tc : Thread nD τ).loc main_arg3)) (m ((c.tc : Thread nD τ).loc main_arg4))) := by
  apply Exists.intro
  unfold Value.res_out0 Value.res_main_v87 total sparse linear mixed weights exps along top scores rows taken wrapped chosen pooled pool blocks heads
  rfl

end Cert.ReferenceIdeal.Stages
-- ==== Proof.RefEntry.lean ====
module

public import proofs.«01_k».proof.Proof.RefForm
public import proofs.«01_k».proof.Proof.Spec
public import Idealize.ShloMosaic.Lib.Pointwise
public import Idealize.ShloMosaic.PureOps.Ideal.Laws

@[expose] public section

/-! One entry of each stage of the reference but the selection and the largest score. -/

set_option maxRecDepth 16384

noncomputable section

namespace Cert.ReferenceIdeal.Stages

open Idealize.ShloMosaic Idealize.ShloMosaic.TcCoe Idealize.ShloMosaic.Tactic
open Cert.ReferenceIdeal Cert.ReferenceIdeal.Gen

/-- The entries of an argument array. -/
def ent (x : FVec Ideal S2x4096x16x64 .f32) : Spec.Arr := fun b l h d => x (ix4 (n0 := 2) (n1 := 4096) (n2 := 16) (n3 := 64) b l h d)

theorem blocks_apply (x : FVec Ideal S2x4096x16x64 .f32) (b : Fin 2) (h : Fin 16) (m i d : Fin 64) :
    blocks x (ix5 (n0 := 2) (n1 := 16) (n2 := 64) (n3 := 64) (n4 := 64) b h m i d)
      = ent x b ⟨m.val * 64 + i.val, by omega⟩ h d := by
  pointwise [blocks, heads, ent]

theorem pool_apply (x : FVec Ideal S2x4096x16x64 .f32) (b : Fin 2) (h : Fin 16) (m d : Fin 64) :
    pool x (ix4 (n0 := 2) (n1 := 16) (n2 := 64) (n3 := 64) b h m d) = Spec.pmean (ent x) b h m d := by
  pointwise [pool, blocks, heads, ent, Spec.pmean]

theorem pooled_apply (q k : FVec Ideal S2x4096x16x64 .f32) (b : Fin 2) (h : Fin 16) (m n : Fin 64) :
    pooled q k (ix4 (n0 := 2) (n1 := 16) (n2 := 64) (n3 := 64) b h m n)
      = Spec.pscore (ent q) (ent k) b h m n * Ideal.ofBits .f32 0x3E000000#32 := by
  have e : pooled q k (ix4 (n0 := 2) (n1 := 16) (n2 := 64) (n3 := 64) b h m n)
      = (∑ d : Fin 64, pool q (ix4 (n0 := 2) (n1 := 16) (n2 := 64) (n3 := 64) b h m d)
          * pool k (ix4 (n0 := 2) (n1 := 16) (n2 := 64) (n3 := 64) b h n d)) * Ideal.ofBits .f32 0x3E000000#32 := by
    pointwise [pooled]
  rw [e]
  simp only [pool_apply]
  rfl

theorem wrap_small (n : Fin 64) :
    Scalar.select (IntOp.cmpi .slt (BitVec.ofNat 32 n.val) 0#32) (IntOp.addi (BitVec.ofNat 32 n.val) 64#32) (BitVec.ofNat 32 n.val)
      = BitVec.ofNat 32 n.val := by
  revert n
  decide

theorem wrapped_apply (i : IVec S2x16x64x8 32) (b : Fin 2) (h : Fin 16) (m : Fin 64) (t : Fin 8) (n : Fin 64)
    (e : i (ix4 (n0 := 2) (n1 := 16) (n2 := 64) (n3 := 8) b h m t) = BitVec.ofNat 32 n.val) :
    wrapped i (ix5 (n0 := 2) (n1 := 16) (n2 := 64) (n3 := 8) (n4 := 1) b h m t 0) = BitVec.ofNat 32 n.val := by
  pointwise [wrapped]
  rw [e]
  exact wrap_small n

theorem rows_apply (x : FVec Ideal S2x4096x16x64 .f32) (i : IVec S2x16x64x8 32) (b : Fin 2) (h : Fin 16) (m : Fin 64) (j : Fin 512)
    (d : Fin 64) :
    rows x i (ix5 (n0 := 2) (n1 := 16) (n2 := 64) (n3 := 512) (n4 := 64) b h m j d)
      = taken x i (ix6 (n0 := 2) (n1 := 16) (n2 := 64) (n3 := 8) (n4 := 64) (n5 := 64) b h m ⟨j.val / 64, by omega⟩ ⟨j.val % 64, by omega⟩ d) := by
  pointwise [rows]

theorem scores_apply (q : FVec Ideal S2x4096x16x64 .f32) (r : FVec Ideal S2x16x64x512x64 .f32) (b : Fin 2) (h : Fin 16) (m i : Fin 64)
    (j : Fin 512) :
    scores q r (ix5 (n0 := 2) (n1 := 16) (n2 := 64) (n3 := 64) (n4 := 512) b h m i j)
      = (∑ d : Fin 64, ent q b ⟨m.val * 64 + i.val, by omega⟩ h d
          * r (ix5 (n0 := 2) (n1 := 16) (n2 := 64) (n3 := 512) (n4 := 64) b h m j d)) * Ideal.ofBits .f32 0x3E000000#32 := by
  pointwise [scores, blocks, heads, ent]

theorem exps_apply (s : FVec Ideal S2x16x64x64x512 .f32) (b : Fin 2) (h : Fin 16) (m i : Fin 64) (j : Fin 512) :
    exps s (ix5 (n0 := 2) (n1 := 16) (n2 := 64) (n3 := 64) (n4 := 512) b h m i j)
      = Ideal.exp (s (ix5 (n0 := 2) (n1 := 16) (n2 := 64) (n3 := 64) (n4 := 512) b h m i j)
          - top s (ix4 (n0 := 2) (n1 := 16) (n2 := 64) (n3 := 64) b h m i)) := by
  pointwise [exps, along]

theorem weights_apply (s : FVec Ideal S2x16x64x64x512 .f32) (b : Fin 2) (h : Fin 16) (m i : Fin 64) (j : Fin 512) :
    weights s (ix5 (n0 := 2) (n1 := 16) (n2 := 64) (n3 := 64) (n4 := 512) b h m i j)
      = Ideal.div (exps s (ix5 (n0 := 2) (n1 := 16) (n2 := 64) (n3 := 64) (n4 := 512) b h m i j))
          (∑ j' : Fin 512, exps s (ix5 (n0 := 2) (n1 := 16) (n2 := 64) (n3 := 64) (n4 := 512) b h m i j')) := by
  pointwise [weights, along]

theorem mixed_apply (w : FVec Ideal S2x16x64x64x512 .f32) (r : FVec Ideal S2x16x64x512x64 .f32) (b : Fin 2) (h : Fin 16)
    (m i d : Fin 64) :
    mixed w r (ix5 (n0 := 2) (n1 := 16) (n2 := 64) (n3 := 64) (n4 := 64) b h m i d)
      = ∑ j : Fin 512, w (ix5 (n0 := 2) (n1 := 16) (n2 := 64) (n3 := 64) (n4 := 512) b h m i j)
          * r (ix5 (n0 := 2) (n1 := 16) (n2 := 64) (n3 := 512) (n4 := 64) b h m j d) := by
  pointwise [mixed]

theorem linear_apply (o : FVec Ideal S2x16x4096x64 .f32) (w : FVec Ideal S64x64 .f32) (b : FVec Ideal S64 .f32) (c : Fin 2) (h : Fin 16)
    (l : Fin 4096) (d : Fin 64) :
    linear o w b (ix4 (n0 := 2) (n1 := 16) (n2 := 4096) (n3 := 64) c h l d)
      = (∑ e : Fin 64, o (ix4 (n0 := 2) (n1 := 16) (n2 := 4096) (n3 := 64) c h l e) * w (ix2 (n0 := 64) (n1 := 64) d e))
        + b (ix1 (n0 := 64) d) := by
  pointwise [linear]

theorem total_apply (s l : FVec Ideal S2x16x4096x64 .f32) (b : Fin 2) (p : Fin 4096) (h : Fin 16) (d : Fin 64) :
    total s l (ix4 (n0 := 2) (n1 := 4096) (n2 := 16) (n3 := 64) b p h d)
      = s (ix4 (n0 := 2) (n1 := 16) (n2 := 4096) (n3 := 64) b h p d) + l (ix4 (n0 := 2) (n1 := 16) (n2 := 4096) (n3 := 64) b h p d) := by
  pointwise [total]

theorem flatten_apply (x : FVec Ideal S2x16x64x64x64 .f32) (b : Fin 2) (h : Fin 16) (p : Fin 4096) (d : Fin 64) :
    shapeCast S2x16x4096x64 x shapeCasts_S2x16x64x64x64_S2x16x4096x64 (ix4 (n0 := 2) (n1 := 16) (n2 := 4096) (n3 := 64) b h p d)
      = x (ix5 (n0 := 2) (n1 := 16) (n2 := 64) (n3 := 64) (n4 := 64) b h ⟨p.val / 64, by omega⟩ ⟨p.val % 64, by omega⟩ d) := by
  pointwise []

end Cert.ReferenceIdeal.Stages
-- ==== Proof.RefTaken.lean ====
module

public import proofs.«01_k».proof.Proof.RefEntry

@[expose] public section

/-! The reference's gather of blocks, read at an entry. -/

set_option maxRecDepth 16384

noncomputable section

namespace Cert.ReferenceIdeal.Stages

open Idealize.ShloMosaic Idealize.ShloMosaic.TcCoe Idealize.ShloMosaic.Tactic
open Cert.ReferenceIdeal Cert.ReferenceIdeal.Gen

/-- The gather's dimension numbers. -/
abbrev gd := gather_S2x16x64x64x64_S2x16x64x8x1_S2x16x64x8x64x64_45_2_01_01_2_4_1116464

theorem small (n : Fin 64) : min (BitVec.ofNat 32 n.val).toInt.toNat 63 = n.val := by
  revert n
  decide

/-- The gather reads the block whose number stands at the entry's batch, head, query block and place. -/
theorem gather_apply (x : FVec Ideal S2x16x64x64x64 .f32) (i : IVec S2x16x64x8x1 32) (b : Fin 2) (h : Fin 16) (m : Fin 64) (t : Fin 8)
    (r d : Fin 64) (n : Fin 64)
    (e : i (ix5 (n0 := 2) (n1 := 16) (n2 := 64) (n3 := 8) (n4 := 1) b h m t 0) = BitVec.ofNat 32 n.val) :
    Host.gather gd x i (ix6 (n0 := 2) (n1 := 16) (n2 := 64) (n3 := 8) (n4 := 64) (n5 := 64) b h m t r d)
      = x (ix5 (n0 := 2) (n1 := 16) (n2 := 64) (n3 := 64) (n4 := 64) b h n r d) := by
  unfold Host.gather
  refine congrArg x (funext fun a => Fin.ext ?_)
  show gd.start _ i a + gd.batchCoord _ a + gd.offCoord _ a = _
  have ob : gd.operandBatchingDims = [0, 1] := rfl
  have cd : gd.collapsedSliceDims = [2] := rfl
  have sm : gd.startIndexMap = [2] := rfl
  match a with
  | ⟨0, _⟩ =>
    rw [GatherDims.start_batching _ _ _ _ (by rw [ob]; decide +revert),
      GatherDims.offCoord_eq_zero _ _ _ (fun h => ((GatherDims.mem_sKept _ _).mp h).2 (by rw [ob]; decide +revert))]
    unfold GatherDims.batchCoord
    rw [dif_pos (by rw [ob]; decide +revert)]
    simp only [Nat.zero_add, Nat.add_zero]
    rfl
  | ⟨1, _⟩ =>
    rw [GatherDims.start_batching _ _ _ _ (by rw [ob]; decide +revert),
      GatherDims.offCoord_eq_zero _ _ _ (fun h => ((GatherDims.mem_sKept _ _).mp h).2 (by rw [ob]; decide +revert))]
    unfold GatherDims.batchCoord
    rw [dif_pos (by rw [ob]; decide +revert)]
    simp only [Nat.zero_add, Nat.add_zero]
    rfl
  | ⟨2, _⟩ =>
    rw [GatherDims.batchCoord_eq_zero _ _ _ (by rw [ob]; decide +revert),
      GatherDims.offCoord_eq_zero _ _ _ (fun h => ((GatherDims.mem_sKept _ _).mp h).1 (by rw [cd]; decide +revert))]
    simp only [Nat.add_zero]
    unfold GatherDims.start
    rw [dif_pos (by rw [sm]; decide +revert)]
    have hsi : ∀ z, gd.siIdx (ix6 (n0 := 2) (n1 := 16) (n2 := 64) (n3 := 8) (n4 := 64) (n5 := 64) b h m t r d) z
        = ix5 (n0 := 2) (n1 := 16) (n2 := 64) (n3 := 8) (n4 := 1) b h m t 0 := by
      intro z
      funext a'; refine Fin.ext ?_
      match a' with
      | ⟨0, _⟩ => rfl
      | ⟨1, _⟩ => rfl
      | ⟨2, _⟩ => rfl
      | ⟨3, _⟩ => rfl
      | ⟨4, _⟩ => exact Nat.lt_one_iff.1 z.isLt
    rw [hsi, e]
    exact small n
  | ⟨3, _⟩ =>
    rw [GatherDims.batchCoord_eq_zero _ _ _ (by rw [ob]; decide +revert)]
    unfold GatherDims.start GatherDims.offCoord
    rw [dif_neg (by rw [sm]; decide +revert), dif_pos ((GatherDims.mem_sKept _ _).mpr (by rw [ob, cd]; decide +revert))]
    simp only [Nat.zero_add, Nat.add_zero]
    rfl
  | ⟨4, _⟩ =>
    rw [GatherDims.batchCoord_eq_zero _ _ _ (by rw [ob]; decide +revert)]
    unfold GatherDims.start GatherDims.offCoord
    rw [dif_neg (by rw [sm]; decide +revert), dif_pos ((GatherDims.mem_sKept _ _).mpr (by rw [ob, cd]; decide +revert))]
    simp only [Nat.zero_add, Nat.add_zero]
    rfl

/-- The rows of the selected blocks. -/
theorem rows_at (x : FVec Ideal S2x4096x16x64 .f32) (i : IVec S2x16x64x8 32) (b : Fin 2) (h : Fin 16) (m : Fin 64) (j : Fin 512)
    (d n : Fin 64)
    (e : i (ix4 (n0 := 2) (n1 := 16) (n2 := 64) (n3 := 8) b h m ⟨j.val / 64, by omega⟩) = BitVec.ofNat 32 n.val) :
    rows x i (ix5 (n0 := 2) (n1 := 16) (n2 := 64) (n3 := 512) (n4 := 64) b h m j d)
      = ent x b ⟨n.val * 64 + j.val % 64, by omega⟩ h d := by
  rw [rows_apply]
  unfold taken
  rw [gather_apply _ _ _ _ _ _ _ _ n (wrapped_apply _ _ _ _ _ n e), blocks_apply]

end Cert.ReferenceIdeal.Stages
-- ==== Proof.RefChosen.lean ====
module

public import proofs.«01_k».proof.Proof.RefForm
public import Idealize.ShloMosaic.Lib.Pointwise
public import Idealize.ShloMosaic.PureOps.Ideal.Laws

@[expose] public section

/-! The reference's selection: each query block's numbers are the first places of the sort of its scores. -/

set_option maxRecDepth 16384

noncomputable section

namespace Cert.ReferenceIdeal.Stages

open Idealize.ShloMosaic Idealize.ShloMosaic.TcCoe Idealize.ShloMosaic.Tactic
open Cert.ReferenceIdeal Cert.ReferenceIdeal.Gen

/-- The numbers of a selection are the sort's, at the same place. -/
theorem topK_index {α : Type} {s : Shape} (t : Shape) (d : ℕ) (hd : d < s.rank) (gt : α → α → BitVec 1) (x : s.Idx → α)
    (h : s.Slices (fun _ => 0) t) (j : t.Idx) (J : s.Idx)
    (hJ : ∀ a, (J a).val = (j (a.cast h.1.symm)).val) :
    (Host.topK t d gt x h).2 j
      = BitVec.ofNat 32 (sortedFrom (fun k k' => gt (x (J.along ⟨d, hd⟩ k)) (x (J.along ⟨d, hd⟩ k')) == 1#1) (J ⟨d, hd⟩)).val := by
  obtain rfl : J = fun a => ⟨0 + (j (a.cast h.1.symm)).val, Nat.lt_of_lt_of_le (Nat.add_lt_add_left (j _).isLt _) (h.2 a)⟩ :=
    funext fun a => Fin.ext ((hJ a).trans (Nat.zero_add _).symm)
  unfold Host.topK extractStridedSlice Host.sort2
  simp only [dif_pos hd, iotaInDim, Shape.Idx.along, Function.update_self]

/-- The same, the row of `x` through the place given by its entries. -/
theorem topK_row {α : Type} {s : Shape} (t : Shape) (d : ℕ) (hd : d < s.rank) (gt : α → α → BitVec 1) (x : s.Idx → α)
    (h : s.Slices (fun _ => 0) t) (j : t.Idx) (J : s.Idx) (hJ : ∀ a, (J a).val = (j (a.cast h.1.symm)).val) {n : ℕ}
    (hn : s.size ⟨d, hd⟩ = n) (row : Fin n → s.Idx) (hrow : ∀ k, J.along ⟨d, hd⟩ k = row (k.cast hn)) (f : Fin n → α)
    (hf : ∀ k, x (row k) = f k) (p : Fin n) (hp : (J ⟨d, hd⟩).cast hn = p) (c : Fin n → Fin n → Bool)
    (hc : ∀ k k', (gt (f k) (f k') == 1#1) = c k k') :
    (Host.topK t d gt x h).2 j = BitVec.ofNat 32 (sortedFrom c p).val := by
  subst hn hp
  obtain rfl : (fun k k' => gt (x (J.along ⟨d, hd⟩ k)) (x (J.along ⟨d, hd⟩ k')) == 1#1) = c := by
    funext k k'
    rw [hrow, hrow, hf, hf]
    exact hc k k'
  exact topK_index t d hd gt x h j J hJ

/-- The place of number `n` in the row of `(b, h, m)`. -/
def place (b : Fin 2) (h : Fin 16) (m n : Fin 64) : S2x16x64x64.Idx := ix4 (n0 := 2) (n1 := 16) (n2 := 64) (n3 := 64) b h m n

theorem above (u v : EReal) : (FloatOps.cmpfTotal (F := Ideal) (φ := .f32) .gt u v == 1#1) = decide (v < u) := by
  show (BitVec.ofBool (decide (v < u)) == 1#1) = _
  cases decide (v < u) <;> rfl

theorem chosen_apply (q k : FVec Ideal S2x4096x16x64 .f32) (b : Fin 2) (h : Fin 16) (m : Fin 64) (t : Fin 8) (f : Fin 64 → EReal)
    (hf : ∀ n, pooled q k (place b h m n) = f n) :
    chosen q k (ix4 (n0 := 2) (n1 := 16) (n2 := 64) (n3 := 8) b h m t)
      = BitVec.ofNat 32 (sortedFrom (fun a a' => decide (f a' < f a)) (t.castLE (by decide : 8 ≤ 64))).val := by
  unfold chosen
  refine topK_row S2x16x64x8 3 (by decide) _ _ _ _ (place b h m (t.castLE (by decide : 8 ≤ 64)))
    (fun a => ?_) (n := 64) rfl (place b h m) (fun n => ?_) f hf _ rfl _ (fun a a' => above (f a) (f a'))
  · match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

end Cert.ReferenceIdeal.Stages
-- ==== Proof.RefTop.lean ====
module

public import proofs.«01_k».proof.Proof.RefForm
public import Idealize.ShloMosaic.Lib.Pointwise
public import Idealize.ShloMosaic.PureOps.Ideal.Laws

@[expose] public section

/-! The largest of finitely many real scores is real. -/

set_option maxRecDepth 16384

noncomputable section

namespace Cert.ReferenceIdeal.Stages

open Idealize.ShloMosaic Idealize.ShloMosaic.TcCoe Idealize.ShloMosaic.Tactic
open Cert.ReferenceIdeal Cert.ReferenceIdeal.Gen

theorem bottom : Ideal.ofBits .f32 0xFF800000#32 = ⊥ := by simp [Ideal.ofBits, Ideal.ieee]

/-- The largest of real numbers, one at least, is real. -/
theorem fold_real {ι : Type} (S : Finset ι) (f : ι → EReal) (i : ι) (hi : i ∈ S) (hf : ∀ i, ∃ r : ℝ, f i = r) :
    ∃ r : ℝ, S.fold max ⊥ f = (r : EReal) := by
  have lo : (⊥ : EReal) < S.fold max ⊥ f := by
    rw [Finset.lt_fold_max]
    obtain ⟨r, e⟩ := hf i
    exact Or.inr ⟨i, hi, e ▸ EReal.bot_lt_coe r⟩
  have hi : S.fold max ⊥ f < (⊤ : EReal) := by
    rw [Finset.fold_max_lt]
    refine ⟨bot_lt_top, fun i _ => ?_⟩
    obtain ⟨r, e⟩ := hf i
    exact e ▸ EReal.coe_lt_top r
  exact ⟨_, (EReal.coe_toReal hi.ne lo.ne').symm⟩

/-- A largest of real numbers that a program takes is real. -/
theorem reduce_real {s t u : Shape} {axes : List (Fin s.rank)} (x : FVec Ideal s .f32) (h : s.ReducesTo axes t) (hu : 0 < u.numel) (j : t.Idx)
    (i : s.Idx) (hi : h.drop i = j) (hx : ∀ y, ∃ r : ℝ, x y = (r : EReal)) :
    ∃ r : ℝ, Host.reduce (FloatOps.maximumf (F := Ideal) (φ := .f32)) x (constant u .f32 0xFF800000#32) h hu j = (r : EReal) := by
  have e := Host.reduce_eq_fold (α := EReal) max x (constant (F := Ideal) u .f32 0xFF800000#32) h hu j
  obtain ⟨r, er⟩ := fold_real (Finset.univ.filter fun i => h.drop i = j) x i (Finset.mem_filter.2 ⟨Finset.mem_univ _, hi⟩) hx
  refine ⟨r, Eq.trans e (Eq.trans ?_ er)⟩
  exact congrArg (fun z => Finset.fold max z x (Finset.univ.filter fun i => h.drop i = j)) bottom

theorem top_step (a b : FVec Ideal S2x16x64x64 .f32) (y : S2x16x64x64.Idx) (ha : a y = ⊥) : maximumf a b y = b y :=
  (congrArg (fun z : EReal => max z (b y)) ha).trans (max_eq_right bot_le)

theorem top_real (s : FVec Ideal S2x16x64x64x512 .f32) (b : Fin 2) (h : Fin 16) (m i : Fin 64)
    (hs : ∀ y, ∃ r : ℝ, s y = (r : EReal)) :
    ∃ r : ℝ, top s (ix4 (n0 := 2) (n1 := 16) (n2 := 64) (n3 := 64) b h m i) = (r : EReal) := by
  obtain ⟨r, e⟩ := reduce_real (u := S_) s reducesTo_S2x16x64x64x512_S2x16x64x64_d4 h_S_ (ix4 (n0 := 2) (n1 := 16) (n2 := 64) (n3 := 64) b h m i)
    (ix5 (n0 := 2) (n1 := 16) (n2 := 64) (n3 := 64) (n4 := 512) b h m i 0) (by
      funext a
      match a with
      | ⟨0, _⟩ => rfl
      | ⟨1, _⟩ => rfl
      | ⟨2, _⟩ => rfl
      | ⟨3, _⟩ => rfl) hs
  refine ⟨r, Eq.trans ?_ e⟩
  unfold top
  exact top_step _ _ _ bottom

end Cert.ReferenceIdeal.Stages
-- ==== Proof.Softmax.lean ====
module

public import proofs.«01_k».proof.Proof.Spec
public import Idealize.ShloMosaic.PureOps.Ideal.Laws

@[expose] public section

/-! Over real queries and keys, the formula's scores and weights agree with the textbook's. -/

noncomputable section

namespace Cert.Spec

open Idealize.ShloMosaic

/-- A value that is a real number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem coe_total {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem Real'.sum {ι : Type} {S : Finset ι} {f : ι → EReal} (hf : ∀ i, Real' (f i)) : Real' (∑ i ∈ S, f i) := by
  choose g hg using hf
  exact ⟨∑ i ∈ S, g i, by rw [coe_total]; exact Finset.sum_congr rfl fun i _ => hg i⟩

theorem sixty_four : Ideal.ofBits .f32 0x42800000#32 = ((64 : ℝ) : EReal) := by
  simp [Ideal.ofBits, Ideal.ieee]
  rw [← EReal.coe_mul]
  norm_num

theorem eighth : Ideal.ofBits .f32 0x3E000000#32 = ((1 / 8 : ℝ) : EReal) := by
  simp [Ideal.ofBits, Ideal.ieee]
  rw [← EReal.coe_mul]
  norm_num

theorem Real'.pmean {x : Arr} (hx : ∀ b l h d, Real' (x b l h d)) (b : Fin 2) (h : Fin 16) (m d : Fin 64) : Real' (pmean x b h m d) := by
  unfold Spec.pmean
  rw [sixty_four, Ideal.div_coe (by norm_num)]
  exact (Real'.sum fun _ => hx _ _ _ _).mul ⟨_, rfl⟩

theorem Real'.pscore {q k : Arr} (hq : ∀ b l h d, Real' (q b l h d)) (hk : ∀ b l h d, Real' (k b l h d)) (b : Fin 2) (h : Fin 16)
    (m n : Fin 64) : Real' (pscore q k b h m n) :=
  Real'.sum fun _ => (Real'.pmean hq _ _ _ _).mul (Real'.pmean hk _ _ _ _)

/-- Scaling by an eighth keeps the order of real numbers. -/
theorem lt_scaled {x y : EReal} (hx : Real' x) (hy : Real' y) :
    decide (x * Ideal.ofBits .f32 0x3E000000#32 < y * Ideal.ofBits .f32 0x3E000000#32) = decide (x < y) := by
  obtain ⟨a, rfl⟩ := hx
  obtain ⟨b, rfl⟩ := hy
  rw [eighth, ← EReal.coe_mul, ← EReal.coe_mul]
  refine decide_eq_decide.2 ?_
  rw [EReal.coe_lt_coe_iff, EReal.coe_lt_coe_iff]
  exact ⟨fun h => by linarith, fun h => by linarith⟩

/-- The scale moves from a sum of products to its left factors. -/
theorem scaled_sum {n : ℕ} {f g : Fin n → EReal} (hf : ∀ i, Real' (f i)) (hg : ∀ i, Real' (g i)) :
    (∑ i, f i * g i) * Ideal.ofBits .f32 0x3E000000#32 = ∑ i, (f i * Ideal.ofBits .f32 0x3E000000#32) * g i := by
  choose f' hf using hf
  choose g' hg using hg
  simp only [hf, hg, eighth, ← EReal.coe_mul, ← coe_total]
  rw [Finset.sum_mul]
  exact congrArg _ (Finset.sum_congr rfl fun i _ => by ring)

/-- A positive real factor moves into a sum, whatever the terms. -/
theorem sum_times {n : ℕ} (S : Finset (Fin n)) (f : Fin n → EReal) {r : ℝ} (hr : 0 ≤ r) :
    (∑ j ∈ S, f j) * (r : EReal) = ∑ j ∈ S, f j * (r : EReal) := by
  classical
  induction S using Finset.induction_on with
  | empty => simp
  | insert a S ha ih =>
    rw [Finset.sum_insert ha, Finset.sum_insert ha, ← ih]
    exact EReal.right_distrib_of_nonneg_of_ne_top (EReal.coe_nonneg.2 hr) (EReal.coe_ne_top r) _ _

/-- Weights normalised one by one after a shift give the same mean as the plain exponentials, of any values. -/
theorem weighted {n : ℕ} (hn : 0 < n) {s v : Fin n → EReal} {M : EReal} (hs : ∀ j, Real' (s j)) (hM : Real' M) :
    ∑ j, Ideal.div (Ideal.exp (s j - M)) (∑ j', Ideal.exp (s j' - M)) * v j
      = Ideal.div (∑ j, Ideal.exp (s j) * v j) (∑ j, Ideal.exp (s j)) := by
  choose s' hs using hs
  obtain ⟨m, rfl⟩ := hM
  have ne : (Finset.univ : Finset (Fin n)).Nonempty := ⟨⟨0, hn⟩, Finset.mem_univ _⟩
  have p1 : (∑ j, Real.exp (s' j - m)) ≠ 0 := (Finset.sum_pos (fun j _ => Real.exp_pos _) ne).ne'
  have p2 : 0 < ∑ j, Real.exp (s' j) := Finset.sum_pos (fun j _ => Real.exp_pos _) ne
  have e : ∑ j, Real.exp (s' j - m) = (∑ j, Real.exp (s' j)) * Real.exp (-m) := by
    rw [Finset.sum_mul]
    exact Finset.sum_congr rfl fun j _ => by rw [sub_eq_add_neg, Real.exp_add]
  simp only [hs, ← EReal.coe_sub, Ideal.exp_coe, ← coe_total, Ideal.div_coe p1, Ideal.div_coe p2.ne']
  rw [e]
  generalize ∑ j, Real.exp (s' j) = S at p2 ⊢
  rw [sum_times _ _ (by positivity)]
  refine Finset.sum_congr rfl fun j _ => ?_
  simp only [mul_right_comm _ (v j), ← EReal.coe_mul]
  refine congrArg (fun r : ℝ => (r : EReal) * v j) ?_
  have hm : Real.exp (-m) ≠ 0 := (Real.exp_pos _).ne'
  have hS : S ≠ 0 := p2.ne'
  rw [sub_eq_add_neg, Real.exp_add]
  field_simp

/-- The formula's weighted mean is the textbook's. -/
theorem out_eq {q k v : Arr} (hq : ∀ b l h d, Real' (q b l h d)) (hk : ∀ b l h d, Real' (k b l h d))
    (b : Fin 2) (h : Fin 16) (l : Fin 4096) (d : Fin 64) (s : Fin 512 → EReal) {M : EReal} (hM : Real' M)
    (hs : ∀ j, s j = (∑ d : Fin 64, q b l h d * k b (krow q k b h ⟨l.val / 64, by omega⟩ j) h d) * Ideal.ofBits .f32 0x3E000000#32) :
    ∑ j, Ideal.div (Ideal.exp (s j - M)) (∑ j', Ideal.exp (s j' - M)) * v b (krow q k b h ⟨l.val / 64, by omega⟩ j) h d
      = out q k v b h l d := by
  have e : ∀ j, s j = score q k b h l j := fun j => (hs j).trans (scaled_sum (fun _ => hq _ _ _ _) (fun _ => hk _ _ _ _))
  have r : ∀ j, Real' (s j) := fun j => hs j ▸ (Real'.sum fun _ => (hq _ _ _ _).mul (hk _ _ _ _)).mul ⟨_, eighth⟩
  rw [weighted (by decide) r hM]
  unfold out
  simp only [e]

end Cert.Spec
-- ==== Proof.RefResult.lean ====
module

public import proofs.«01_k».proof.Proof.RefTaken
public import proofs.«01_k».proof.Proof.RefChosen
public import proofs.«01_k».proof.Proof.RefTop
public import proofs.«01_k».proof.Proof.Softmax

@[expose] public section

/-! One entry of the reference's result, as the formula. -/

set_option maxRecDepth 16384

noncomputable section

namespace Cert.ReferenceIdeal.Stages

open Idealize.ShloMosaic Idealize.ShloMosaic.TcCoe Idealize.ShloMosaic.Tactic
open Cert.ReferenceIdeal Cert.ReferenceIdeal.Gen Cert.Spec

/-- Every entry of an argument is a real number. -/
def Reals (x : FVec Ideal S2x4096x16x64 .f32) : Prop := ∀ b l h d, Real' (ent x b l h d)

/-- The numbers the reference selects are the formula's. -/
theorem chosen_sel {q k : FVec Ideal S2x4096x16x64 .f32} (hq : Reals q) (hk : Reals k) (b : Fin 2) (h : Fin 16) (m : Fin 64) (t : Fin 8) :
    chosen q k (ix4 (n0 := 2) (n1 := 16) (n2 := 64) (n3 := 8) b h m t) = BitVec.ofNat 32 (sel (ent q) (ent k) b h m t.val).val := by
  have hp : ∀ n, Real' (pscore (ent q) (ent k) b h m n) := fun n => Real'.pscore hq hk b h m n
  rw [chosen_apply q k b h m t (fun n => pscore (ent q) (ent k) b h m n * Ideal.ofBits .f32 0x3E000000#32)
    (fun n => pooled_apply q k b h m n)]
  have hc : (fun a a' : Fin 64 => decide (pscore (ent q) (ent k) b h m a' * Ideal.ofBits .f32 0x3E000000#32
      < pscore (ent q) (ent k) b h m a * Ideal.ofBits .f32 0x3E000000#32))
      = fun a a' => decide (pscore (ent q) (ent k) b h m a' < pscore (ent q) (ent k) b h m a) :=
    funext fun a => funext fun a' => lt_scaled (hp a') (hp a)
  refine congrArg (fun z : Fin 64 => BitVec.ofNat 32 z.val) ?_
  refine (congrArg (fun c : Fin 64 → Fin 64 → Bool => sortedFrom c (t.castLE (by decide : 8 ≤ 64))) hc).trans ?_
  refine Top.sortedFrom_eq_pick (f := fun n => pscore (ent q) (ent k) b h m n) (fun n => ?_) t
  obtain ⟨r, e⟩ := hp n
  rw [e]
  exact EReal.coe_ne_bot r

/-- The rows the reference gathers are the formula's. -/
theorem rows_sel {q k : FVec Ideal S2x4096x16x64 .f32} (hq : Reals q) (hk : Reals k) (x : FVec Ideal S2x4096x16x64 .f32) (b : Fin 2)
    (h : Fin 16) (m : Fin 64) (j : Fin 512) (d : Fin 64) :
    rows x (chosen q k) (ix5 (n0 := 2) (n1 := 16) (n2 := 64) (n3 := 512) (n4 := 64) b h m j d)
      = ent x b (krow (ent q) (ent k) b h m j) h d :=
  rows_at x (chosen q k) b h m j d _ (chosen_sel hq hk b h m ⟨j.val / 64, by omega⟩)

theorem scores_real {q k : FVec Ideal S2x4096x16x64 .f32} (hq : Reals q) (hk : Reals k) (y : S2x16x64x64x512.Idx) :
    Real' (scores q (rows k (chosen q k)) y) := by
  obtain ⟨b, h, m, i, j, rfl⟩ : ∃ b h m i j, y = ix5 (n0 := 2) (n1 := 16) (n2 := 64) (n3 := 64) (n4 := 512) b h m i j :=
    ⟨y 0, y 1, y 2, y 3, y 4, funext fun a => by
      match a with
      | ⟨0, _⟩ => rfl
      | ⟨1, _⟩ => rfl
      | ⟨2, _⟩ => rfl
      | ⟨3, _⟩ => rfl
      | ⟨4, _⟩ => rfl⟩
  rw [scores_apply]
  refine (Real'.sum fun d => (hq _ _ _ _).mul ?_).mul ⟨_, eighth⟩
  rw [rows_sel hq hk]
  exact hk _ _ _ _

/-- An entry of the sparse branch. -/
theorem sparse_apply {q k v : FVec Ideal S2x4096x16x64 .f32} (hq : Reals q) (hk : Reals k) (b : Fin 2) (p : Fin 4096)
    (h : Fin 16) (d : Fin 64) :
    sparse q k v (ix4 (n0 := 2) (n1 := 16) (n2 := 4096) (n3 := 64) b h p d) = out (ent q) (ent k) (ent v) b h p d := by
  unfold sparse
  rw [flatten_apply, mixed_apply]
  simp only [weights_apply, exps_apply, rows_sel hq hk]
  have hp : (⟨p.val / 64 * 64 + p.val % 64, by omega⟩ : Fin 4096) = p := Fin.ext (by show p.val / 64 * 64 + p.val % 64 = p.val; omega)
  refine out_eq hq hk b h p d
    (fun j => scores q (rows k (chosen q k)) (ix5 (n0 := 2) (n1 := 16) (n2 := 64) (n3 := 64) (n4 := 512) b h ⟨p.val / 64, by omega⟩ ⟨p.val % 64, by omega⟩ j))
    (top_real _ b h _ _ (scores_real hq hk)) (fun j => ?_)
  rw [scores_apply]
  simp only [rows_sel hq hk, hp]

/-- An entry of the reference's result, the linear branch's weights zero. -/
theorem result_at {q k v : FVec Ideal S2x4096x16x64 .f32} (hq : Reals q) (hk : Reals k) (o : FVec Ideal S2x16x4096x64 .f32)
    {w : FVec Ideal S64x64 .f32} (hw : ∀ y, w y = (0 : EReal)) {c : FVec Ideal S64 .f32} (hc : ∀ y, c y = (0 : EReal)) (b : Fin 2)
    (p : Fin 4096) (h : Fin 16) (d : Fin 64) :
    total (sparse q k v) (linear o w c) (ix4 (n0 := 2) (n1 := 4096) (n2 := 16) (n3 := 64) b p h d) = out (ent q) (ent k) (ent v) b h p d := by
  rw [total_apply, linear_apply, sparse_apply hq hk, hc]
  simp only [hw, mul_zero, Finset.sum_const_zero, add_zero]

end Cert.ReferenceIdeal.Stages
-- ==== Proof.Finite.lean ====
module

public import proofs.«01_k».proof.Proof.Gen.Pre_finite
public import proofs.«01_k».proof.Proof.Softmax
public import Idealize.ShloMosaic.Lib.ReduceAll

@[expose] public section

/-! What the precondition says of the entries. -/

set_option maxRecDepth 16384

noncomputable section

namespace Cert.Pre_finite

open Idealize.ShloMosaic Cert.Pre_finite.Gen

theorem both {a b : BitVec 1} (h : IntOp.andi a b = 1#1) : a = 1#1 ∧ b = 1#1 := by
  revert a b
  decide

/-- Below infinity in size, so real. -/
theorem real_of_small {x : EReal} (h : Ideal.cmp .olt (max x (-x)) (Ideal.ofBits .f32 0x7F800000#32) = 1#1) : Spec.Real' x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

theorem zero_of_equal {x : EReal} (h : Ideal.cmp .oeq x (Ideal.ofBits .f32 0x00000000#32) = 1#1) : x = 0 := by
  have z : Ideal.ofBits .f32 0x00000000#32 = 0 := by simp [Ideal.ofBits, Ideal.ieee]
  rw [z] at h
  by_contra hx
  simp [Ideal.cmp, hx] at h

/-- The precondition: the queries and keys are real, the last two zero. -/
theorem entries {q k v : FVec Ideal S2x4096x16x64 .f32} {w : FVec Ideal S64x64 .f32} {b : FVec Ideal S64 .f32}
    (h : fn (F := Ideal) q k v w b = fun _ => 1#1) :
    (∀ y, Spec.Real' (q y)) ∧ (∀ y, Spec.Real' (k y)) ∧ (∀ y, w y = (0 : EReal)) ∧ ∀ y, b y = (0 : EReal) := by
  have e := congrFun h (fun a => a.elim0)
  unfold fn fn_part1 at e
  have hs : Subsingleton S_.Idx := ⟨fun _ _ => funext fun a => a.elim0⟩
  obtain ⟨e, hb⟩ := both e
  obtain ⟨e, hw⟩ := both e
  obtain ⟨hq, hk⟩ := both e
  exact ⟨fun y => real_of_small (Host.reduce_andi_all _ _ _ _ _ hq y), fun y => real_of_small (Host.reduce_andi_all _ _ _ _ _ hk y),
    fun y => zero_of_equal (Host.reduce_andi_all _ _ _ _ _ hw y),
    fun y => zero_of_equal (Host.reduce_andi_all _ _ _ _ _ hb y)⟩

end Cert.Pre_finite
-- ==== Proof.Equation.lean ====
module

public import proofs.«01_k».proof.Defs
public import proofs.«01_k».proof.Proof.KernelEntry
public import proofs.«01_k».proof.Proof.RefResult
public import proofs.«01_k».proof.Proof.Finite
public import Idealize.ShloMosaic.Lib.Claim
public import Idealize.ShloMosaic.Lib.Tactic
public import Idealize.ShloMosaic.Lib.Quiescent

@[expose] public section

/-! The kernel's result is the reference's, over the extended reals. -/

set_option maxRecDepth 16384

noncomputable section

namespace Cert.Equation

open Idealize.ShloMosaic Idealize.ShloMosaic.TcCoe Idealize.ShloMosaic.Tactic Idealize.SL.Sem

/-- What the kernel leaves, of its first three arguments. -/
def kernelOut (q k v : FVec Ideal Cert.KernelIdeal.S2x4096x16x64 .f32) : FVec Ideal Cert.KernelIdeal.S2x4096x16x64 .f32 :=
  shapeCast Cert.KernelIdeal.S2x4096x16x64 (Cert.KernelIdeal.Whole.flatOut q k v)
    Cert.KernelIdeal.Gen.shapeCasts_S2x4096x1024_S2x4096x16x64

/-- The two arrays agree where the queries and keys are real and the last two arguments zero. -/
theorem arrays_eq {q k v : FVec Ideal Cert.ReferenceIdeal.S2x4096x16x64 .f32} {w : FVec Ideal Cert.ReferenceIdeal.S64x64 .f32}
    {b : FVec Ideal Cert.ReferenceIdeal.S64 .f32} (o : FVec Ideal Cert.ReferenceIdeal.S2x16x4096x64 .f32)
    (hq : ∀ y, Spec.Real' (q y)) (hk : ∀ y, Spec.Real' (k y)) (hw : ∀ y, w y = (0 : EReal))
    (hb : ∀ y, b y = (0 : EReal)) :
    Cert.ReferenceIdeal.Stages.total (Cert.ReferenceIdeal.Stages.sparse q k v) (Cert.ReferenceIdeal.Stages.linear o w b) = kernelOut q k v := by
  funext y
  obtain ⟨c, l, h, d, rfl⟩ : ∃ c l h d, y = ix4 (n0 := 2) (n1 := 4096) (n2 := 16) (n3 := 64) c l h d :=
    ⟨y 0, y 1, y 2, y 3, funext fun a => by
      match a with
      | ⟨0, _⟩ => rfl
      | ⟨1, _⟩ => rfl
      | ⟨2, _⟩ => rfl
      | ⟨3, _⟩ => rfl⟩
  refine (Cert.ReferenceIdeal.Stages.result_at (fun _ _ _ _ => hq _) (fun _ _ _ _ => hk _) o hw hb c l h d).trans ?_
  exact (Cert.KernelIdeal.Whole.result_apply q k v c l h d).symm

/-- From memories that agree on the arguments the kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => kernelOut (m (c.tc.loc Cert.KernelIdeal.main_arg0)) (m (c.tc.loc Cert.KernelIdeal.main_arg1))
    (m (c.tc.loc Cert.KernelIdeal.main_arg2)), ?_, ?_⟩
  · exact (θ_run _ _ _).mono (fun r h c => ⟨(h.1 c).2, (h.1 c).1⟩) (Cert.KernelIdeal.Whole.run_ideal m g)
  · refine (θ_run _ _ _).mono (fun r h c => ⟨(h c).1.trans ?_, (h c).2⟩) (Cert.ReferenceIdeal.Value.run m' g')
    obtain ⟨o, e⟩ := Cert.ReferenceIdeal.Stages.result_eq m' c
    obtain ⟨a0, a1, a2, a3, a4⟩ := hagree c
    obtain ⟨hq, hk, hw, hb⟩ := Cert.Pre_finite.entries (hpre c)
    refine e.trans ?_
    rw [a0, a1, a2, a3, a4]
    exact arrays_eq o hq hk hw hb

end Cert.Equation
-- ==== Proof.CallChecks.lean ====
module

public import proofs.«01_k».proof.Proof.Gen.Attn.Skeleton
public import Idealize.ShloMosaic.Lib.Exec
public import Idealize.ShloMosaic.Lib.Tactic
public import Idealize.ShloMosaic.Lib.Pipeline.Kit

@[expose] public section

/-! Every word of the table of selected blocks that is below 64 passes the kernel's side conditions: the block it names
lies inside the 4096 rows of the scratch. -/

noncomputable section

namespace Cert.Attn.Call

open Idealize.ShloMosaic Cert.Attn Cert.Attn.Gen

/-- Sixty-four times a word below 64 does not wrap. -/
theorem row_of {w : BitVec 32} (h : w.toNat < 64) :
    (Scalar.indexCast (Scalar.muli w 64#32) : Index).toNat = w.toNat * 64 := by
  show (w * 64#32).toNat = _
  rw [BitVec.toNat_mul]
  show w.toNat * 64 % 2^32 = _
  omega

/-- Offsets `h, 64 w, 0` with `h < 2` and `w < 64` leave room for a block of 64 rows. -/
theorem inb_of {w : BitVec 32} (h : w.toNat < 64) (p : Nat) (hp : p < 2) (off : Fin 3 → Nat)
    (ho : off = ![p, (Scalar.indexCast (Scalar.muli w 64#32) : Index).toNat, 0]) :
    ∀ a, off a + S1x64x64.size a ≤ S2x4096x64.size a := by
  subst ho
  rw [row_of h]
  intro a
  fin_cases a
  · show p + 1 ≤ 2; omega
  · show w.toNat * 64 + 64 ≤ 4096; omega
  · show 0 + 64 ≤ 64; omega

theorem chk0_of {w : BitVec 32} (h : w.toNat < 64) : k0_chk1 w := inb_of h 0 (by decide) _ rfl
theorem chk2_of {w : BitVec 32} (h : w.toNat < 64) : k0_chk2 w := inb_of h 0 (by decide) _ rfl
theorem chk3_of {w : BitVec 32} (h : w.toNat < 64) : k0_chk3 w := inb_of h 0 (by decide) _ rfl
theorem chk4_of {w : BitVec 32} (h : w.toNat < 64) : k0_chk4 w := inb_of h 0 (by decide) _ rfl
theorem chk5_of {w : BitVec 32} (h : w.toNat < 64) : k0_chk5 w := inb_of h 0 (by decide) _ rfl
theorem chk6_of {w : BitVec 32} (h : w.toNat < 64) : k0_chk6 w := inb_of h 0 (by decide) _ rfl
theorem chk7_of {w : BitVec 32} (h : w.toNat < 64) : k0_chk7 w := inb_of h 0 (by decide) _ rfl
theorem chk8_of {w : BitVec 32} (h : w.toNat < 64) : k0_chk8 w := inb_of h 0 (by decide) _ rfl
theorem chk9_of {w : BitVec 32} (h : w.toNat < 64) : k0_chk9 w := inb_of h 1 (by decide) _ rfl
theorem chk10_of {w : BitVec 32} (h : w.toNat < 64) : k0_chk10 w := inb_of h 1 (by decide) _ rfl
theorem chk11_of {w : BitVec 32} (h : w.toNat < 64) : k0_chk11 w := inb_of h 1 (by decide) _ rfl
theorem chk12_of {w : BitVec 32} (h : w.toNat < 64) : k0_chk12 w := inb_of h 1 (by decide) _ rfl
theorem chk13_of {w : BitVec 32} (h : w.toNat < 64) : k0_chk13 w := inb_of h 1 (by decide) _ rfl
theorem chk14_of {w : BitVec 32} (h : w.toNat < 64) : k0_chk14 w := inb_of h 1 (by decide) _ rfl
theorem chk15_of {w : BitVec 32} (h : w.toNat < 64) : k0_chk15 w := inb_of h 1 (by decide) _ rfl
theorem chk16_of {w : BitVec 32} (h : w.toNat < 64) : k0_chk16 w := inb_of h 1 (by decide) _ rfl
theorem chk17_of {w : BitVec 32} (h : w.toNat < 64) : k0_chk17 w := inb_of h 0 (by decide) _ rfl
theorem chk18_of {w : BitVec 32} (h : w.toNat < 64) : k0_chk18 w := inb_of h 0 (by decide) _ rfl
theorem chk19_of {w : BitVec 32} (h : w.toNat < 64) : k0_chk19 w := inb_of h 0 (by decide) _ rfl
theorem chk20_of {w : BitVec 32} (h : w.toNat < 64) : k0_chk20 w := inb_of h 0 (by decide) _ rfl
theorem chk21_of {w : BitVec 32} (h : w.toNat < 64) : k0_chk21 w := inb_of h 0 (by decide) _ rfl
theorem chk22_of {w : BitVec 32} (h : w.toNat < 64) : k0_chk22 w := inb_of h 0 (by decide) _ rfl
theorem chk23_of {w : BitVec 32} (h : w.toNat < 64) : k0_chk23 w := inb_of h 0 (by decide) _ rfl
theorem chk24_of {w : BitVec 32} (h : w.toNat < 64) : k0_chk24 w := inb_of h 0 (by decide) _ rfl
theorem chk25_of {w : BitVec 32} (h : w.toNat < 64) : k0_chk25 w := inb_of h 1 (by decide) _ rfl
theorem chk26_of {w : BitVec 32} (h : w.toNat < 64) : k0_chk26 w := inb_of h 1 (by decide) _ rfl
theorem chk27_of {w : BitVec 32} (h : w.toNat < 64) : k0_chk27 w := inb_of h 1 (by decide) _ rfl
theorem chk28_of {w : BitVec 32} (h : w.toNat < 64) : k0_chk28 w := inb_of h 1 (by decide) _ rfl
theorem chk29_of {w : BitVec 32} (h : w.toNat < 64) : k0_chk29 w := inb_of h 1 (by decide) _ rfl
theorem chk30_of {w : BitVec 32} (h : w.toNat < 64) : k0_chk30 w := inb_of h 1 (by decide) _ rfl
theorem chk31_of {w : BitVec 32} (h : w.toNat < 64) : k0_chk31 w := inb_of h 1 (by decide) _ rfl
theorem chk32_of {w : BitVec 32} (h : w.toNat < 64) : k0_chk32 w := inb_of h 1 (by decide) _ rfl
theorem chk33_of {w : BitVec 32} (h : w.toNat < 64) : k0_chk33 w := inb_of h 0 (by decide) _ rfl
theorem chk34_of {w : BitVec 32} (h : w.toNat < 64) : k0_chk34 w := inb_of h 0 (by decide) _ rfl
theorem chk35_of {w : BitVec 32} (h : w.toNat < 64) : k0_chk35 w := inb_of h 0 (by decide) _ rfl
theorem chk36_of {w : BitVec 32} (h : w.toNat < 64) : k0_chk36 w := inb_of h 0 (by decide) _ rfl
theorem chk37_of {w : BitVec 32} (h : w.toNat < 64) : k0_chk37 w := inb_of h 0 (by decide) _ rfl
theorem chk38_of {w : BitVec 32} (h : w.toNat < 64) : k0_chk38 w := inb_of h 0 (by decide) _ rfl
theorem chk39_of {w : BitVec 32} (h : w.toNat < 64) : k0_chk39 w := inb_of h 0 (by decide) _ rfl
theorem chk40_of {w : BitVec 32} (h : w.toNat < 64) : k0_chk40 w := inb_of h 0 (by decide) _ rfl
theorem chk41_of {w : BitVec 32} (h : w.toNat < 64) : k0_chk41 w := inb_of h 1 (by decide) _ rfl
theorem chk42_of {w : BitVec 32} (h : w.toNat < 64) : k0_chk42 w := inb_of h 1 (by decide) _ rfl
theorem chk43_of {w : BitVec 32} (h : w.toNat < 64) : k0_chk43 w := inb_of h 1 (by decide) _ rfl
theorem chk44_of {w : BitVec 32} (h : w.toNat < 64) : k0_chk44 w := inb_of h 1 (by decide) _ rfl
theorem chk45_of {w : BitVec 32} (h : w.toNat < 64) : k0_chk45 w := inb_of h 1 (by decide) _ rfl
theorem chk46_of {w : BitVec 32} (h : w.toNat < 64) : k0_chk46 w := inb_of h 1 (by decide) _ rfl
theorem chk47_of {w : BitVec 32} (h : w.toNat < 64) : k0_chk47 w := inb_of h 1 (by decide) _ rfl
theorem chk48_of {w : BitVec 32} (h : w.toNat < 64) : k0_chk48 w := inb_of h 1 (by decide) _ rfl
theorem chk49_of {w : BitVec 32} (h : w.toNat < 64) : k0_chk49 w := inb_of h 0 (by decide) _ rfl
theorem chk50_of {w : BitVec 32} (h : w.toNat < 64) : k0_chk50 w := inb_of h 0 (by decide) _ rfl
theorem chk51_of {w : BitVec 32} (h : w.toNat < 64) : k0_chk51 w := inb_of h 0 (by decide) _ rfl
theorem chk52_of {w : BitVec 32} (h : w.toNat < 64) : k0_chk52 w := inb_of h 0 (by decide) _ rfl
theorem chk53_of {w : BitVec 32} (h : w.toNat < 64) : k0_chk53 w := inb_of h 0 (by decide) _ rfl
theorem chk54_of {w : BitVec 32} (h : w.toNat < 64) : k0_chk54 w := inb_of h 0 (by decide) _ rfl
theorem chk55_of {w : BitVec 32} (h : w.toNat < 64) : k0_chk55 w := inb_of h 0 (by decide) _ rfl
theorem chk56_of {w : BitVec 32} (h : w.toNat < 64) : k0_chk56 w := inb_of h 0 (by decide) _ rfl
theorem chk57_of {w : BitVec 32} (h : w.toNat < 64) : k0_chk57 w := inb_of h 1 (by decide) _ rfl
theorem chk58_of {w : BitVec 32} (h : w.toNat < 64) : k0_chk58 w := inb_of h 1 (by decide) _ rfl
theorem chk59_of {w : BitVec 32} (h : w.toNat < 64) : k0_chk59 w := inb_of h 1 (by decide) _ rfl
theorem chk60_of {w : BitVec 32} (h : w.toNat < 64) : k0_chk60 w := inb_of h 1 (by decide) _ rfl
theorem chk61_of {w : BitVec 32} (h : w.toNat < 64) : k0_chk61 w := inb_of h 1 (by decide) _ rfl
theorem chk62_of {w : BitVec 32} (h : w.toNat < 64) : k0_chk62 w := inb_of h 1 (by decide) _ rfl
theorem chk63_of {w : BitVec 32} (h : w.toNat < 64) : k0_chk63 w := inb_of h 1 (by decide) _ rfl
theorem chk64_of {w : BitVec 32} (h : w.toNat < 64) : k0_chk64 w := inb_of h 1 (by decide) _ rfl

end Cert.Attn.Call

end
-- ==== Proof.CallTrip.lean ====
module

public import proofs.«01_k».proof.Proof.CallChecks

@[expose] public section

/-! One trip of the attention kernel's loop over the blocks of queries: with every word of the table below 64 it runs,
yields a value and stores one block of 64 rows. -/

set_option maxRecDepth 8192
set_option maxHeartbeats 4000000

noncomputable section

namespace Cert.Attn.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Cert.Attn.Gen

variable {F : FTy → Type} [FloatOps F]

local notation "𝕄G" => MT nD τ sig Unit (Elt F) ℕ (UR sig nD τ) ℕ

/-- What the loop carries: both heads' probabilities and row sums. -/
abbrev Carry (F : FTy → Type) := FVec F S64x512 .bf16 × FVec F S64x512 .bf16 × FVec F S64x1 .f32 × FVec F S64x1 .f32

/-- Every word read out of the table is the number of a block. -/
def InTable (arg1 : Memref sig .tc .smem S1x2x8x64 .i32) (X_arg1 : BufTy.Contents (Elt F) arg1.view.ty) : Prop :=
  ∀ (r : LoadRect S1x2x8x64) (j : r.shape.Idx), (arg1.view.readAt (Elt F) r X_arg1 j : BitVec 32).toNat < 64

/-- What a trip holds: the table, the queries and the two scratch buffers it reads, and the result it stores into. -/
abbrev TripHeld (c : Dev nD) (arg1 : Memref sig .tc .smem S1x2x8x64 .i32) (arg2 : Memref sig .tc .vmem S1x4096x128 .f32) (arg6 : Memref sig .tc .vmem S2x4096x64 .bf16) (arg7 : Memref sig .tc .vmem S2x4096x64 .bf16) (arg5 : Memref sig .tc .vmem S1x4096x128 .f32) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (arg5.view.loc (c : Thread nD τ) ↦[arg5.view.set]{fullShare} f_arg5))

/-- One trip, run at any carried value: what it yields and what it stores are found by the run. -/
def trip (𝒱 : Variants) (c : Dev nD) (bd : Option 𝒱.V) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable arg1 X_arg1) (k : Fin k0_t1_loop.trips) :
    Σ' (R : Carry F → Carry F), { L : Carry F → List (View.Piece (Elt F) S1x4096x128 .f32) // ∀ (E : Set ℕ) (acc : Carry F) (f_arg5 : BufTy.Contents (Elt F) arg5.view.ty),
      TripHeld (F := F) c arg1 arg2 arg6 arg7 arg5 X_arg1 X_arg2 X_arg6 X_arg7 f_arg5
      ⊢ wp frame (wpE (defs₀ (F := F)) 𝒱 (c : Thread nD τ) bd) E (k0_t1_body (F := F) i arg1 harg1 arg2 harg2 arg3 harg3 arg4 harg4 arg5 harg5 arg6 harg6 arg7 harg7 v71 v72 v77 v82 v87 v92 v97 k acc)
          (fun yld => iprop(⌜yld = R acc⌝ ∗ TripHeld (F := F) c arg1 arg2 arg6 arg7 arg5 X_arg1 X_arg2 X_arg6 X_arg7 (arg5.view.writes (Elt F) f_arg5 (L acc)))) } := by
  have hk : k.val < 63 := Nat.lt_of_lt_of_le k.isLt k0_t1_abs.2.1
  refine ⟨?_, ?_, fun E acc f_arg5 => ?run⟩
  case run =>
    unfold k0_t1_body
    iintro ⟨HR_arg1, HR_arg2, HR_arg6, HR_arg7, HW_arg5⟩
    sl_exec (disch := first | exact chk17_of (hT _ _) | exact chk18_of (hT _ _) | exact chk19_of (hT _ _) | exact chk20_of (hT _ _) | exact chk21_of (hT _ _) | exact chk22_of (hT _ _) | exact chk23_of (hT _ _) | exact chk24_of (hT _ _) | exact chk25_of (hT _ _) | exact chk26_of (hT _ _) | exact chk27_of (hT _ _) | exact chk28_of (hT _ _) | exact chk29_of (hT _ _) | exact chk30_of (hT _ _) | exact chk31_of (hT _ _) | exact chk32_of (hT _ _) | exact chk33_of (hT _ _) | exact chk34_of (hT _ _) | exact chk35_of (hT _ _) | exact chk36_of (hT _ _) | exact chk37_of (hT _ _) | exact chk38_of (hT _ _) | exact chk39_of (hT _ _) | exact chk40_of (hT _ _) | exact chk41_of (hT _ _) | exact chk42_of (hT _ _) | exact chk43_of (hT _ _) | exact chk44_of (hT _ _) | exact chk45_of (hT _ _) | exact chk46_of (hT _ _) | exact chk47_of (hT _ _) | exact chk48_of (hT _ _))
    sl_step
    sl_close

end Cert.Attn.Call

end
-- ==== Proof.CallTripForm.lean ====
module

public import proofs.«01_k».proof.Proof.CallForm

@[expose] public section

set_option maxRecDepth 8192
set_option maxHeartbeats 4000000

noncomputable section

namespace Cert.Attn.Call

open Idealize.ShloMosaic Idealize.ShloMosaic.TcCoe Idealize.ShloMosaic.Tactic
open Cert.Attn Cert.Attn.Gen

variable {F : FTy → Type} [FloatOps F]

/-- Offsets that name query block `k + 1`, and the block before. -/
theorem off_next : ∀ k : Fin k0_t1_loop.trips, (Scalar.indexCast (Scf.iv (1#32) (1#32) k.val : BitVec 32) : Index).toNat = k.val + 1 := by
  decide +kernel
theorem off_prev : ∀ k : Fin k0_t1_loop.trips, (Scalar.indexCast (Scalar.subi (Scf.iv (1#32) (1#32) k.val : BitVec 32) 1#32) : Index).toNat = k.val := by
  decide +kernel
theorem row_next : ∀ k : Fin k0_t1_loop.trips, (Scalar.indexCast (Scalar.muli (Scf.iv (1#32) (1#32) k.val : BitVec 32) 64#32) : Index).toNat = (k.val + 1) * 64 := by
  decide +kernel
theorem row_prev : ∀ k : Fin k0_t1_loop.trips, (Scalar.indexCast (Scalar.muli (Scalar.subi (Scf.iv (1#32) (1#32) k.val : BitVec 32) 1#32) 64#32) : Index).toNat = k.val * 64 := by
  decide +kernel

/-- A trip yields what query block `k + 1` carries, whatever came in. -/
theorem trip_yields (𝒱 : Variants) (c : Dev nD) (bd : Option 𝒱.V) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable (F := F) arg1 X_arg1) (k : Fin k0_t1_loop.trips) (acc : Carry F) :
   (trip (F := F) 𝒱 c bd i arg1 harg1 arg2 harg2 arg3 harg3 arg4 harg4 arg5 harg5 arg6 harg6 arg7 harg7 v71 v72 v77 v82 v87 v92 v97 X_arg1 X_arg2 X_arg6 X_arg7 hT k).1 acc = carry (arg1.view.read (Elt F) X_arg1) (arg2.view.read (Elt F) X_arg2) (arg6.view.read (Elt F) X_arg6) (k.val + 1) := by
  have hk : k.val < 63 := Nat.lt_of_lt_of_le k.isLt k0_t1_abs.2.1
  have e1 := off_next k
  have e2 := row_next k
  unfold trip
  dsimp only
  refine carryOf_congr (q_read X_arg2 _ _ (k.val + 1) (by omega) (congrArg (fun n => ![0, n, 0]) (row_next k))) (blk_read X_arg6 _ _ 0 _ _ (word_read X_arg1 _ _ _ 0 0 (k.val + 1) (by omega) (congrArg (fun n => ![0, 0, 0, n]) (off_next k))) (hT _ _) rfl) (blk_read X_arg6 _ _ 0 _ _ (word_read X_arg1 _ _ _ 0 1 (k.val + 1) (by omega) (congrArg (fun n => ![0, 0, 1, n]) (off_next k))) (hT _ _) rfl) (blk_read X_arg6 _ _ 0 _ _ (word_read X_arg1 _ _ _ 0 2 (k.val + 1) (by omega) (congrArg (fun n => ![0, 0, 2, n]) (off_next k))) (hT _ _) rfl) (blk_read X_arg6 _ _ 0 _ _ (word_read X_arg1 _ _ _ 0 3 (k.val + 1) (by omega) (congrArg (fun n => ![0, 0, 3, n]) (off_next k))) (hT _ _) rfl) (blk_read X_arg6 _ _ 0 _ _ (word_read X_arg1 _ _ _ 0 4 (k.val + 1) (by omega) (congrArg (fun n => ![0, 0, 4, n]) (off_next k))) (hT _ _) rfl) (blk_read X_arg6 _ _ 0 _ _ (word_read X_arg1 _ _ _ 0 5 (k.val + 1) (by omega) (congrArg (fun n => ![0, 0, 5, n]) (off_next k))) (hT _ _) rfl) (blk_read X_arg6 _ _ 0 _ _ (word_read X_arg1 _ _ _ 0 6 (k.val + 1) (by omega) (congrArg (fun n => ![0, 0, 6, n]) (off_next k))) (hT _ _) rfl) (blk_read X_arg6 _ _ 0 _ _ (word_read X_arg1 _ _ _ 0 7 (k.val + 1) (by omega) (congrArg (fun n => ![0, 0, 7, n]) (off_next k))) (hT _ _) rfl) (blk_read X_arg6 _ _ 1 _ _ (word_read X_arg1 _ _ _ 1 0 (k.val + 1) (by omega) (congrArg (fun n => ![0, 1, 0, n]) (off_next k))) (hT _ _) rfl) (blk_read X_arg6 _ _ 1 _ _ (word_read X_arg1 _ _ _ 1 1 (k.val + 1) (by omega) (congrArg (fun n => ![0, 1, 1, n]) (off_next k))) (hT _ _) rfl) (blk_read X_arg6 _ _ 1 _ _ (word_read X_arg1 _ _ _ 1 2 (k.val + 1) (by omega) (congrArg (fun n => ![0, 1, 2, n]) (off_next k))) (hT _ _) rfl) (blk_read X_arg6 _ _ 1 _ _ (word_read X_arg1 _ _ _ 1 3 (k.val + 1) (by omega) (congrArg (fun n => ![0, 1, 3, n]) (off_next k))) (hT _ _) rfl) (blk_read X_arg6 _ _ 1 _ _ (word_read X_arg1 _ _ _ 1 4 (k.val + 1) (by omega) (congrArg (fun n => ![0, 1, 4, n]) (off_next k))) (hT _ _) rfl) (blk_read X_arg6 _ _ 1 _ _ (word_read X_arg1 _ _ _ 1 5 (k.val + 1) (by omega) (congrArg (fun n => ![0, 1, 5, n]) (off_next k))) (hT _ _) rfl) (blk_read X_arg6 _ _ 1 _ _ (word_read X_arg1 _ _ _ 1 6 (k.val + 1) (by omega) (congrArg (fun n => ![0, 1, 6, n]) (off_next k))) (hT _ _) rfl) (blk_read X_arg6 _ _ 1 _ _ (word_read X_arg1 _ _ _ 1 7 (k.val + 1) (by omega) (congrArg (fun n => ![0, 1, 7, n]) (off_next k))) (hT _ _) rfl)

/-- A trip stores the results of query block `k`, computed from what came in. -/
theorem trip_stores (𝒱 : Variants) (c : Dev nD) (bd : Option 𝒱.V) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (hT : InTable (F := F) arg1 X_arg1) (k : Fin k0_t1_loop.trips) (acc : Carry F) :
   (trip (F := F) 𝒱 c bd i arg1 harg1 arg2 harg2 arg3 harg3 arg4 harg4 arg5 harg5 arg6 harg6 arg7 harg7 v71 v72 v77 v82 v87 v92 v97 X_arg1 X_arg2 X_arg6 X_arg7 hT k).2.1 acc = [⟨Rect.unit (s := S1x4096x128) (k0_off82 k) S1x64x128.size (k0_off82_inb k), outBlk (arg1.view.read (Elt F) X_arg1) (arg7.view.read (Elt F) X_arg7) k.val acc⟩] := by
  have hk : k.val < 63 := Nat.lt_of_lt_of_le k.isLt k0_t1_abs.2.1
  unfold trip
  dsimp only
  refine congrArg (fun o => [(⟨Rect.unit (s := S1x4096x128) (k0_off82 k) S1x64x128.size (k0_off82_inb k), o⟩ : View.Piece (Elt F) S1x4096x128 .f32)]) ?_
  refine outOf_congr rfl (blk_read X_arg7 _ _ 0 _ _ (word_read X_arg1 _ _ _ 0 0 k.val (by omega) (congrArg (fun n => ![0, 0, 0, n]) (off_prev k))) (hT _ _) rfl) (blk_read X_arg7 _ _ 0 _ _ (word_read X_arg1 _ _ _ 0 1 k.val (by omega) (congrArg (fun n => ![0, 0, 1, n]) (off_prev k))) (hT _ _) rfl) (blk_read X_arg7 _ _ 0 _ _ (word_read X_arg1 _ _ _ 0 2 k.val (by omega) (congrArg (fun n => ![0, 0, 2, n]) (off_prev k))) (hT _ _) rfl) (blk_read X_arg7 _ _ 0 _ _ (word_read X_arg1 _ _ _ 0 3 k.val (by omega) (congrArg (fun n => ![0, 0, 3, n]) (off_prev k))) (hT _ _) rfl) (blk_read X_arg7 _ _ 0 _ _ (word_read X_arg1 _ _ _ 0 4 k.val (by omega) (congrArg (fun n => ![0, 0, 4, n]) (off_prev k))) (hT _ _) rfl) (blk_read X_arg7 _ _ 0 _ _ (word_read X_arg1 _ _ _ 0 5 k.val (by omega) (congrArg (fun n => ![0, 0, 5, n]) (off_prev k))) (hT _ _) rfl) (blk_read X_arg7 _ _ 0 _ _ (word_read X_arg1 _ _ _ 0 6 k.val (by omega) (congrArg (fun n => ![0, 0, 6, n]) (off_prev k))) (hT _ _) rfl) (blk_read X_arg7 _ _ 0 _ _ (word_read X_arg1 _ _ _ 0 7 k.val (by omega) (congrArg (fun n => ![0, 0, 7, n]) (off_prev k))) (hT _ _) rfl) (blk_read X_arg7 _ _ 1 _ _ (word_read X_arg1 _ _ _ 1 0 k.val (by omega) (congrArg (fun n => ![0, 1, 0, n]) (off_prev k))) (hT _ _) rfl) (blk_read X_arg7 _ _ 1 _ _ (word_read X_arg1 _ _ _ 1 1 k.val (by omega) (congrArg (fun n => ![0, 1, 1, n]) (off_prev k))) (hT _ _) rfl) (blk_read X_arg7 _ _ 1 _ _ (word_read X_arg1 _ _ _ 1 2 k.val (by omega) (congrArg (fun n => ![0, 1, 2, n]) (off_prev k))) (hT _ _) rfl) (blk_read X_arg7 _ _ 1 _ _ (word_read X_arg1 _ _ _ 1 3 k.val (by omega) (congrArg (fun n => ![0, 1, 3, n]) (off_prev k))) (hT _ _) rfl) (blk_read X_arg7 _ _ 1 _ _ (word_read X_arg1 _ _ _ 1 4 k.val (by omega) (congrArg (fun n => ![0, 1, 4, n]) (off_prev k))) (hT _ _) rfl) (blk_read X_arg7 _ _ 1 _ _ (word_read X_arg1 _ _ _ 1 5 k.val (by omega) (congrArg (fun n => ![0, 1, 5, n]) (off_prev k))) (hT _ _) rfl) (blk_read X_arg7 _ _ 1 _ _ (word_read X_arg1 _ _ _ 1 6 k.val (by omega) (congrArg (fun n => ![0, 1, 6, n]) (off_prev k))) (hT _ _) rfl) (blk_read X_arg7 _ _ 1 _ _ (word_read X_arg1 _ _ _ 1 7 k.val (by omega) (congrArg (fun n => ![0, 1, 7, n]) (off_prev k))) (hT _ _) rfl)

end Cert.Attn.Call

end
-- ==== Proof.CallLoop.lean ====
module

public import proofs.«01_k».proof.Proof.CallTripForm

@[expose] public section

/-! The attention kernel's loop by its invariant: before trip `k` it carries what query block `k` carries and the results
of the blocks before `k` have been stored. -/

set_option maxRecDepth 8192
set_option maxHeartbeats 4000000

noncomputable section

namespace Cert.Attn.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Cert.Attn.Gen

variable {F : FTy → Type} [FloatOps F]

local notation "𝕄G" => MT nD τ sig Unit (Elt F) ℕ (UR sig nD τ) ℕ

/-- What is carried before trip `k`. -/
def accAt (x1 : Vec F S1x2x8x64 .i32) (x2 : Vec F S1x4096x128 .f32) (x6 : Vec F S2x4096x64 .bf16) (init : Carry F) : ℕ → Carry F
  | 0 => init
  | k + 1 => carry x1 x2 x6 (k + 1)

/-- The stores of the trips before `k`, last first. -/
def pcs (x1 : Vec F S1x2x8x64 .i32) (x2 : Vec F S1x4096x128 .f32) (x6 x7 : Vec F S2x4096x64 .bf16) (init : Carry F) : ℕ → List (View.Piece (Elt F) S1x4096x128 .f32)
  | 0 => []
  | k + 1 => if h : k < k0_t1_loop.trips then
      ⟨Rect.unit (s := S1x4096x128) (k0_off82 ⟨k, h⟩) S1x64x128.size (k0_off82_inb ⟨k, h⟩), outBlk x1 x7 k (accAt x1 x2 x6 init k)⟩ :: pcs x1 x2 x6 x7 init k
    else pcs x1 x2 x6 x7 init k

theorem pcs_succ (x1 : Vec F S1x2x8x64 .i32) (x2 : Vec F S1x4096x128 .f32) (x6 x7 : Vec F S2x4096x64 .bf16) (init : Carry F) (k : Fin k0_t1_loop.trips) :
    pcs x1 x2 x6 x7 init (k.val + 1) = [⟨Rect.unit (s := S1x4096x128) (k0_off82 k) S1x64x128.size (k0_off82_inb k), outBlk x1 x7 k.val (accAt x1 x2 x6 init k.val)⟩] ++ pcs x1 x2 x6 x7 init k.val := by
  rw [pcs]; exact dif_pos k.isLt

/-- Before trip `k`. -/
abbrev loopAt (c : Dev nD) (arg1 : Memref sig .tc .smem S1x2x8x64 .i32) (arg2 : Memref sig .tc .vmem S1x4096x128 .f32) (arg5 : Memref sig .tc .vmem S1x4096x128 .f32) (arg6 : Memref sig .tc .vmem S2x4096x64 .bf16) (arg7 : Memref sig .tc .vmem S2x4096x64 .bf16)
    (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (G_arg5 : BufTy.Contents (Elt F) arg5.view.ty) (init : Carry F) (k : ℕ) (acc : Carry F) : sProp 𝕄G :=
  iprop((arg1.view.loc (c : Thread nD τ) ↦[arg1.view.set]{fullShare} X_arg1) ∗ (arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (∃ f, (arg5.view.loc (c : Thread nD τ) ↦[arg5.view.set]{fullShare} f) ∗ ⌜f = arg5.view.writes (Elt F) G_arg5 (pcs (arg1.view.read (Elt F) X_arg1) (arg2.view.read (Elt F) X_arg2) (arg6.view.read (Elt F) X_arg6) (arg7.view.read (Elt F) X_arg7) init k)⌝) ∗ ⌜acc = accAt (arg1.view.read (Elt F) X_arg1) (arg2.view.read (Elt F) X_arg2) (arg6.view.read (Elt F) X_arg6) init k⌝)

set_option warn.classDefReducibility false in
/-- The loop, by its invariant. -/
@[sl_loop] def loopInv (𝒱 : Variants) (c : Dev nD) (bd : Option 𝒱.V) (E : Set ℕ) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (v71 : FVec F S64x512 .f32) (v72 : FVec F S64x64 .bf16) (v77 : FVec F S64x64 .bf16) (v82 : FVec F S64x64 .bf16) (v87 : FVec F S64x64 .bf16) (v92 : FVec F S64x64 .bf16) (v97 : FVec F S64x64 .bf16) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (G_arg5 : BufTy.Contents (Elt F) arg5.view.ty) (init : Carry F) (hT : InTable (F := F) arg1 X_arg1) :
    LoopInv (M := 𝕄G) frame (wpE (defs₀ (F := F)) 𝒱 (c : Thread nD τ) bd) E
      k0_t1_loop.lb k0_t1_loop.ub k0_t1_loop.st k0_t1_ok init (k0_t1_body (F := F) i arg1 harg1 arg2 harg2 arg3 harg3 arg4 harg4 arg5 harg5 arg6 harg6 arg7 harg7 v71 v72 v77 v82 v87 v92 v97) where
  inv := loopAt (F := F) c arg1 arg2 arg5 arg6 arg7 X_arg1 X_arg2 X_arg6 X_arg7 G_arg5 init
  step k acc := by
    iintro ⟨HR_arg1, HR_arg2, HR_arg6, HR_arg7, ⟨%f_arg5, HW_arg5, %h_arg5⟩, %h_acc⟩
    subst h_acc
    iapply (wp_wand_r Idealize.ShloMosaic.frame (wpE (defs₀ (F := F)) 𝒱 (c : Thread nD τ) bd) E)
    isplitl [HR_arg1 HR_arg2 HR_arg6 HR_arg7 HW_arg5]
    · iapply ((trip (F := F) 𝒱 c bd i arg1 harg1 arg2 harg2 arg3 harg3 arg4 harg4 arg5 harg5 arg6 harg6 arg7 harg7 v71 v72 v77 v82 v87 v92 v97 X_arg1 X_arg2 X_arg6 X_arg7 hT k).2.2 E _ f_arg5)
      isplitl [HR_arg1]; · iexact HR_arg1
      isplitl [HR_arg2]; · iexact HR_arg2
      isplitl [HR_arg6]; · iexact HR_arg6
      isplitl [HR_arg7]; · iexact HR_arg7
      iexact HW_arg5
    · iintro %yld ⟨%h_res, HR_arg1, HR_arg2, HR_arg6, HR_arg7, HW_arg5⟩
      isplitl [HR_arg1]; · iexact HR_arg1
      isplitl [HR_arg2]; · iexact HR_arg2
      isplitl [HR_arg6]; · iexact HR_arg6
      isplitl [HR_arg7]; · iexact HR_arg7
      isplitl [HW_arg5]
      · iexists _; isplitl [HW_arg5]; · iexact HW_arg5
        ipureintro
        rw [h_arg5, ← View.writes_append, trip_stores, pcs_succ]
      ipureintro
      rw [h_res, trip_yields]
      rfl

end Cert.Attn.Call

end
-- ==== Proof.CallRun.lean ====
module

public import proofs.«01_k».proof.Proof.CallLoop

@[expose] public section

/-! The attention kernel's body: with every word of the table below 64 it runs, and ends with its stores in the result's
window and in the two scratch buffers. -/

set_option maxRecDepth 16384

noncomputable section

namespace Cert.Attn.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn Cert.Attn.Gen

variable {F : FTy → Type} [FloatOps F]

local notation "𝕄G" => MT nD τ sig Unit (Elt F) ℕ (UR sig nD τ) ℕ

set_option maxHeartbeats 4000000 in
/-- The body's run: the stores in the result's window and in the scratch buffers are found by the run. -/
def bodyRun (c : Dev nD) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole)
    (x0 : Vec F S1x2x8x64 .i32) (x1 : Vec F S1x4096x128 .f32) (x2 : Vec F S1x4096x128 .f32) (x3 : Vec F S1x4096x128 .f32)
    (hT : InTable (F := F) arg1 (harg1.unread x0)) :
    Σ' (L4 : List (View.Piece (Elt F) S1x4096x128 .f32)), Σ' (LT0 : List (View.Piece (Elt F) S2x4096x64 .bf16)), { LT1 : List (View.Piece (Elt F) S2x4096x64 .bf16) //
      ∀ (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1)) -∗ K ⟨⟩))
          ⊢ wp frame (wpE (defs₀ (F := F)) Variants.none c none) E (cc0__attn_kernel i arg1 harg1 arg2 harg2 arg3 harg3 arg4 harg4 arg5 harg5 arg6 harg6 arg7 harg7) K } := by
  refine ⟨?_, ?_, ?_, fun E K => ?run⟩
  case run =>
    simp only [cc0__attn_kernel_eq_skeleton]; unfold cc0__attn_kernel_skel
    simp only [k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact chk0_of (hT _ _) | exact chk2_of (hT _ _) | exact chk3_of (hT _ _) | exact chk4_of (hT _ _) | exact chk5_of (hT _ _) | exact chk6_of (hT _ _) | exact chk7_of (hT _ _) | exact chk8_of (hT _ _) | exact chk9_of (hT _ _) | exact chk10_of (hT _ _) | exact chk11_of (hT _ _) | exact chk12_of (hT _ _) | exact chk13_of (hT _ _) | exact chk14_of (hT _ _) | exact chk15_of (hT _ _) | exact chk16_of (hT _ _) | exact chk49_of (hT _ _) | exact chk50_of (hT _ _) | exact chk51_of (hT _ _) | exact chk52_of (hT _ _) | exact chk53_of (hT _ _) | exact chk54_of (hT _ _) | exact chk55_of (hT _ _) | exact chk56_of (hT _ _) | exact chk57_of (hT _ _) | exact chk58_of (hT _ _) | exact chk59_of (hT _ _) | exact chk60_of (hT _ _) | exact chk61_of (hT _ _) | exact chk62_of (hT _ _) | exact chk63_of (hT _ _) | exact chk64_of (hT _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Attn.Call

end
-- ==== Proof.CallScratch.lean ====
module

public import proofs.«01_k».proof.Proof.CallRun
public import Idealize.ShloMosaic.Lib.Pipeline.ValueKit
public import Idealize.ShloMosaic.Lib.Pipeline.ReadBack

@[expose] public section

/-! The scratch copies of the keys and the values after the kernel's four stores. -/

set_option maxRecDepth 16384
set_option maxHeartbeats 4000000

noncomputable section

namespace Cert.Attn.Call

open Idealize.ShloMosaic Idealize.ShloMosaic.TcCoe Idealize.ShloMosaic.Tactic
open Cert.Attn Cert.Attn.Gen

variable {F : FTy → Type} [FloatOps F]

/-- The scratch copy of keys or values: head by head, cast. -/
def half16 (x : Vec F S1x4096x128 .f32) : Vec F S2x4096x64 .bf16 :=
  fun j => truncf .bf16 (x : FVec F S1x4096x128 .f32) bitsLt_bf16_f32
    (ix3 (n0 := 1) (n1 := 4096) (n2 := 128) 0 (j 1) ⟨(j 0).val * 64 + (j 2).val, by
      have h0 : (j 0).val < 2 := (j 0).isLt
      have h2 : (j 2).val < 64 := (j 2).isLt
      omega⟩)

/-- A cast between two reshapes that undo each other is the cast. -/
theorem cast_pay (v : Vec F S1x4096x64 .f32) :
    shapeCast S1x4096x64 (truncf .bf16 (shapeCast S4096x64 v shapeCasts_S1x4096x64_S4096x64 : FVec F S4096x64 .f32) bitsLt_bf16_f32) shapeCasts_S4096x64_S1x4096x64
      = truncf .bf16 (v : FVec F S1x4096x64 .f32) bitsLt_bf16_f32 := by
  have e : truncf .bf16 (shapeCast S4096x64 v shapeCasts_S1x4096x64_S4096x64 : FVec F S4096x64 .f32) bitsLt_bf16_f32
      = shapeCast S4096x64 (truncf .bf16 (v : FVec F S1x4096x64 .f32) bitsLt_bf16_f32) shapeCasts_S1x4096x64_S4096x64 := rfl
  rw [e, shapeCast_comp, shapeCast_self]

/-- One head's half of the scratch copy is a block of it. -/
theorem half_block {m : Memref sig .tc .vmem S1x4096x128 .f32} (h : m.IsWhole) (x : Vec F S1x4096x128 .f32) (p : Nat) (hp : p < 2)
    (inb : ∀ a, (![0, 0, p * 64] : Fin 3 → Nat) a + S1x4096x64.size a ≤ S1x4096x128.size a)
    (inb' : ∀ a, (![p, 0, 0] : Fin 3 → Nat) a + S1x4096x64.size a ≤ S2x4096x64.size a) (j : S1x4096x64.Idx) :
    truncf .bf16 (m.view.readAt (Elt F) (Rect.unit (s := S1x4096x128) ![0, 0, p * 64] S1x4096x64.size inb).toLoadRect (h.unread x) : FVec F S1x4096x64 .f32) bitsLt_bf16_f32 j
      = half16 x ((Rect.unit (s := S2x4096x64) ![p, 0, 0] S1x4096x64.size inb').emb j) := by
  show FloatOps.truncf .bf16 _ _ = FloatOps.truncf .bf16 _ _
  refine congrArg (fun a => FloatOps.truncf (F := F) .bf16 bitsLt_bf16_f32 a) ?_
  rw [h.readAt_unread]
  refine congrArg x (funext fun a => Fin.ext ?_)
  have h0 : (j 0).val = 0 := Nat.lt_one_iff.mp (j 0).isLt
  fin_cases a
  · show 0 + 1 * (j 0).val = 0; omega
  · show 0 + 1 * (j 1).val = 0 + 1 * (j 1).val; rfl
  · show p * 64 + 1 * (j 2).val = (p + 1 * (j 0).val) * 64 + (0 + 1 * (j 2).val); omega

/-- The scratch buffer of the keys after both stores. -/
theorem scratch_k {m : Memref sig .tc .vmem S2x4096x64 .bf16} {m' : Memref sig .tc .vmem S1x4096x128 .f32} (h : m'.IsWhole) (x : Vec F S1x4096x128 .f32) (f : BufTy.Contents (Elt F) m.view.ty) :
    m.view.read (Elt F) (m.view.writes (Elt F) f
      [⟨Rect.unit (s := S2x4096x64) ![1, 0, 0] S1x4096x64.size inb_S2x4096x64_S1x4096x64_1_0_0, k0_pay31 (m'.view.readAt (Elt F) (Rect.unit (s := S1x4096x128) ![0, 0, 64] S1x4096x64.size inb_S1x4096x128_S1x4096x64_0_0_64).toLoadRect (h.unread x))⟩,
       ⟨Rect.unit (s := S2x4096x64) ![0, 0, 0] S1x4096x64.size inb_S2x4096x64_S1x4096x64_0_0_0, k0_pay29 (m'.view.readAt (Elt F) (Rect.unit (s := S1x4096x128) ![0, 0, 0] S1x4096x64.size inb_S1x4096x128_S1x4096x64_0_0_0).toLoadRect (h.unread x))⟩])
      = half16 x := by
  have hc := fun y => View.cover_of_tiled (Val := Elt F) [(⟨Rect.unit (s := S2x4096x64) ![1, 0, 0] S1x4096x64.size inb_S2x4096x64_S1x4096x64_1_0_0, k0_pay31 (m'.view.readAt (Elt F) (Rect.unit (s := S1x4096x128) ![0, 0, 64] S1x4096x64.size inb_S1x4096x128_S1x4096x64_0_0_64).toLoadRect (h.unread x))⟩ : View.Piece (Elt F) S2x4096x64 .bf16),
       ⟨Rect.unit (s := S2x4096x64) ![0, 0, 0] S1x4096x64.size inb_S2x4096x64_S1x4096x64_0_0_0, k0_pay29 (m'.view.readAt (Elt F) (Rect.unit (s := S1x4096x128) ![0, 0, 0] S1x4096x64.size inb_S1x4096x128_S1x4096x64_0_0_0).toLoadRect (h.unread x))⟩] S1x4096x64.size (by rfl) y
  rw [View.read_writes_eq_canon _ _ _ hc]
  funext y
  refine (View.canon_append_of_pieces (half16 x) [] _ (View.PiecesOf.mem (L := [_, _]) ⟨?_, ?_, trivial⟩) y (hc y))
  · intro j
    exact (congrFun (cast_pay _) j).trans (half_block h x 1 (by decide) _ inb_S2x4096x64_S1x4096x64_1_0_0 j)
  · intro j
    exact (congrFun (cast_pay _) j).trans (half_block h x 0 (by decide) _ inb_S2x4096x64_S1x4096x64_0_0_0 j)

end Cert.Attn.Call

end
-- ==== Proof.CallOut.lean ====
module

public import proofs.«01_k».proof.Proof.CallScratch
public import proofs.«01_k».proof.Proof.CallRun
public import Idealize.ShloMosaic.Lib.Pipeline.ValueKit
public import Idealize.ShloMosaic.Lib.Pipeline.ReadBack

@[expose] public section

/-! What the attention kernel's body leaves in the result's window: block `m` of 64 rows holds the results of query block
`m`, each computed from what that block carries. -/

set_option maxRecDepth 16384
set_option maxHeartbeats 4000000

noncomputable section

namespace Cert.Attn.Call

open Idealize.ShloMosaic Idealize.ShloMosaic.TcCoe Idealize.ShloMosaic.Tactic
open Cert.Attn Cert.Attn.Gen

variable {F : FTy → Type} [FloatOps F]

/-- The carried value the loop starts from is what query block 0 carries. -/
theorem start_eq (q : Vec F S1x64x128 .f32) (b0 b1 b2 b3 b4 b5 b6 b7 c0 c1 c2 c3 c4 c5 c6 c7 : Blk F) :
    (k0_pay50 (k0_pay41 (k0_pay36 (k0_pay33 q) k0_pay34) (k0_pay37 b0) (k0_pay38 b1) (k0_pay39 b2) (k0_pay40 b3) b4 b5 b6 b7),
      k0_pay53 (k0_pay42 (k0_pay35 (k0_pay33 q) k0_pay34)) (k0_pay43 c0) (k0_pay44 c1) (k0_pay45 c2) (k0_pay46 c3) (k0_pay47 c4) c5 c6 c7,
      k0_pay49 (k0_pay41 (k0_pay36 (k0_pay33 q) k0_pay34) (k0_pay37 b0) (k0_pay38 b1) (k0_pay39 b2) (k0_pay40 b3) b4 b5 b6 b7),
      k0_pay52 (k0_pay42 (k0_pay35 (k0_pay33 q) k0_pay34)) (k0_pay43 c0) (k0_pay44 c1) (k0_pay45 c2) (k0_pay46 c3) (k0_pay47 c4) c5 c6 c7)
      = carryOf q b0 b1 b2 b3 b4 b5 b6 b7 c0 c1 c2 c3 c4 c5 c6 c7 := rfl

/-- The last block's results. -/
theorem last_eq (a : Carry F) (b0 b1 b2 b3 b4 b5 b6 b7 c0 c1 c2 c3 c4 c5 c6 c7 : Blk F) :
    k0_pay1 a.2.1 a.2.2.2 (k0_pay60 a.1 a.2.2.1 (k0_pay55 b0) (k0_pay56 b1) (k0_pay57 b2) (k0_pay58 b3) (k0_pay59 b4) b5 b6 b7)
      (k0_pay61 c0) (k0_pay62 c1) (k0_pay63 c2) (k0_pay64 c3) (k0_pay65 c4) c5 c6 c7
      = outOf a b0 b1 b2 b3 b4 b5 b6 b7 c0 c1 c2 c3 c4 c5 c6 c7 := rfl

/-- The loop's number of trips, as the run spells it. -/
abbrev trips : ℕ := Scf.trips k0_t1_loop.lb k0_t1_loop.ub k0_t1_loop.st

theorem accAt_congr {x1 x1' : Vec F S1x2x8x64 .i32} {x2 x2' : Vec F S1x4096x128 .f32} {x6 x6' : Vec F S2x4096x64 .bf16} {i i' : Carry F} (n : ℕ)
    (h1 : x1 = x1') (h2 : x2 = x2') (h6 : x6 = x6') (hi : i = i') : accAt x1 x2 x6 i n = accAt x1' x2' x6' i' n := by
  subst h1 h2 h6 hi; rfl

theorem pcs_congr {x1 x1' : Vec F S1x2x8x64 .i32} {x2 x2' : Vec F S1x4096x128 .f32} {x6 x6' x7 x7' : Vec F S2x4096x64 .bf16} {i i' : Carry F} (n : ℕ)
    (h1 : x1 = x1') (h2 : x2 = x2') (h6 : x6 = x6') (h7 : x7 = x7') (hi : i = i') : pcs x1 x2 x6 x7 i n = pcs x1' x2' x6' x7' i' n := by
  subst h1 h2 h6 h7 hi; rfl

/-- Carried from its own start, what is carried before trip `k` is what block `k` carries. -/
theorem accAt_carry (x1 : Vec F S1x2x8x64 .i32) (x2 : Vec F S1x4096x128 .f32) (x6 : Vec F S2x4096x64 .bf16) : ∀ k, accAt x1 x2 x6 (carry x1 x2 x6 0) k = carry x1 x2 x6 k
  | 0 => rfl
  | _ + 1 => rfl

theorem carry_congr {x1 x1' : Vec F S1x2x8x64 .i32} {x2 x2' : Vec F S1x4096x128 .f32} {x6 x6' : Vec F S2x4096x64 .bf16} (n : ℕ)
    (h1 : x1 = x1') (h2 : x2 = x2') (h6 : x6 = x6') : carry x1 x2 x6 n = carry x1' x2' x6' n := by
  subst h1 h2 h6; rfl

/-- The body's stores in the result's window: the last block after those of the loop. -/
theorem bodyRun_stores (c : Dev nD) (i : grid0.Coords) (arg1 : Memref sig .tc .smem S1x2x8x64 .i32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S2x4096x64 .bf16) (harg6 : arg6.IsWhole) (arg7 : Memref sig .tc .vmem S2x4096x64 .bf16) (harg7 : arg7.IsWhole) (x0 : Vec F S1x2x8x64 .i32) (x1 : Vec F S1x4096x128 .f32) (x2 : Vec F S1x4096x128 .f32) (x3 : Vec F S1x4096x128 .f32) (hT : InTable (F := F) arg1 (harg1.unread x0)) :
    (bodyRun c i arg1 harg1 arg2 harg2 arg3 harg3 arg4 harg4 arg5 harg5 arg6 harg6 arg7 harg7 x0 x1 x2 x3 hT).1
      = ⟨Rect.unit (s := S1x4096x128) ![0, 4032, 0] S1x64x128.size inb_S1x4096x128_S1x64x128_0_4032_0, outBlk x0 (half16 x3) 63 (carry x0 x1 (half16 x2) trips)⟩
        :: pcs x0 x1 (half16 x2) (half16 x3) (carry x0 x1 (half16 x2) 0) trips := by
  have e1 := harg1.read_unread x0
  have e2 := harg2.read_unread x1
  have e6 := scratch_k (m := arg6) harg3 x2 arg6.view.junk
  have e7 := scratch_k (m := arg7) harg4 x3 arg7.view.junk
  unfold bodyRun
  dsimp only
  refine congrArg₂ (fun (o : FVec F S1x64x128 .f32) L => (⟨Rect.unit (s := S1x4096x128) ![0, 4032, 0] S1x64x128.size inb_S1x4096x128_S1x64x128_0_4032_0, o⟩ : View.Piece (Elt F) S1x4096x128 .f32) :: L) ?_
    (pcs_congr trips e1 e2 e6 e7 ?_)
  · refine (last_eq _ _ _ _ _ _ _ _ _ _ _ _ _ _ _ _ _).trans ?_
    refine outOf_congr ?_ ((blk_read _ _ _ 0 _ _ ((word_read (harg1.unread x0) _ _ _ 0 0 63 (by omega) rfl).trans (congrArg (fun x => word x 0 0 63) (harg1.read_unread x0))) (hT _ _) rfl).trans (congrArg (fun x => blk x 0 (word x0 0 0 63)) e7)) ((blk_read _ _ _ 0 _ _ ((word_read (harg1.unread x0) _ _ _ 0 1 63 (by omega) rfl).trans (congrArg (fun x => word x 0 1 63) (harg1.read_unread x0))) (hT _ _) rfl).trans (congrArg (fun x => blk x 0 (word x0 0 1 63)) e7)) ((blk_read _ _ _ 0 _ _ ((word_read (harg1.unread x0) _ _ _ 0 2 63 (by omega) rfl).trans (congrArg (fun x => word x 0 2 63) (harg1.read_unread x0))) (hT _ _) rfl).trans (congrArg (fun x => blk x 0 (word x0 0 2 63)) e7)) ((blk_read _ _ _ 0 _ _ ((word_read (harg1.unread x0) _ _ _ 0 3 63 (by omega) rfl).trans (congrArg (fun x => word x 0 3 63) (harg1.read_unread x0))) (hT _ _) rfl).trans (congrArg (fun x => blk x 0 (word x0 0 3 63)) e7)) ((blk_read _ _ _ 0 _ _ ((word_read (harg1.unread x0) _ _ _ 0 4 63 (by omega) rfl).trans (congrArg (fun x => word x 0 4 63) (harg1.read_unread x0))) (hT _ _) rfl).trans (congrArg (fun x => blk x 0 (word x0 0 4 63)) e7)) ((blk_read _ _ _ 0 _ _ ((word_read (harg1.unread x0) _ _ _ 0 5 63 (by omega) rfl).trans (congrArg (fun x => word x 0 5 63) (harg1.read_unread x0))) (hT _ _) rfl).trans (congrArg (fun x => blk x 0 (word x0 0 5 63)) e7)) ((blk_read _ _ _ 0 _ _ ((word_read (harg1.unread x0) _ _ _ 0 6 63 (by omega) rfl).trans (congrArg (fun x => word x 0 6 63) (harg1.read_unread x0))) (hT _ _) rfl).trans (congrArg (fun x => blk x 0 (word x0 0 6 63)) e7)) ((blk_read _ _ _ 0 _ _ ((word_read (harg1.unread x0) _ _ _ 0 7 63 (by omega) rfl).trans (congrArg (fun x => word x 0 7 63) (harg1.read_unread x0))) (hT _ _) rfl).trans (congrArg (fun x => blk x 0 (word x0 0 7 63)) e7)) ((blk_read _ _ _ 1 _ _ ((word_read (harg1.unread x0) _ _ _ 1 0 63 (by omega) rfl).trans (congrArg (fun x => word x 1 0 63) (harg1.read_unread x0))) (hT _ _) rfl).trans (congrArg (fun x => blk x 1 (word x0 1 0 63)) e7)) ((blk_read _ _ _ 1 _ _ ((word_read (harg1.unread x0) _ _ _ 1 1 63 (by omega) rfl).trans (congrArg (fun x => word x 1 1 63) (harg1.read_unread x0))) (hT _ _) rfl).trans (congrArg (fun x => blk x 1 (word x0 1 1 63)) e7)) ((blk_read _ _ _ 1 _ _ ((word_read (harg1.unread x0) _ _ _ 1 2 63 (by omega) rfl).trans (congrArg (fun x => word x 1 2 63) (harg1.read_unread x0))) (hT _ _) rfl).trans (congrArg (fun x => blk x 1 (word x0 1 2 63)) e7)) ((blk_read _ _ _ 1 _ _ ((word_read (harg1.unread x0) _ _ _ 1 3 63 (by omega) rfl).trans (congrArg (fun x => word x 1 3 63) (harg1.read_unread x0))) (hT _ _) rfl).trans (congrArg (fun x => blk x 1 (word x0 1 3 63)) e7)) ((blk_read _ _ _ 1 _ _ ((word_read (harg1.unread x0) _ _ _ 1 4 63 (by omega) rfl).trans (congrArg (fun x => word x 1 4 63) (harg1.read_unread x0))) (hT _ _) rfl).trans (congrArg (fun x => blk x 1 (word x0 1 4 63)) e7)) ((blk_read _ _ _ 1 _ _ ((word_read (harg1.unread x0) _ _ _ 1 5 63 (by omega) rfl).trans (congrArg (fun x => word x 1 5 63) (harg1.read_unread x0))) (hT _ _) rfl).trans (congrArg (fun x => blk x 1 (word x0 1 5 63)) e7)) ((blk_read _ _ _ 1 _ _ ((word_read (harg1.unread x0) _ _ _ 1 6 63 (by omega) rfl).trans (congrArg (fun x => word x 1 6 63) (harg1.read_unread x0))) (hT _ _) rfl).trans (congrArg (fun x => blk x 1 (word x0 1 6 63)) e7)) ((blk_read _ _ _ 1 _ _ ((word_read (harg1.unread x0) _ _ _ 1 7 63 (by omega) rfl).trans (congrArg (fun x => word x 1 7 63) (harg1.read_unread x0))) (hT _ _) rfl).trans (congrArg (fun x => blk x 1 (word x0 1 7 63)) e7))
    exact (carry_congr 63 e1 e2 e6 : _ = carry x0 x1 (half16 x2) 63)
  · refine (start_eq _ _ _ _ _ _ _ _ _ _ _ _ _ _ _ _ _).trans ?_
    refine carryOf_congr ((q_read (harg2.unread x1) _ _ 0 (by omega) rfl).trans (congrArg (fun x => qblk x 0) e2)) ((blk_read _ _ _ 0 _ _ ((word_read (harg1.unread x0) _ _ _ 0 0 0 (by omega) rfl).trans (congrArg (fun x => word x 0 0 0) (harg1.read_unread x0))) (hT _ _) rfl).trans (congrArg (fun x => blk x 0 (word x0 0 0 0)) e6)) ((blk_read _ _ _ 0 _ _ ((word_read (harg1.unread x0) _ _ _ 0 1 0 (by omega) rfl).trans (congrArg (fun x => word x 0 1 0) (harg1.read_unread x0))) (hT _ _) rfl).trans (congrArg (fun x => blk x 0 (word x0 0 1 0)) e6)) ((blk_read _ _ _ 0 _ _ ((word_read (harg1.unread x0) _ _ _ 0 2 0 (by omega) rfl).trans (congrArg (fun x => word x 0 2 0) (harg1.read_unread x0))) (hT _ _) rfl).trans (congrArg (fun x => blk x 0 (word x0 0 2 0)) e6)) ((blk_read _ _ _ 0 _ _ ((word_read (harg1.unread x0) _ _ _ 0 3 0 (by omega) rfl).trans (congrArg (fun x => word x 0 3 0) (harg1.read_unread x0))) (hT _ _) rfl).trans (congrArg (fun x => blk x 0 (word x0 0 3 0)) e6)) ((blk_read _ _ _ 0 _ _ ((word_read (harg1.unread x0) _ _ _ 0 4 0 (by omega) rfl).trans (congrArg (fun x => word x 0 4 0) (harg1.read_unread x0))) (hT _ _) rfl).trans (congrArg (fun x => blk x 0 (word x0 0 4 0)) e6)) ((blk_read _ _ _ 0 _ _ ((word_read (harg1.unread x0) _ _ _ 0 5 0 (by omega) rfl).trans (congrArg (fun x => word x 0 5 0) (harg1.read_unread x0))) (hT _ _) rfl).trans (congrArg (fun x => blk x 0 (word x0 0 5 0)) e6)) ((blk_read _ _ _ 0 _ _ ((word_read (harg1.unread x0) _ _ _ 0 6 0 (by omega) rfl).trans (congrArg (fun x => word x 0 6 0) (harg1.read_unread x0))) (hT _ _) rfl).trans (congrArg (fun x => blk x 0 (word x0 0 6 0)) e6)) ((blk_read _ _ _ 0 _ _ ((word_read (harg1.unread x0) _ _ _ 0 7 0 (by omega) rfl).trans (congrArg (fun x => word x 0 7 0) (harg1.read_unread x0))) (hT _ _) rfl).trans (congrArg (fun x => blk x 0 (word x0 0 7 0)) e6)) ((blk_read _ _ _ 1 _ _ ((word_read (harg1.unread x0) _ _ _ 1 0 0 (by omega) rfl).trans (congrArg (fun x => word x 1 0 0) (harg1.read_unread x0))) (hT _ _) rfl).trans (congrArg (fun x => blk x 1 (word x0 1 0 0)) e6)) ((blk_read _ _ _ 1 _ _ ((word_read (harg1.unread x0) _ _ _ 1 1 0 (by omega) rfl).trans (congrArg (fun x => word x 1 1 0) (harg1.read_unread x0))) (hT _ _) rfl).trans (congrArg (fun x => blk x 1 (word x0 1 1 0)) e6)) ((blk_read _ _ _ 1 _ _ ((word_read (harg1.unread x0) _ _ _ 1 2 0 (by omega) rfl).trans (congrArg (fun x => word x 1 2 0) (harg1.read_unread x0))) (hT _ _) rfl).trans (congrArg (fun x => blk x 1 (word x0 1 2 0)) e6)) ((blk_read _ _ _ 1 _ _ ((word_read (harg1.unread x0) _ _ _ 1 3 0 (by omega) rfl).trans (congrArg (fun x => word x 1 3 0) (harg1.read_unread x0))) (hT _ _) rfl).trans (congrArg (fun x => blk x 1 (word x0 1 3 0)) e6)) ((blk_read _ _ _ 1 _ _ ((word_read (harg1.unread x0) _ _ _ 1 4 0 (by omega) rfl).trans (congrArg (fun x => word x 1 4 0) (harg1.read_unread x0))) (hT _ _) rfl).trans (congrArg (fun x => blk x 1 (word x0 1 4 0)) e6)) ((blk_read _ _ _ 1 _ _ ((word_read (harg1.unread x0) _ _ _ 1 5 0 (by omega) rfl).trans (congrArg (fun x => word x 1 5 0) (harg1.read_unread x0))) (hT _ _) rfl).trans (congrArg (fun x => blk x 1 (word x0 1 5 0)) e6)) ((blk_read _ _ _ 1 _ _ ((word_read (harg1.unread x0) _ _ _ 1 6 0 (by omega) rfl).trans (congrArg (fun x => word x 1 6 0) (harg1.read_unread x0))) (hT _ _) rfl).trans (congrArg (fun x => blk x 1 (word x0 1 6 0)) e6)) ((blk_read _ _ _ 1 _ _ ((word_read (harg1.unread x0) _ _ _ 1 7 0 (by omega) rfl).trans (congrArg (fun x => word x 1 7 0) (harg1.read_unread x0))) (hT _ _) rfl).trans (congrArg (fun x => blk x 1 (word x0 1 7 0)) e6))

end Cert.Attn.Call

end
-- ==== Proof.CallClosed.lean ====
module

public import proofs.«01_k».proof.Proof.CallOut
public import Idealize.ShloMosaic.Lib.Pipeline.ReadBack

@[expose] public section

/-! The whole window of results after the attention kernel's body, as one function of the four windows read. -/

set_option maxRecDepth 16384

noncomputable section

namespace Cert.Attn.Call

open Idealize.ShloMosaic Idealize.ShloMosaic.TcCoe Idealize.ShloMosaic.Tactic
open Cert.Attn Cert.Attn.Gen

variable {F : FTy → Type} [FloatOps F]

/-- The window of results: row `64 m + i` is row `i` of query block `m`. -/
def attnOut (x0 : Vec F S1x2x8x64 .i32) (x1 x2 x3 : Vec F S1x4096x128 .f32) : Vec F S1x4096x128 .f32 := fun y =>
  outBlk x0 (half16 x3) ((y 1).val / 64) (carry x0 x1 (half16 x2) ((y 1).val / 64))
    (ix3 (n0 := 1) (n1 := 64) (n2 := 128) 0 ⟨(y 1).val % 64, Nat.mod_lt _ (by decide)⟩ (y 2))

/-- A block of 64 rows stored from row `64 m` holds the rows of query block `m`. -/
theorem attnOut_block (x0 : Vec F S1x2x8x64 .i32) (x1 x2 x3 : Vec F S1x4096x128 .f32) (m : ℕ) (off : Fin 3 → ℕ)
    (h0 : off 0 = 0) (h1 : off 1 = m * 64) (h2 : off 2 = 0)
    (j : S1x64x128.Idx) (y : S1x4096x128.Idx) (hy : ∀ a, (y a).val = off a + 1 * (j a).val) :
    outBlk x0 (half16 x3) m (carry x0 x1 (half16 x2) m) j = attnOut x0 x1 x2 x3 y := by
  have hj : (j 1).val < 64 := (j 1).isLt
  have hj0 : (j 0).val < 1 := (j 0).isLt
  have e1 : (y 1).val = m * 64 + (j 1).val := by rw [hy 1, h1]; omega
  have d : (y 1).val / 64 = m := by omega
  have r : (y 1).val % 64 = (j 1).val := by omega
  have e2 : (y 2).val = (j 2).val := by rw [hy 2, h2]; omega
  unfold attnOut
  rw [d]
  congr 1
  funext a
  fin_cases a
  · exact Fin.ext (by show (j 0).val = 0; omega)
  · exact Fin.ext r.symm
  · exact Fin.ext e2.symm

/-- The loop's stores are blocks of that window. -/
theorem pcs_blocks (x0 : Vec F S1x2x8x64 .i32) (x1 x2 x3 : Vec F S1x4096x128 .f32) : ∀ (n : ℕ),
    ∀ p ∈ pcs x0 x1 (half16 x2) (half16 x3) (carry x0 x1 (half16 x2) 0) n, ∀ x, p.2 x = attnOut x0 x1 x2 x3 (p.1.emb x)
  | 0, p, hp, x => absurd hp List.not_mem_nil
  | n + 1, p, hp, x => by
    by_cases h : n < k0_t1_loop.trips
    · rw [pcs_succ x0 x1 (half16 x2) (half16 x3) (carry x0 x1 (half16 x2) 0) ⟨n, h⟩] at hp
      rcases List.mem_append.mp hp with hp | hp
      · obtain rfl := List.mem_singleton.mp hp
        rw [accAt_carry]
        exact attnOut_block x0 x1 x2 x3 n (k0_off82 ⟨n, h⟩) rfl (row_prev ⟨n, h⟩) rfl x _ fun a => rfl
      · exact pcs_blocks x0 x1 x2 x3 n p hp x
    · rw [pcs, dif_neg h] at hp
      exact pcs_blocks x0 x1 x2 x3 n p hp x

/-- Rows before `64 n` are covered by the first `n` stores. -/
theorem pcs_cover (x0 : Vec F S1x2x8x64 .i32) (x1 x2 x3 : Vec F S1x4096x128 .f32) (y : S1x4096x128.Idx) : ∀ (n : ℕ), n ≤ k0_t1_loop.trips →
    (y 1).val < n * 64 → ∃ p ∈ pcs x0 x1 (half16 x2) (half16 x3) (carry x0 x1 (half16 x2) 0) n, y ∈ p.1.set
  | 0, _, h => absurd h (by omega)
  | n + 1, hn, h => by
    rw [pcs_succ x0 x1 (half16 x2) (half16 x3) (carry x0 x1 (half16 x2) 0) ⟨n, hn⟩]
    by_cases hlt : (y 1).val < n * 64
    · obtain ⟨p, hp, hy⟩ := pcs_cover x0 x1 x2 x3 y n (by omega) hlt
      exact ⟨p, List.mem_append_right _ hp, hy⟩
    · refine ⟨_, List.mem_append_left _ (List.mem_singleton.mpr rfl), ?_⟩
      rw [Rect.mem_set_unit]
      intro a
      have e : k0_off82 ⟨n, hn⟩ 1 = n * 64 := row_prev ⟨n, hn⟩
      have l0 : (y 0).val < 1 := (y 0).isLt
      have l2 : (y 2).val < 128 := (y 2).isLt
      fin_cases a
      · exact ⟨Nat.zero_le _, by show (y 0).val < 0 + 1; omega⟩
      · refine ⟨?_, ?_⟩
        · show k0_off82 ⟨n, hn⟩ 1 ≤ (y 1).val; omega
        · show (y 1).val < k0_off82 ⟨n, hn⟩ 1 + 64; omega
      · exact ⟨Nat.zero_le _, by show (y 2).val < 0 + 128; omega⟩

/-- The loop makes 63 trips. -/
theorem trips_eq : k0_t1_loop.trips = 63 := by decide +kernel

/-- All the body's stores are blocks of the window of results. -/
theorem stores_blocks (x0 : Vec F S1x2x8x64 .i32) (x1 x2 x3 : Vec F S1x4096x128 .f32) :
    ∀ p ∈ (⟨Rect.unit (s := S1x4096x128) ![0, 4032, 0] S1x64x128.size inb_S1x4096x128_S1x64x128_0_4032_0, outBlk x0 (half16 x3) 63 (carry x0 x1 (half16 x2) trips)⟩ : View.Piece (Elt F) S1x4096x128 .f32)
      :: pcs x0 x1 (half16 x2) (half16 x3) (carry x0 x1 (half16 x2) 0) trips, ∀ x, p.2 x = attnOut x0 x1 x2 x3 (p.1.emb x) := by
  intro p hp x
  rcases List.mem_cons.mp hp with rfl | hp
  · have e : trips = 63 := trips_eq
    rw [e]
    exact attnOut_block x0 x1 x2 x3 63 ![0, 4032, 0] rfl rfl rfl x _ fun a => rfl
  · exact pcs_blocks x0 x1 x2 x3 trips p hp x

/-- Every element of the window is stored. -/
theorem stores_cover (x0 : Vec F S1x2x8x64 .i32) (x1 x2 x3 : Vec F S1x4096x128 .f32) (y : S1x4096x128.Idx) :
    ∃ p ∈ (⟨Rect.unit (s := S1x4096x128) ![0, 4032, 0] S1x64x128.size inb_S1x4096x128_S1x64x128_0_4032_0, outBlk x0 (half16 x3) 63 (carry x0 x1 (half16 x2) trips)⟩ : View.Piece (Elt F) S1x4096x128 .f32)
      :: pcs x0 x1 (half16 x2) (half16 x3) (carry x0 x1 (half16 x2) 0) trips, y ∈ p.1.set := by
  have e : trips = 63 := trips_eq
  by_cases hlt : (y 1).val < trips * 64
  · obtain ⟨p, hp, hy⟩ := pcs_cover x0 x1 x2 x3 y trips le_rfl hlt
    exact ⟨p, List.mem_cons_of_mem _ hp, hy⟩
  · refine ⟨_, List.mem_cons_self, ?_⟩
    rw [Rect.mem_set_unit]
    rw [e] at hlt
    have l0 : (y 0).val < 1 := (y 0).isLt
    have l1 : (y 1).val < 4096 := (y 1).isLt
    have l2 : (y 2).val < 128 := (y 2).isLt
    intro a
    fin_cases a
    · exact ⟨Nat.zero_le _, by show (y 0).val < 0 + 1; omega⟩
    · exact ⟨by show 4032 ≤ (y 1).val; omega, by show (y 1).val < 4032 + 64; omega⟩
    · exact ⟨Nat.zero_le _, by show (y 2).val < 0 + 128; omega⟩

/-- A buffer that ends with the body's stores reads as the window of results. -/
theorem read_stores {sp : Space} (v : View sig .tc sp S1x4096x128 .f32) (f : v.ty.Contents (Elt F)) (x0 : Vec F S1x2x8x64 .i32) (x1 x2 x3 : Vec F S1x4096x128 .f32) :
    v.read (Elt F) (v.writes (Elt F) f (⟨Rect.unit (s := S1x4096x128) ![0, 4032, 0] S1x64x128.size inb_S1x4096x128_S1x64x128_0_4032_0, outBlk x0 (half16 x3) 63 (carry x0 x1 (half16 x2) trips)⟩
      :: pcs x0 x1 (half16 x2) (half16 x3) (carry x0 x1 (half16 x2) 0) trips)) = attnOut x0 x1 x2 x3 := by
  rw [View.read_writes_eq_canon _ _ _ (stores_cover x0 x1 x2 x3)]
  funext y
  have h := View.canon_append_of_pieces (attnOut x0 x1 x2 x3) [] _ (stores_blocks x0 x1 x2 x3) y (stores_cover x0 x1 x2 x3 y)
  rwa [List.append_nil] at h

end Cert.Attn.Call

end
-- ==== Proof.CallData.lean ====
module

public import proofs.«01_k».proof.Proof.CallClosed
public import proofs.«01_k».proof.Proof.Gen.Attn.Points
public import proofs.«01_k».proof.Proof.Gen.Attn.Launch
public import Idealize.ShloMosaic.Lib.Pipeline.FrameBody
public import Idealize.ShloMosaic.Lib.Pipeline.Frame
public import Idealize.ShloMosaic.Lib.Tactic

@[expose] public section

/-! The attention kernel as a pipeline over its grid, from any contents of its arrays whose table names blocks that exist. -/

set_option maxRecDepth 16384

noncomputable section

namespace Cert.Attn.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.Attn.Gen

variable {F : FTy → Type} [FloatOps F]

local notation "𝕄" => MT nD τ sig Unit (Elt F) ℕ (UR sig nD τ) ℕ

variable (W : Dev nD → Valuation τ sig (Elt F))

/-- A window's block at a grid point, cut from its array as the call finds it. -/
def block (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The call's proof data: inputs keep their blocks, the output is what the body computes of them. -/
def dat (c : Dev nD) : Dat τ (Elt F) Unit ℕ (UR sig nD τ) ℕ cfg0 c where
  A w := W c (Proc.devRef .tc (Pipeline.arrRef spec0 w))
  after w t := match w with
    | ⟨0, _⟩ => block W c 0 t
    | ⟨1, _⟩ => block W c 1 t
    | ⟨2, _⟩ => block W c 2 t
    | ⟨3, _⟩ => block W c 3 t
    | ⟨4, _⟩ => attnOut (block W c 0 t) (block W c 1 t) (block W c 2 t) (block W c 3 t)
  Φ _ := Pipeline.ΦA spec0 c
  q _ := fullShare
  owed _ := 0

theorem A_eq (c : Dev nD) (w : Fin cfg0.W) : (dat W c).A w = W c (Proc.devRef .tc (Pipeline.arrRef spec0 w)) := by dsimp only [dat]

theorem after_0 (c : Dev nD) (t : Fin cfg0.N) : (dat W c).after 0 t = block W c 0 t := by dsimp only [dat]
theorem after_1 (c : Dev nD) (t : Fin cfg0.N) : (dat W c).after 1 t = block W c 1 t := by dsimp only [dat]
theorem after_2 (c : Dev nD) (t : Fin cfg0.N) : (dat W c).after 2 t = block W c 2 t := by dsimp only [dat]
theorem after_3 (c : Dev nD) (t : Fin cfg0.N) : (dat W c).after 3 t = block W c 3 t := by dsimp only [dat]
theorem after_4 (c : Dev nD) (t : Fin cfg0.N) : (dat W c).after 4 t = attnOut (block W c 0 t) (block W c 1 t) (block W c 2 t) (block W c 3 t) := by dsimp only [dat]

theorem before_0 (c : Dev nD) (t : Fin cfg0.N) (d) : (dat W c).before 0 t d = block W c 0 t :=
  ((dat W c).before_in_eq_fetched 0 rfl (fun _ => rfl) (fun _ _ _ => rfl) (fun t => by rw [after_0]; unfold Dat.blockOf block; rw [A_eq]; try rfl) t d).trans
    (by unfold Dat.fetched Dat.blockOf block; rw [A_eq]; try rfl)
theorem before_1 (c : Dev nD) (t : Fin cfg0.N) (d) : (dat W c).before 1 t d = block W c 1 t :=
  ((dat W c).before_in_eq_fetched 1 rfl (fun _ => rfl) (fun _ _ _ => rfl) (fun t => by rw [after_1]; unfold Dat.blockOf block; rw [A_eq]; try rfl) t d).trans
    (by unfold Dat.fetched Dat.blockOf block; rw [A_eq]; try rfl)
theorem before_2 (c : Dev nD) (t : Fin cfg0.N) (d) : (dat W c).before 2 t d = block W c 2 t :=
  ((dat W c).before_in_eq_fetched 2 rfl (fun _ => rfl) (fun _ _ _ => rfl) (fun t => by rw [after_2]; unfold Dat.blockOf block; rw [A_eq]; try rfl) t d).trans
    (by unfold Dat.fetched Dat.blockOf block; rw [A_eq]; try rfl)
theorem before_3 (c : Dev nD) (t : Fin cfg0.N) (d) : (dat W c).before 3 t d = block W c 3 t :=
  ((dat W c).before_in_eq_fetched 3 rfl (fun _ => rfl) (fun _ _ _ => rfl) (fun t => by rw [after_3]; unfold Dat.blockOf block; rw [A_eq]; try rfl) t d).trans
    (by unfold Dat.fetched Dat.blockOf block; rw [A_eq]; try rfl)

/-- What the body is entered with. -/
def entry (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- What the body leaves. -/
def left (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t))

/-- The two scratch buffers. -/
abbrev scrK : Memref sig .tc .vmem S2x4096x64 .bf16 := Memref.whole cc0_scratch0
abbrev scrV : Memref sig .tc .vmem S2x4096x64 .bf16 := Memref.whole cc0_scratch1

/-- The invariant, with the scratch buffers as memrefs. -/
theorem inv_eq (c : Dev nD) :
    (Pipeline.ΦA spec0 c : sProp 𝕄)
      = iprop(iprop((∃ d, owns (c : Thread nD τ) scrK fullShare d) ∗ (∃ d, owns (c : Thread nD τ) scrV fullShare d)) ∗ (∃ r, prngReg c r)) := by
  unfold Pipeline.ΦA; rw [scopedRest0_eq]; simp only [scrK, scrV, owns_whole]; try rfl

/-- Every word of the table is below 64. -/
def TableOk : Prop := ∀ (c : Dev nD) (t : Fin cfg0.N) (i : S1x2x8x64.Idx), (block W c 0 t i : BitVec 32).toNat < 64

/-- What a load of a window of the table reads is below 64. -/
theorem inTable_of {arg1 : Memref sig .tc .smem S1x2x8x64 .i32} (h : arg1.IsWhole) (x : Vec F S1x2x8x64 .i32) (hx : ∀ i, (x i : BitVec 32).toNat < 64) :
    InTable (F := F) arg1 (h.unread x) := by
  intro r j
  rw [Memref.IsWhole.readAt_unread h x]
  exact hx _

set_option maxHeartbeats 3200000 in
/-- The body at every point. -/
theorem body_at (hT : TableOk W) (c : Dev nD) (t : Fin cfg0.N) :
    entry W c t ⊢ wp frame (wpE (defs₀ (F := F)) Variants.none c none) Set.univ (bodyAt0 t) (fun _ => left W c t) := by
  unfold entry left bodyAt0
  simp only [before_0, before_1, before_2, before_3]
  rw [show (dat W c).Φ t.succ = (dat W c).Φ t.castSucc from rfl,
    show (dat W c).owesAt () t.succ = (dat W c).owesAt () t.castSucc from rfl,
    after_0, after_1, after_2, after_3, after_4]
  rw [show (dat W c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scrK (Memref.isWhole_whole _) scrV (Memref.isWhole_whole _) (block W c 0 t) (block W c 1 t) (block W c 2 t) (block W c 3 t) (inTable_of _ _ (hT c t))).2.2.2)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [bodyRun_stores]
  exact read_stores _ _ _ _ _ _

/-- The body's row in the table of bodies. -/
theorem body_row (t : Fin cfg0.N) : defs₀ (F := F) .tc cfg0.body (cfg0.bodyArgs t (cfg0.slots t)) = bodyAt0 t := by
  unfold defs₀; rw [Defs.onTc_tc]

/-- The library's obligation for the body. -/
theorem obligation (hT : TableOk W) (c : Dev nD) : BodyObligation (dat (F := F) W c) (defs₀ (F := F)) Variants.none () Set.univ := fun t => by
  rw [bigSep_W0, bigSep_W0, body_row]
  exact triple_restated (body_at W hT c t) rfl .rfl fun _ => .rfl

end Cert.Attn.Call

end
-- ==== Proof.CallFrame.lean ====
module

public import proofs.«01_k».proof.Proof.CallData
public import Idealize.ShloMosaic.Lib.Pipeline.Frame
public import Idealize.ShloMosaic.Lib.Tactic

@[expose] public section

/-! The attention call by itself, at any reading of the floats: with every table entry below 64 it runs and leaves its
arguments. -/

set_option maxRecDepth 16384

noncomputable section

namespace Cert.Attn.Call

open Idealize.ShloMosaic Idealize.ShloMosaic.TcCoe Idealize.ShloMosaic.Tactic
open Idealize.SL Idealize.SL.RA Idealize.SL.BI
open Idealize.SL.Sem
open Idealize.ShloMosaic.Pipeline (Dat)
open Cert.Attn Cert.Attn.Gen

variable {F : FTy → Type} [FloatOps F]

variable (m : (ℓ : Loc nD τ sig) → Buf (Elt F) ℓ) (ρ : Dev nD → PrngReg)

/-- The buffers at the start. -/
abbrev start (c : Dev nD) : Valuation τ sig (Elt F) := fun b => m (c, b)

/-- The one call's proof data. -/
def dats (p : Fin 1) (c : Dev nD) : Dat τ (Elt F) Unit ℕ (UR sig nD τ) ℕ (cfgs p) c :=
  match p with
  | ⟨0, _⟩ => dat (start m) c

/-- What the call finds in a buffer. -/
abbrev found (c : Dev nD) (b : Ref sig .tc) : Buf (Elt F) ((c : Thread nD τ).loc b) := m ((c : Thread nD τ).loc b)

theorem dats_A (c : Dev nD) (w : Fin cfg0.W) : (dats m 0 c).A w = found m c (Pipeline.arrRef spec0 w) := A_eq (start m) c w

set_option backward.isDefEq.respectTransparency.types false in
set_option maxHeartbeats 800000 in
/-- The call run from any memory whose table names blocks that exist. -/
theorem call_run (hT : TableOk (start m)) : θ_run defs (onTc (τ := τ) (main (F := F))) ⟨m, fun _ => 0, ρ⟩
    (fun r => Pipeline.FramePost cfgs (dats m) 0 (found m) r ∧ r.2.sem = fun _ => 0) :=
  Pipeline.θ_run_frame (Q' := _) cfgs (dats m) (0 : Fin 1) launch0 defs₀ Variants.none m ρ main
    (hbody := fun c => (obligation (start m) hT c).loose) (hshare := fun c => (dat (start m) c).share_full fun _ => rfl)
    (howed := fun _ _ => rfl) (V := found m)
    (hmain := Pipeline.hmain_region cfgs 0 defs₀ Variants.none m main fun c => (main_chain c).trans rfl)
    (hA := dats_A m) (hΦ := fun _ _ => rfl)

/-- It leaves its arguments and every counter at zero. -/
theorem call_frame (hT : TableOk (start m)) : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run _ _ _).mono (fun r h => ⟨fun c => ?_, h.2⟩) (call_run m ρ hT)
  have at_ := fun (w : Fin cfg0.W) (hw : (cfg0.win w).isOut = false) =>
    ((h.1 c).1 w).trans (((dats m 0 c).arrAt_in w hw _).trans (dats_A m c w))
  exact ⟨at_ 0 rfl, at_ 1 rfl, at_ 2 rfl, at_ 3 rfl⟩

/-- Every window of the table is below 64 when the whole table is. -/
theorem tableOk_of (h : ∀ (c : Dev nD) (i : S2x16x8x64.Idx), (m ((c : Thread nD τ).loc main_arg0) i : BitVec 32).toNat < 64) :
    TableOk (start m) := by
  intro c t i
  unfold block
  exact h c _

end Cert.Attn.Call

end
-- ==== Proof.CallClaim.lean ====
module

public import proofs.«01_k».proof.Defs
public import proofs.«01_k».proof.Proof.CallFrame
public import proofs.«01_k».proof.Proof.Gen.AttnIdeal
public import proofs.«01_k».proof.Proof.Gen.Pre_in_range
public import Idealize.ShloMosaic.Lib.ReduceAll
public import Idealize.ShloMosaic.Lib.Pipeline.Regions

@[expose] public section

/-! The attention call's claims: its frame at the bit patterns and at the exact values, where the table names blocks that
exist. -/

set_option maxRecDepth 16384

noncomputable section

namespace Cert.Pre_in_range

open Idealize.ShloMosaic Cert.Pre_in_range.Gen

theorem below_of {w : BitVec 32} (h : IntOp.andi (IntOp.cmpi .sge w 0#32) (IntOp.cmpi .slt w 64#32) = 1#1) : w.toNat < 64 := by
  have g : ∀ p q : Bool, IntOp.andi (BitVec.ofBool p) (BitVec.ofBool q) = 1#1 → p = true ∧ q = true := by decide
  obtain ⟨h0, h1⟩ := g _ _ h
  have e0 : (0#32 : BitVec 32).toInt = 0 := by decide
  have e1 : (64#32 : BitVec 32).toInt = 64 := by decide
  simp only [decide_eq_true_eq, BitVec.sle, BitVec.slt, e0, e1] at h0 h1
  rw [BitVec.toInt_eq_toNat_cond] at h0 h1
  have := w.isLt
  split at h0 <;> omega

/-- The precondition: every entry of the table is below 64. -/
theorem below {F : FTy → Type} [FloatOps F] {t : IVec S2x16x8x64 32} {q k v : FVec F S2x4096x1024 .f32}
    (h : fn (F := F) t q k v = fun _ => 1#1) (i : S2x16x8x64.Idx) : (t i).toNat < 64 := by
  have e := congrFun h (fun a => a.elim0)
  unfold fn at e
  have hs : Subsingleton S_.Idx := ⟨fun _ _ => funext fun a => a.elim0⟩
  exact below_of (Host.reduce_andi_all _ _ _ _ _ e i)

end Cert.Pre_in_range

namespace Cert.Attn.Call

open Idealize.ShloMosaic Idealize.ShloMosaic.TcCoe Idealize.SL.Sem Cert.Attn

/-- The call's frame at the bit patterns. -/
theorem frame_bits : Cert.quiescent_Attn (hAttn := Cert.Attn.Gen.facts) (hPre_in_range := Cert.Pre_in_range.Gen.facts) :=
  fun m g h => call_frame m g (tableOk_of m fun c i => Cert.Pre_in_range.below (h c) i)

/-- The call's frame at the exact values, of the text printed for the bit patterns. -/
def ExactFrame : Prop :=
  ∀ (m : (ℓ : Loc nD τ sig) → Buf (Elt Ideal) ℓ) (g : Dev nD → PrngReg),
    (∀ c : Dev nD, (Cert.Pre_in_range.fn (F := Ideal) (m ((c.tc : Thread nD τ).loc main_arg0))
      (m ((c.tc : Thread nD τ).loc main_arg1)) (m ((c.tc : Thread nD τ).loc main_arg2)) (m ((c.tc : Thread nD τ).loc main_arg3))) = fun _ => 1#1) →
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem exactFrame : ExactFrame :=
  fun m g h => call_frame m g (tableOk_of m fun c i => Cert.Pre_in_range.below (h c) i)

/-- The two printed texts are the same program. -/
theorem same_text : ExactFrame = Cert.quiescent_AttnIdeal (hAttnIdeal := Cert.AttnIdeal.Gen.facts)
    (hPre_in_range := Cert.Pre_in_range.Gen.facts) := by
  chain_rfl

/-- The call's frame at the exact values. -/
theorem frame_ideal : Cert.quiescent_AttnIdeal (hAttnIdeal := Cert.AttnIdeal.Gen.facts) (hPre_in_range := Cert.Pre_in_range.Gen.facts) :=
  same_text ▸ exactFrame

end Cert.Attn.Call

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Lut
public import proofs.«01_k».proof.Proof.Gen.Lut.Skeleton
public import proofs.«01_k».proof.Proof.Gen.Lut.Launch
public import proofs.«01_k».proof.Proof.Gen.Lut.Points
public import proofs.«01_k».proof.Proof.Gen.Lut.Frame
public import proofs.«01_k».proof.Proof.Gen.LutIdeal
public import proofs.«01_k».proof.Proof.Gen.LutIdeal.Skeleton
public import proofs.«01_k».proof.Proof.Gen.LutIdeal.Launch
public import proofs.«01_k».proof.Proof.Gen.LutIdeal.Points
public import proofs.«01_k».proof.Proof.Gen.LutIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.Pre_in_range
public import proofs.«01_k».proof.Proof.Gen.Pre_finite
public import Idealize.ShloMosaic.Lib.Claim
public import Idealize.ShloMosaic.Lib.Tactic
public import Idealize.ShloMosaic.Lib.Quiescent
public import proofs.«01_k».proof.Proof.Equation
public import proofs.«01_k».proof.Proof.CallClaim
public import Idealize.ShloMosaic.Adequacy
public import Idealize.ShloMosaic.Init

@[expose] public section

noncomputable section

namespace Cert.Proof

open Idealize.ShloMosaic Idealize.SL.Sem Cert.KernelIdeal

/-- The whole kernel runs at the exact values and leaves its arguments. -/
theorem frame_pi : Cert.quiescent_KernelIdeal (hKernelIdeal := Cert.KernelIdeal.Gen.facts) :=
  fun m g _ => (θ_run _ _ _).mono (fun _ h => ⟨fun c => (h.1 c).1, h.2⟩) (Cert.KernelIdeal.Whole.run_ideal m g)

/-- The same under the precondition of the value claim. -/
theorem frame_pi_finite : Cert.quiescent_KernelIdeal_pre_finite (hKernelIdeal := Cert.KernelIdeal.Gen.facts)
    (hPre_finite := Cert.Pre_finite.Gen.facts) :=
  fun m g _ => (θ_run _ _ _).mono (fun _ h => ⟨fun c => (h.1 c).1, h.2⟩) (Cert.KernelIdeal.Whole.run_ideal m g)

/-- The reference runs at the exact values and leaves its arguments. -/
theorem frame_ri : Cert.quiescent_ReferenceIdeal (hReferenceIdeal := Cert.ReferenceIdeal.Gen.facts) :=
  fun m ρ _ => (θ_run _ _ _).mono
    (fun r h => ⟨fun c => (h c).2, sem_eq_zero_of_no_sems rfl r.2⟩) (Cert.ReferenceIdeal.Value.run m ρ)

/-- The same under the precondition of the value claim. -/
theorem frame_ri_finite : Cert.quiescent_ReferenceIdeal_pre_finite (hReferenceIdeal := Cert.ReferenceIdeal.Gen.facts)
    (hPre_finite := Cert.Pre_finite.Gen.facts) :=
  fun m ρ _ => (θ_run _ _ _).mono
    (fun r h => ⟨fun c => (h c).2, sem_eq_zero_of_no_sems rfl r.2⟩) (Cert.ReferenceIdeal.Value.run m ρ)

/-- Every claim. -/
theorem claim : Cert.Claim := ⟨Cert.KernelIdeal.Gen.facts, Cert.ReferenceIdeal.Gen.facts, Cert.Lut.Gen.facts, Cert.LutIdeal.Gen.facts,
  Cert.Attn.Gen.facts, Cert.AttnIdeal.Gen.facts, Cert.Pre_finite.Gen.facts, Cert.Pre_in_range.Gen.facts, frame_pi, frame_pi_finite, frame_ri, frame_ri_finite, fun m ρ _ => Cert.Lut.Gen.frame m ρ,
  fun m ρ _ => Cert.LutIdeal.Gen.frame m ρ, Cert.Attn.Call.frame_bits, Cert.Attn.Call.frame_ideal, Cert.Equation.algebraic, trivial, trivial⟩

end Cert.Proof

end
